-- ==== Defs.lean ====
def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterRefIdeal (m : (ℓ : Loc Cert.RouterRefIdeal.nD Cert.RouterRefIdeal.τ Cert.RouterRefIdeal.sig) → Buf (Elt Ideal) ℓ) : Prop :=
  True

def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_RmsNorm (m : (ℓ : Loc Cert.RmsNorm.nD Cert.RmsNorm.τ Cert.RmsNorm.sig) → Buf (Elt Bits) ℓ) : Prop :=
  True

def Pre_RmsNormIdeal (m : (ℓ : Loc Cert.RmsNormIdeal.nD Cert.RmsNormIdeal.τ Cert.RmsNormIdeal.sig) → Buf (Elt Ideal) ℓ) : Prop :=
  True

def Pre_RmsNormRefIdeal (m : (ℓ : Loc Cert.RmsNormRefIdeal.nD Cert.RmsNormRefIdeal.τ Cert.RmsNormRefIdeal.sig) → Buf (Elt Ideal) ℓ) : Prop :=
  True

def Pre_GatedNorm (m : (ℓ : Loc Cert.GatedNorm.nD Cert.GatedNorm.τ Cert.GatedNorm.sig) → Buf (Elt Bits) ℓ) : Prop :=
  True

def Pre_GatedNormIdeal (m : (ℓ : Loc Cert.GatedNormIdeal.nD Cert.GatedNormIdeal.τ Cert.GatedNormIdeal.sig) → Buf (Elt Ideal) ℓ) : Prop :=
  True

def Pre_GatedNormRefIdeal (m : (ℓ : Loc Cert.GatedNormRefIdeal.nD Cert.GatedNormRefIdeal.τ Cert.GatedNormRefIdeal.sig) → Buf (Elt Ideal) ℓ) : Prop :=
  True

def Pre_ConvPrompt (m : (ℓ : Loc Cert.ConvPrompt.nD Cert.ConvPrompt.τ Cert.ConvPrompt.sig) → Buf (Elt Bits) ℓ) : Prop :=
  True

def Pre_ConvPromptIdeal (m : (ℓ : Loc Cert.ConvPromptIdeal.nD Cert.ConvPromptIdeal.τ Cert.ConvPromptIdeal.sig) → Buf (Elt Ideal) ℓ) : Prop :=
  True

def Pre_ConvPromptRefIdeal (m : (ℓ : Loc Cert.ConvPromptRefIdeal.nD Cert.ConvPromptRefIdeal.τ Cert.ConvPromptRefIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleRefIdeal (m : (ℓ : Loc Cert.ConvSampleRefIdeal.nD Cert.ConvSampleRefIdeal.τ Cert.ConvSampleRefIdeal.sig) → Buf (Elt Ideal) ℓ) : Prop :=
  True

def Pre_CmpBias (m : (ℓ : Loc Cert.CmpBias.nD Cert.CmpBias.τ Cert.CmpBias.sig) → Buf (Elt Bits) ℓ) : Prop :=
  True

def Pre_CmpBiasIdeal (m : (ℓ : Loc Cert.CmpBiasIdeal.nD Cert.CmpBiasIdeal.τ Cert.CmpBiasIdeal.sig) → Buf (Elt Ideal) ℓ) : Prop :=
  True

def Pre_CmpBiasRefIdeal (m : (ℓ : Loc Cert.CmpBiasRefIdeal.nD Cert.CmpBiasRefIdeal.τ Cert.CmpBiasRefIdeal.sig) → Buf (Elt Ideal) ℓ) : Prop :=
  True

def Pre_WinOut (m : (ℓ : Loc Cert.WinOut.nD Cert.WinOut.τ Cert.WinOut.sig) → Buf (Elt Bits) ℓ) : Prop :=
  True

def Pre_WinOutIdeal (m : (ℓ : Loc Cert.WinOutIdeal.nD Cert.WinOutIdeal.τ Cert.WinOutIdeal.sig) → Buf (Elt Ideal) ℓ) : Prop :=
  True

def Pre_WinOutRefIdeal (m : (ℓ : Loc Cert.WinOutRefIdeal.nD Cert.WinOutRefIdeal.τ Cert.WinOutRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepIdeal_finite_steps [hPre_finite_steps : Cert.Pre_finite_steps.Facts] (m : (ℓ : Loc Cert.StepIdeal.nD Cert.StepIdeal.τ Cert.StepIdeal.sig) → Buf (Elt Ideal) ℓ) : Prop :=
  ∀ c : Dev Cert.StepIdeal.nD,
    (Cert.Pre_finite_steps.fn (F := Ideal) (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)) (m ((c.tc : Thread Cert.StepIdeal.nD Cert.StepIdeal.τ).loc Cert.StepIdeal.main_arg6))) = (fun _ => 1#1)

def Pre_StepRefIdeal (m : (ℓ : Loc Cert.StepRefIdeal.nD Cert.StepRefIdeal.τ Cert.StepRefIdeal.sig) → Buf (Elt Ideal) ℓ) : Prop :=
  True

def Pre_StepRefIdeal_finite_steps [hPre_finite_steps : Cert.Pre_finite_steps.Facts] (m : (ℓ : Loc Cert.StepRefIdeal.nD Cert.StepRefIdeal.τ Cert.StepRefIdeal.sig) → Buf (Elt Ideal) ℓ) : Prop :=
  ∀ c : Dev Cert.StepRefIdeal.nD,
    (Cert.Pre_finite_steps.fn (F := Ideal) (m ((c.tc : Thread Cert.StepRefIdeal.nD Cert.StepRefIdeal.τ).loc Cert.StepRefIdeal.main_arg0)) (m ((c.tc : Thread Cert.StepRefIdeal.nD Cert.StepRefIdeal.τ).loc Cert.StepRefIdeal.main_arg1)) (m ((c.tc : Thread Cert.StepRefIdeal.nD Cert.StepRefIdeal.τ).loc Cert.StepRefIdeal.main_arg2)) (m ((c.tc : Thread Cert.StepRefIdeal.nD Cert.StepRefIdeal.τ).loc Cert.StepRefIdeal.main_arg3)) (m ((c.tc : Thread Cert.StepRefIdeal.nD Cert.StepRefIdeal.τ).loc Cert.StepRefIdeal.main_arg4)) (m ((c.tc : Thread Cert.StepRefIdeal.nD Cert.StepRefIdeal.τ).loc Cert.StepRefIdeal.main_arg5)) (m ((c.tc : Thread Cert.StepRefIdeal.nD Cert.StepRefIdeal.τ).loc Cert.StepRefIdeal.main_arg6))) = (fun _ => 1#1)

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite_decays [hPre_finite_decays : Cert.Pre_finite_decays.Facts] (m : (ℓ : Loc Cert.ScanIdeal.nD Cert.ScanIdeal.τ Cert.ScanIdeal.sig) → Buf (Elt Ideal) ℓ) : Prop :=
  ∀ c : Dev Cert.ScanIdeal.nD,
    (Cert.Pre_finite_decays.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_finite_decays [hPre_finite_decays : Cert.Pre_finite_decays.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_finite_decays.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4))) = (fun _ => 1#1)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4))
      ∧ r.2.sem = fun _ => 0)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_RmsNorm [hRmsNorm : Cert.RmsNorm.Facts] : Prop :=
  ∀ (m : (ℓ : Loc Cert.RmsNorm.nD Cert.RmsNorm.τ Cert.RmsNorm.sig) → Buf (Elt Bits) ℓ) (g : Dev Cert.RmsNorm.nD → PrngReg), Pre_RmsNorm m →
    θ_run (Cert.RmsNorm.defs (F := Bits)) (onTc (τ := Cert.RmsNorm.τ) (Cert.RmsNorm.main (F := Bits))) ⟨m, fun _ => 0, g⟩ (fun r => (∀ c : Dev Cert.RmsNorm.nD,
      r.2.mem ((c.tc : Thread Cert.RmsNorm.nD Cert.RmsNorm.τ).loc Cert.RmsNorm.main_arg0) = m ((c.tc : Thread Cert.RmsNorm.nD Cert.RmsNorm.τ).loc Cert.RmsNorm.main_arg0)
      ∧ r.2.mem ((c.tc : Thread Cert.RmsNorm.nD Cert.RmsNorm.τ).loc Cert.RmsNorm.main_arg1) = m ((c.tc : Thread Cert.RmsNorm.nD Cert.RmsNorm.τ).loc Cert.RmsNorm.main_arg1))
      ∧ r.2.sem = fun _ => 0)

def quiescent_RmsNormIdeal [hRmsNormIdeal : Cert.RmsNormIdeal.Facts] : Prop :=
  ∀ (m : (ℓ : Loc Cert.RmsNormIdeal.nD Cert.RmsNormIdeal.τ Cert.RmsNormIdeal.sig) → Buf (Elt Ideal) ℓ) (g : Dev Cert.RmsNormIdeal.nD → PrngReg), Pre_RmsNormIdeal m →
    θ_run (Cert.RmsNormIdeal.defs (F := Ideal)) (onTc (τ := Cert.RmsNormIdeal.τ) (Cert.RmsNormIdeal.main (F := Ideal))) ⟨m, fun _ => 0, g⟩ (fun r => (∀ c : Dev Cert.RmsNormIdeal.nD,
      r.2.mem ((c.tc : Thread Cert.RmsNormIdeal.nD Cert.RmsNormIdeal.τ).loc Cert.RmsNormIdeal.main_arg0) = m ((c.tc : Thread Cert.RmsNormIdeal.nD Cert.RmsNormIdeal.τ).loc Cert.RmsNormIdeal.main_arg0)
      ∧ r.2.mem ((c.tc : Thread Cert.RmsNormIdeal.nD Cert.RmsNormIdeal.τ).loc Cert.RmsNormIdeal.main_arg1) = m ((c.tc : Thread Cert.RmsNormIdeal.nD Cert.RmsNormIdeal.τ).loc Cert.RmsNormIdeal.main_arg1))
      ∧ r.2.sem = fun _ => 0)

def quiescent_RmsNormRefIdeal [hRmsNormRefIdeal : Cert.RmsNormRefIdeal.Facts] : Prop :=
  ∀ (m : (ℓ : Loc Cert.RmsNormRefIdeal.nD Cert.RmsNormRefIdeal.τ Cert.RmsNormRefIdeal.sig) → Buf (Elt Ideal) ℓ) (g : Dev Cert.RmsNormRefIdeal.nD → PrngReg), Pre_RmsNormRefIdeal m →
    θ_run (Cert.RmsNormRefIdeal.defs (F := Ideal)) (onTc (τ := Cert.RmsNormRefIdeal.τ) (Cert.RmsNormRefIdeal.main (F := Ideal))) ⟨m, fun _ => 0, g⟩ (fun r => (∀ c : Dev Cert.RmsNormRefIdeal.nD,
      r.2.mem ((c.tc : Thread Cert.RmsNormRefIdeal.nD Cert.RmsNormRefIdeal.τ).loc Cert.RmsNormRefIdeal.main_arg0) = m ((c.tc : Thread Cert.RmsNormRefIdeal.nD Cert.RmsNormRefIdeal.τ).loc Cert.RmsNormRefIdeal.main_arg0)
      ∧ r.2.mem ((c.tc : Thread Cert.RmsNormRefIdeal.nD Cert.RmsNormRefIdeal.τ).loc Cert.RmsNormRefIdeal.main_arg1) = m ((c.tc : Thread Cert.RmsNormRefIdeal.nD Cert.RmsNormRefIdeal.τ).loc Cert.RmsNormRefIdeal.main_arg1))
      ∧ r.2.sem = fun _ => 0)

def quiescent_GatedNorm [hGatedNorm : Cert.GatedNorm.Facts] : Prop :=
  ∀ (m : (ℓ : Loc Cert.GatedNorm.nD Cert.GatedNorm.τ Cert.GatedNorm.sig) → Buf (Elt Bits) ℓ) (g : Dev Cert.GatedNorm.nD → PrngReg), Pre_GatedNorm m →
    θ_run (Cert.GatedNorm.defs (F := Bits)) (onTc (τ := Cert.GatedNorm.τ) (Cert.GatedNorm.main (F := Bits))) ⟨m, fun _ => 0, g⟩ (fun r => (∀ c : Dev Cert.GatedNorm.nD,
      r.2.mem ((c.tc : Thread Cert.GatedNorm.nD Cert.GatedNorm.τ).loc Cert.GatedNorm.main_arg0) = m ((c.tc : Thread Cert.GatedNorm.nD Cert.GatedNorm.τ).loc Cert.GatedNorm.main_arg0)
      ∧ r.2.mem ((c.tc : Thread Cert.GatedNorm.nD Cert.GatedNorm.τ).loc Cert.GatedNorm.main_arg1) = m ((c.tc : Thread Cert.GatedNorm.nD Cert.GatedNorm.τ).loc Cert.GatedNorm.main_arg1)
      ∧ r.2.mem ((c.tc : Thread Cert.GatedNorm.nD Cert.GatedNorm.τ).loc Cert.GatedNorm.main_arg2) = m ((c.tc : Thread Cert.GatedNorm.nD Cert.GatedNorm.τ).loc Cert.GatedNorm.main_arg2)
      ∧ r.2.mem ((c.tc : Thread Cert.GatedNorm.nD Cert.GatedNorm.τ).loc Cert.GatedNorm.main_arg3) = m ((c.tc : Thread Cert.GatedNorm.nD Cert.GatedNorm.τ).loc Cert.GatedNorm.main_arg3))
      ∧ r.2.sem = fun _ => 0)

def quiescent_GatedNormIdeal [hGatedNormIdeal : Cert.GatedNormIdeal.Facts] : Prop :=
  ∀ (m : (ℓ : Loc Cert.GatedNormIdeal.nD Cert.GatedNormIdeal.τ Cert.GatedNormIdeal.sig) → Buf (Elt Ideal) ℓ) (g : Dev Cert.GatedNormIdeal.nD → PrngReg), Pre_GatedNormIdeal m →
    θ_run (Cert.GatedNormIdeal.defs (F := Ideal)) (onTc (τ := Cert.GatedNormIdeal.τ) (Cert.GatedNormIdeal.main (F := Ideal))) ⟨m, fun _ => 0, g⟩ (fun r => (∀ c : Dev Cert.GatedNormIdeal.nD,
      r.2.mem ((c.tc : Thread Cert.GatedNormIdeal.nD Cert.GatedNormIdeal.τ).loc Cert.GatedNormIdeal.main_arg0) = m ((c.tc : Thread Cert.GatedNormIdeal.nD Cert.GatedNormIdeal.τ).loc Cert.GatedNormIdeal.main_arg0)
      ∧ r.2.mem ((c.tc : Thread Cert.GatedNormIdeal.nD Cert.GatedNormIdeal.τ).loc Cert.GatedNormIdeal.main_arg1) = m ((c.tc : Thread Cert.GatedNormIdeal.nD Cert.GatedNormIdeal.τ).loc Cert.GatedNormIdeal.main_arg1)
      ∧ r.2.mem ((c.tc : Thread Cert.GatedNormIdeal.nD Cert.GatedNormIdeal.τ).loc Cert.GatedNormIdeal.main_arg2) = m ((c.tc : Thread Cert.GatedNormIdeal.nD Cert.GatedNormIdeal.τ).loc Cert.GatedNormIdeal.main_arg2)
      ∧ r.2.mem ((c.tc : Thread Cert.GatedNormIdeal.nD Cert.GatedNormIdeal.τ).loc Cert.GatedNormIdeal.main_arg3) = m ((c.tc : Thread Cert.GatedNormIdeal.nD Cert.GatedNormIdeal.τ).loc Cert.GatedNormIdeal.main_arg3))
      ∧ r.2.sem = fun _ => 0)

def quiescent_GatedNormRefIdeal [hGatedNormRefIdeal : Cert.GatedNormRefIdeal.Facts] : Prop :=
  ∀ (m : (ℓ : Loc Cert.GatedNormRefIdeal.nD Cert.GatedNormRefIdeal.τ Cert.GatedNormRefIdeal.sig) → Buf (Elt Ideal) ℓ) (g : Dev Cert.GatedNormRefIdeal.nD → PrngReg), Pre_GatedNormRefIdeal m →
    θ_run (Cert.GatedNormRefIdeal.defs (F := Ideal)) (onTc (τ := Cert.GatedNormRefIdeal.τ) (Cert.GatedNormRefIdeal.main (F := Ideal))) ⟨m, fun _ => 0, g⟩ (fun r => (∀ c : Dev Cert.GatedNormRefIdeal.nD,
      r.2.mem ((c.tc : Thread Cert.GatedNormRefIdeal.nD Cert.GatedNormRefIdeal.τ).loc Cert.GatedNormRefIdeal.main_arg0) = m ((c.tc : Thread Cert.GatedNormRefIdeal.nD Cert.GatedNormRefIdeal.τ).loc Cert.GatedNormRefIdeal.main_arg0)
      ∧ r.2.mem ((c.tc : Thread Cert.GatedNormRefIdeal.nD Cert.GatedNormRefIdeal.τ).loc Cert.GatedNormRefIdeal.main_arg1) = m ((c.tc : Thread Cert.GatedNormRefIdeal.nD Cert.GatedNormRefIdeal.τ).loc Cert.GatedNormRefIdeal.main_arg1)
      ∧ r.2.mem ((c.tc : Thread Cert.GatedNormRefIdeal.nD Cert.GatedNormRefIdeal.τ).loc Cert.GatedNormRefIdeal.main_arg2) = m ((c.tc : Thread Cert.GatedNormRefIdeal.nD Cert.GatedNormRefIdeal.τ).loc Cert.GatedNormRefIdeal.main_arg2)
      ∧ r.2.mem ((c.tc : Thread Cert.GatedNormRefIdeal.nD Cert.GatedNormRefIdeal.τ).loc Cert.GatedNormRefIdeal.main_arg3) = m ((c.tc : Thread Cert.GatedNormRefIdeal.nD Cert.GatedNormRefIdeal.τ).loc Cert.GatedNormRefIdeal.main_arg3))
      ∧ r.2.sem = fun _ => 0)

def quiescent_ConvPrompt [hConvPrompt : Cert.ConvPrompt.Facts] : Prop :=
  ∀ (m : (ℓ : Loc Cert.ConvPrompt.nD Cert.ConvPrompt.τ Cert.ConvPrompt.sig) → Buf (Elt Bits) ℓ) (g : Dev Cert.ConvPrompt.nD → PrngReg), Pre_ConvPrompt m →
    θ_run (Cert.ConvPrompt.defs (F := Bits)) (onTc (τ := Cert.ConvPrompt.τ) (Cert.ConvPrompt.main (F := Bits))) ⟨m, fun _ => 0, g⟩ (fun r => (∀ c : Dev Cert.ConvPrompt.nD,
      r.2.mem ((c.tc : Thread Cert.ConvPrompt.nD Cert.ConvPrompt.τ).loc Cert.ConvPrompt.main_arg0) = m ((c.tc : Thread Cert.ConvPrompt.nD Cert.ConvPrompt.τ).loc Cert.ConvPrompt.main_arg0)
      ∧ r.2.mem ((c.tc : Thread Cert.ConvPrompt.nD Cert.ConvPrompt.τ).loc Cert.ConvPrompt.main_arg1) = m ((c.tc : Thread Cert.ConvPrompt.nD Cert.ConvPrompt.τ).loc Cert.ConvPrompt.main_arg1)
      ∧ r.2.mem ((c.tc : Thread Cert.ConvPrompt.nD Cert.ConvPrompt.τ).loc Cert.ConvPrompt.main_arg2) = m ((c.tc : Thread Cert.ConvPrompt.nD Cert.ConvPrompt.τ).loc Cert.ConvPrompt.main_arg2))
      ∧ r.2.sem = fun _ => 0)

def quiescent_ConvPromptIdeal [hConvPromptIdeal : Cert.ConvPromptIdeal.Facts] : Prop :=
  ∀ (m : (ℓ : Loc Cert.ConvPromptIdeal.nD Cert.ConvPromptIdeal.τ Cert.ConvPromptIdeal.sig) → Buf (Elt Ideal) ℓ) (g : Dev Cert.ConvPromptIdeal.nD → PrngReg), Pre_ConvPromptIdeal m →
    θ_run (Cert.ConvPromptIdeal.defs (F := Ideal)) (onTc (τ := Cert.ConvPromptIdeal.τ) (Cert.ConvPromptIdeal.main (F := Ideal))) ⟨m, fun _ => 0, g⟩ (fun r => (∀ c : Dev Cert.ConvPromptIdeal.nD,
      r.2.mem ((c.tc : Thread Cert.ConvPromptIdeal.nD Cert.ConvPromptIdeal.τ).loc Cert.ConvPromptIdeal.main_arg0) = m ((c.tc : Thread Cert.ConvPromptIdeal.nD Cert.ConvPromptIdeal.τ).loc Cert.ConvPromptIdeal.main_arg0)
      ∧ r.2.mem ((c.tc : Thread Cert.ConvPromptIdeal.nD Cert.ConvPromptIdeal.τ).loc Cert.ConvPromptIdeal.main_arg1) = m ((c.tc : Thread Cert.ConvPromptIdeal.nD Cert.ConvPromptIdeal.τ).loc Cert.ConvPromptIdeal.main_arg1)
      ∧ r.2.mem ((c.tc : Thread Cert.ConvPromptIdeal.nD Cert.ConvPromptIdeal.τ).loc Cert.ConvPromptIdeal.main_arg2) = m ((c.tc : Thread Cert.ConvPromptIdeal.nD Cert.ConvPromptIdeal.τ).loc Cert.ConvPromptIdeal.main_arg2))
      ∧ r.2.sem = fun _ => 0)

def quiescent_ConvPromptRefIdeal [hConvPromptRefIdeal : Cert.ConvPromptRefIdeal.Facts] : Prop :=
  ∀ (m : (ℓ : Loc Cert.ConvPromptRefIdeal.nD Cert.ConvPromptRefIdeal.τ Cert.ConvPromptRefIdeal.sig) → Buf (Elt Ideal) ℓ) (g : Dev Cert.ConvPromptRefIdeal.nD → PrngReg), Pre_ConvPromptRefIdeal m →
    θ_run (Cert.ConvPromptRefIdeal.defs (F := Ideal)) (onTc (τ := Cert.ConvPromptRefIdeal.τ) (Cert.ConvPromptRefIdeal.main (F := Ideal))) ⟨m, fun _ => 0, g⟩ (fun r => (∀ c : Dev Cert.ConvPromptRefIdeal.nD,
      r.2.mem ((c.tc : Thread Cert.ConvPromptRefIdeal.nD Cert.ConvPromptRefIdeal.τ).loc Cert.ConvPromptRefIdeal.main_arg0) = m ((c.tc : Thread Cert.ConvPromptRefIdeal.nD Cert.ConvPromptRefIdeal.τ).loc Cert.ConvPromptRefIdeal.main_arg0)
      ∧ r.2.mem ((c.tc : Thread Cert.ConvPromptRefIdeal.nD Cert.ConvPromptRefIdeal.τ).loc Cert.ConvPromptRefIdeal.main_arg1) = m ((c.tc : Thread Cert.ConvPromptRefIdeal.nD Cert.ConvPromptRefIdeal.τ).loc Cert.ConvPromptRefIdeal.main_arg1)
      ∧ r.2.mem ((c.tc : Thread Cert.ConvPromptRefIdeal.nD Cert.ConvPromptRefIdeal.τ).loc Cert.ConvPromptRefIdeal.main_arg2) = m ((c.tc : Thread Cert.ConvPromptRefIdeal.nD Cert.ConvPromptRefIdeal.τ).loc Cert.ConvPromptRefIdeal.main_arg2))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2)
      ∧ r.2.mem ((c.tc : Thread Cert.ConvSample.nD Cert.ConvSample.τ).loc Cert.ConvSample.main_arg3) = m ((c.tc : Thread Cert.ConvSample.nD Cert.ConvSample.τ).loc Cert.ConvSample.main_arg3))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
      ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3))
      ∧ r.2.sem = fun _ => 0)

def quiescent_ConvSampleRefIdeal [hConvSampleRefIdeal : Cert.ConvSampleRefIdeal.Facts] : Prop :=
  ∀ (m : (ℓ : Loc Cert.ConvSampleRefIdeal.nD Cert.ConvSampleRefIdeal.τ Cert.ConvSampleRefIdeal.sig) → Buf (Elt Ideal) ℓ) (g : Dev Cert.ConvSampleRefIdeal.nD → PrngReg), Pre_ConvSampleRefIdeal m →
    θ_run (Cert.ConvSampleRefIdeal.defs (F := Ideal)) (onTc (τ := Cert.ConvSampleRefIdeal.τ) (Cert.ConvSampleRefIdeal.main (F := Ideal))) ⟨m, fun _ => 0, g⟩ (fun r => (∀ c : Dev Cert.ConvSampleRefIdeal.nD,
      r.2.mem ((c.tc : Thread Cert.ConvSampleRefIdeal.nD Cert.ConvSampleRefIdeal.τ).loc Cert.ConvSampleRefIdeal.main_arg0) = m ((c.tc : Thread Cert.ConvSampleRefIdeal.nD Cert.ConvSampleRefIdeal.τ).loc Cert.ConvSampleRefIdeal.main_arg0)
      ∧ r.2.mem ((c.tc : Thread Cert.ConvSampleRefIdeal.nD Cert.ConvSampleRefIdeal.τ).loc Cert.ConvSampleRefIdeal.main_arg1) = m ((c.tc : Thread Cert.ConvSampleRefIdeal.nD Cert.ConvSampleRefIdeal.τ).loc Cert.ConvSampleRefIdeal.main_arg1)
      ∧ r.2.mem ((c.tc : Thread Cert.ConvSampleRefIdeal.nD Cert.ConvSampleRefIdeal.τ).loc Cert.ConvSampleRefIdeal.main_arg2) = m ((c.tc : Thread Cert.ConvSampleRefIdeal.nD Cert.ConvSampleRefIdeal.τ).loc Cert.ConvSampleRefIdeal.main_arg2)
      ∧ r.2.mem ((c.tc : Thread Cert.ConvSampleRefIdeal.nD Cert.ConvSampleRefIdeal.τ).loc Cert.ConvSampleRefIdeal.main_arg3) = m ((c.tc : Thread Cert.ConvSampleRefIdeal.nD Cert.ConvSampleRefIdeal.τ).loc Cert.ConvSampleRefIdeal.main_arg3))
      ∧ r.2.sem = fun _ => 0)

def quiescent_CmpBias [hCmpBias : Cert.CmpBias.Facts] : Prop :=
  ∀ (m : (ℓ : Loc Cert.CmpBias.nD Cert.CmpBias.τ Cert.CmpBias.sig) → Buf (Elt Bits) ℓ) (g : Dev Cert.CmpBias.nD → PrngReg), Pre_CmpBias m →
    θ_run (Cert.CmpBias.defs (F := Bits)) (onTc (τ := Cert.CmpBias.τ) (Cert.CmpBias.main (F := Bits))) ⟨m, fun _ => 0, g⟩ (fun r => (∀ c : Dev Cert.CmpBias.nD,
      r.2.mem ((c.tc : Thread Cert.CmpBias.nD Cert.CmpBias.τ).loc Cert.CmpBias.main_arg0) = m ((c.tc : Thread Cert.CmpBias.nD Cert.CmpBias.τ).loc Cert.CmpBias.main_arg0)
      ∧ r.2.mem ((c.tc : Thread Cert.CmpBias.nD Cert.CmpBias.τ).loc Cert.CmpBias.main_arg1) = m ((c.tc : Thread Cert.CmpBias.nD Cert.CmpBias.τ).loc Cert.CmpBias.main_arg1)
      ∧ r.2.mem ((c.tc : Thread Cert.CmpBias.nD Cert.CmpBias.τ).loc Cert.CmpBias.main_arg2) = m ((c.tc : Thread Cert.CmpBias.nD Cert.CmpBias.τ).loc Cert.CmpBias.main_arg2))
      ∧ r.2.sem = fun _ => 0)

def quiescent_CmpBiasIdeal [hCmpBiasIdeal : Cert.CmpBiasIdeal.Facts] : Prop :=
  ∀ (m : (ℓ : Loc Cert.CmpBiasIdeal.nD Cert.CmpBiasIdeal.τ Cert.CmpBiasIdeal.sig) → Buf (Elt Ideal) ℓ) (g : Dev Cert.CmpBiasIdeal.nD → PrngReg), Pre_CmpBiasIdeal m →
    θ_run (Cert.CmpBiasIdeal.defs (F := Ideal)) (onTc (τ := Cert.CmpBiasIdeal.τ) (Cert.CmpBiasIdeal.main (F := Ideal))) ⟨m, fun _ => 0, g⟩ (fun r => (∀ c : Dev Cert.CmpBiasIdeal.nD,
      r.2.mem ((c.tc : Thread Cert.CmpBiasIdeal.nD Cert.CmpBiasIdeal.τ).loc Cert.CmpBiasIdeal.main_arg0) = m ((c.tc : Thread Cert.CmpBiasIdeal.nD Cert.CmpBiasIdeal.τ).loc Cert.CmpBiasIdeal.main_arg0)
      ∧ r.2.mem ((c.tc : Thread Cert.CmpBiasIdeal.nD Cert.CmpBiasIdeal.τ).loc Cert.CmpBiasIdeal.main_arg1) = m ((c.tc : Thread Cert.CmpBiasIdeal.nD Cert.CmpBiasIdeal.τ).loc Cert.CmpBiasIdeal.main_arg1)
      ∧ r.2.mem ((c.tc : Thread Cert.CmpBiasIdeal.nD Cert.CmpBiasIdeal.τ).loc Cert.CmpBiasIdeal.main_arg2) = m ((c.tc : Thread Cert.CmpBiasIdeal.nD Cert.CmpBiasIdeal.τ).loc Cert.CmpBiasIdeal.main_arg2))
      ∧ r.2.sem = fun _ => 0)

def quiescent_CmpBiasRefIdeal [hCmpBiasRefIdeal : Cert.CmpBiasRefIdeal.Facts] : Prop :=
  ∀ (m : (ℓ : Loc Cert.CmpBiasRefIdeal.nD Cert.CmpBiasRefIdeal.τ Cert.CmpBiasRefIdeal.sig) → Buf (Elt Ideal) ℓ) (g : Dev Cert.CmpBiasRefIdeal.nD → PrngReg), Pre_CmpBiasRefIdeal m →
    θ_run (Cert.CmpBiasRefIdeal.defs (F := Ideal)) (onTc (τ := Cert.CmpBiasRefIdeal.τ) (Cert.CmpBiasRefIdeal.main (F := Ideal))) ⟨m, fun _ => 0, g⟩ (fun r => (∀ c : Dev Cert.CmpBiasRefIdeal.nD,
      r.2.mem ((c.tc : Thread Cert.CmpBiasRefIdeal.nD Cert.CmpBiasRefIdeal.τ).loc Cert.CmpBiasRefIdeal.main_arg0) = m ((c.tc : Thread Cert.CmpBiasRefIdeal.nD Cert.CmpBiasRefIdeal.τ).loc Cert.CmpBiasRefIdeal.main_arg0)
      ∧ r.2.mem ((c.tc : Thread Cert.CmpBiasRefIdeal.nD Cert.CmpBiasRefIdeal.τ).loc Cert.CmpBiasRefIdeal.main_arg1) = m ((c.tc : Thread Cert.CmpBiasRefIdeal.nD Cert.CmpBiasRefIdeal.τ).loc Cert.CmpBiasRefIdeal.main_arg1)
      ∧ r.2.mem ((c.tc : Thread Cert.CmpBiasRefIdeal.nD Cert.CmpBiasRefIdeal.τ).loc Cert.CmpBiasRefIdeal.main_arg2) = m ((c.tc : Thread Cert.CmpBiasRefIdeal.nD Cert.CmpBiasRefIdeal.τ).loc Cert.CmpBiasRefIdeal.main_arg2))
      ∧ r.2.sem = fun _ => 0)

def quiescent_WinOut [hWinOut : Cert.WinOut.Facts] : Prop :=
  ∀ (m : (ℓ : Loc Cert.WinOut.nD Cert.WinOut.τ Cert.WinOut.sig) → Buf (Elt Bits) ℓ) (g : Dev Cert.WinOut.nD → PrngReg), Pre_WinOut m →
    θ_run (Cert.WinOut.defs (F := Bits)) (onTc (τ := Cert.WinOut.τ) (Cert.WinOut.main (F := Bits))) ⟨m, fun _ => 0, g⟩ (fun r => (∀ c : Dev Cert.WinOut.nD,
      r.2.mem ((c.tc : Thread Cert.WinOut.nD Cert.WinOut.τ).loc Cert.WinOut.main_arg0) = m ((c.tc : Thread Cert.WinOut.nD Cert.WinOut.τ).loc Cert.WinOut.main_arg0)
      ∧ r.2.mem ((c.tc : Thread Cert.WinOut.nD Cert.WinOut.τ).loc Cert.WinOut.main_arg1) = m ((c.tc : Thread Cert.WinOut.nD Cert.WinOut.τ).loc Cert.WinOut.main_arg1))
      ∧ r.2.sem = fun _ => 0)

def quiescent_WinOutIdeal [hWinOutIdeal : Cert.WinOutIdeal.Facts] : Prop :=
  ∀ (m : (ℓ : Loc Cert.WinOutIdeal.nD Cert.WinOutIdeal.τ Cert.WinOutIdeal.sig) → Buf (Elt Ideal) ℓ) (g : Dev Cert.WinOutIdeal.nD → PrngReg), Pre_WinOutIdeal m →
    θ_run (Cert.WinOutIdeal.defs (F := Ideal)) (onTc (τ := Cert.WinOutIdeal.τ) (Cert.WinOutIdeal.main (F := Ideal))) ⟨m, fun _ => 0, g⟩ (fun r => (∀ c : Dev Cert.WinOutIdeal.nD,
      r.2.mem ((c.tc : Thread Cert.WinOutIdeal.nD Cert.WinOutIdeal.τ).loc Cert.WinOutIdeal.main_arg0) = m ((c.tc : Thread Cert.WinOutIdeal.nD Cert.WinOutIdeal.τ).loc Cert.WinOutIdeal.main_arg0)
      ∧ r.2.mem ((c.tc : Thread Cert.WinOutIdeal.nD Cert.WinOutIdeal.τ).loc Cert.WinOutIdeal.main_arg1) = m ((c.tc : Thread Cert.WinOutIdeal.nD Cert.WinOutIdeal.τ).loc Cert.WinOutIdeal.main_arg1))
      ∧ r.2.sem = fun _ => 0)

def quiescent_WinOutRefIdeal [hWinOutRefIdeal : Cert.WinOutRefIdeal.Facts] : Prop :=
  ∀ (m : (ℓ : Loc Cert.WinOutRefIdeal.nD Cert.WinOutRefIdeal.τ Cert.WinOutRefIdeal.sig) → Buf (Elt Ideal) ℓ) (g : Dev Cert.WinOutRefIdeal.nD → PrngReg), Pre_WinOutRefIdeal m →
    θ_run (Cert.WinOutRefIdeal.defs (F := Ideal)) (onTc (τ := Cert.WinOutRefIdeal.τ) (Cert.WinOutRefIdeal.main (F := Ideal))) ⟨m, fun _ => 0, g⟩ (fun r => (∀ c : Dev Cert.WinOutRefIdeal.nD,
      r.2.mem ((c.tc : Thread Cert.WinOutRefIdeal.nD Cert.WinOutRefIdeal.τ).loc Cert.WinOutRefIdeal.main_arg0) = m ((c.tc : Thread Cert.WinOutRefIdeal.nD Cert.WinOutRefIdeal.τ).loc Cert.WinOutRefIdeal.main_arg0)
      ∧ r.2.mem ((c.tc : Thread Cert.WinOutRefIdeal.nD Cert.WinOutRefIdeal.τ).loc Cert.WinOutRefIdeal.main_arg1) = m ((c.tc : Thread Cert.WinOutRefIdeal.nD Cert.WinOutRefIdeal.τ).loc Cert.WinOutRefIdeal.main_arg1))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ r.2.sem = fun _ => 0)

def quiescent_StepIdeal_pre_finite_steps [hStepIdeal : Cert.StepIdeal.Facts] [hPre_finite_steps : Cert.Pre_finite_steps.Facts] : Prop :=
  ∀ (m : (ℓ : Loc Cert.StepIdeal.nD Cert.StepIdeal.τ Cert.StepIdeal.sig) → Buf (Elt Ideal) ℓ) (g : Dev Cert.StepIdeal.nD → PrngReg), Pre_StepIdeal_finite_steps m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6))
      ∧ r.2.sem = fun _ => 0)

def quiescent_StepRefIdeal_pre_finite_steps [hStepRefIdeal : Cert.StepRefIdeal.Facts] [hPre_finite_steps : Cert.Pre_finite_steps.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal_finite_steps m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3)
      ∧ r.2.mem ((c.tc : Thread Cert.StepRefIdeal.nD Cert.StepRefIdeal.τ).loc Cert.StepRefIdeal.main_arg4) = m ((c.tc : Thread Cert.StepRefIdeal.nD Cert.StepRefIdeal.τ).loc Cert.StepRefIdeal.main_arg4)
      ∧ r.2.mem ((c.tc : Thread Cert.StepRefIdeal.nD Cert.StepRefIdeal.τ).loc Cert.StepRefIdeal.main_arg5) = m ((c.tc : Thread Cert.StepRefIdeal.nD Cert.StepRefIdeal.τ).loc Cert.StepRefIdeal.main_arg5)
      ∧ r.2.mem ((c.tc : Thread Cert.StepRefIdeal.nD Cert.StepRefIdeal.τ).loc Cert.StepRefIdeal.main_arg6) = m ((c.tc : Thread Cert.StepRefIdeal.nD Cert.StepRefIdeal.τ).loc Cert.StepRefIdeal.main_arg6))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ r.2.sem = fun _ => 0)

def quiescent_ScanIdeal_pre_finite_decays [hScanIdeal : Cert.ScanIdeal.Facts] [hPre_finite_decays : Cert.Pre_finite_decays.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite_decays m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4))
      ∧ r.2.sem = fun _ => 0)

def quiescent_ScanRefIdeal_pre_finite_decays [hScanRefIdeal : Cert.ScanRefIdeal.Facts] [hPre_finite_decays : Cert.Pre_finite_decays.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_finite_decays m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4))
      ∧ r.2.sem = fun _ => 0)

def preserves_Router_RouterIdeal : Prop :=
  IdealRules.named_const.Statement Cert.RouterIdeal.κ "mask" .f32 0xF149F2CA#32 ⊥

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v10) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v14)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v11) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)) →
    ∃ (v0 : (c : Dev Cert.SsdOutIdeal.nD) → Buf (Elt Ideal) ((c.tc : Thread Cert.SsdOutIdeal.nD Cert.SsdOutIdeal.τ).loc Cert.SsdOutIdeal.main_v2)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v2) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v0) = v0 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v16) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_RmsNorm_RmsNormIdeal : Prop :=
  True

def algebraic_RmsNormIdeal_RmsNormRefIdeal [hRmsNormIdeal : Cert.RmsNormIdeal.Facts] [hRmsNormRefIdeal : Cert.RmsNormRefIdeal.Facts] : Prop :=
  ∀ (m : (ℓ : Loc Cert.RmsNormIdeal.nD Cert.RmsNormIdeal.τ Cert.RmsNormIdeal.sig) → Buf (Elt Ideal) ℓ) (g : Dev Cert.RmsNormIdeal.nD → PrngReg)
    (m' : (ℓ : Loc Cert.RmsNormRefIdeal.nD Cert.RmsNormRefIdeal.τ Cert.RmsNormRefIdeal.sig) → Buf (Elt Ideal) ℓ) (g' : Dev Cert.RmsNormRefIdeal.nD → PrngReg), Pre_RmsNormIdeal m →
    (∀ c : Dev Cert.RmsNormIdeal.nD,
      m' ((c.tc : Thread Cert.RmsNormRefIdeal.nD Cert.RmsNormRefIdeal.τ).loc Cert.RmsNormRefIdeal.main_arg0) = m ((c.tc : Thread Cert.RmsNormIdeal.nD Cert.RmsNormIdeal.τ).loc Cert.RmsNormIdeal.main_arg0)
      ∧ m' ((c.tc : Thread Cert.RmsNormRefIdeal.nD Cert.RmsNormRefIdeal.τ).loc Cert.RmsNormRefIdeal.main_arg1) = m ((c.tc : Thread Cert.RmsNormIdeal.nD Cert.RmsNormIdeal.τ).loc Cert.RmsNormIdeal.main_arg1)) →
    ∃ (v0 : (c : Dev Cert.RmsNormIdeal.nD) → Buf (Elt Ideal) ((c.tc : Thread Cert.RmsNormIdeal.nD Cert.RmsNormIdeal.τ).loc Cert.RmsNormIdeal.main_v1)),
      θ_run (Cert.RmsNormIdeal.defs (F := Ideal)) (onTc (τ := Cert.RmsNormIdeal.τ) (Cert.RmsNormIdeal.main (F := Ideal))) ⟨m, fun _ => 0, g⟩ (fun r => ∀ c : Dev Cert.RmsNormIdeal.nD,
          r.2.mem ((c.tc : Thread Cert.RmsNormIdeal.nD Cert.RmsNormIdeal.τ).loc Cert.RmsNormIdeal.main_v1) = v0 c
          ∧ r.2.mem ((c.tc : Thread Cert.RmsNormIdeal.nD Cert.RmsNormIdeal.τ).loc Cert.RmsNormIdeal.main_arg0) = m ((c.tc : Thread Cert.RmsNormIdeal.nD Cert.RmsNormIdeal.τ).loc Cert.RmsNormIdeal.main_arg0)
          ∧ r.2.mem ((c.tc : Thread Cert.RmsNormIdeal.nD Cert.RmsNormIdeal.τ).loc Cert.RmsNormIdeal.main_arg1) = m ((c.tc : Thread Cert.RmsNormIdeal.nD Cert.RmsNormIdeal.τ).loc Cert.RmsNormIdeal.main_arg1))
      ∧ θ_run (Cert.RmsNormRefIdeal.defs (F := Ideal)) (onTc (τ := Cert.RmsNormRefIdeal.τ) (Cert.RmsNormRefIdeal.main (F := Ideal))) ⟨m', fun _ => 0, g'⟩ (fun r => ∀ c : Dev Cert.RmsNormRefIdeal.nD,
          r.2.mem ((c.tc : Thread Cert.RmsNormRefIdeal.nD Cert.RmsNormRefIdeal.τ).loc Cert.RmsNormRefIdeal.main_v12) = v0 c
          ∧ r.2.mem ((c.tc : Thread Cert.RmsNormRefIdeal.nD Cert.RmsNormRefIdeal.τ).loc Cert.RmsNormRefIdeal.main_arg0) = m' ((c.tc : Thread Cert.RmsNormRefIdeal.nD Cert.RmsNormRefIdeal.τ).loc Cert.RmsNormRefIdeal.main_arg0)
          ∧ r.2.mem ((c.tc : Thread Cert.RmsNormRefIdeal.nD Cert.RmsNormRefIdeal.τ).loc Cert.RmsNormRefIdeal.main_arg1) = m' ((c.tc : Thread Cert.RmsNormRefIdeal.nD Cert.RmsNormRefIdeal.τ).loc Cert.RmsNormRefIdeal.main_arg1))

def preserves_GatedNorm_GatedNormIdeal : Prop :=
  True

def algebraic_GatedNormIdeal_GatedNormRefIdeal [hGatedNormIdeal : Cert.GatedNormIdeal.Facts] [hGatedNormRefIdeal : Cert.GatedNormRefIdeal.Facts] : Prop :=
  ∀ (m : (ℓ : Loc Cert.GatedNormIdeal.nD Cert.GatedNormIdeal.τ Cert.GatedNormIdeal.sig) → Buf (Elt Ideal) ℓ) (g : Dev Cert.GatedNormIdeal.nD → PrngReg)
    (m' : (ℓ : Loc Cert.GatedNormRefIdeal.nD Cert.GatedNormRefIdeal.τ Cert.GatedNormRefIdeal.sig) → Buf (Elt Ideal) ℓ) (g' : Dev Cert.GatedNormRefIdeal.nD → PrngReg), Pre_GatedNormIdeal m →
    (∀ c : Dev Cert.GatedNormIdeal.nD,
      m' ((c.tc : Thread Cert.GatedNormRefIdeal.nD Cert.GatedNormRefIdeal.τ).loc Cert.GatedNormRefIdeal.main_arg0) = m ((c.tc : Thread Cert.GatedNormIdeal.nD Cert.GatedNormIdeal.τ).loc Cert.GatedNormIdeal.main_arg0)
      ∧ m' ((c.tc : Thread Cert.GatedNormRefIdeal.nD Cert.GatedNormRefIdeal.τ).loc Cert.GatedNormRefIdeal.main_arg1) = m ((c.tc : Thread Cert.GatedNormIdeal.nD Cert.GatedNormIdeal.τ).loc Cert.GatedNormIdeal.main_arg1)
      ∧ m' ((c.tc : Thread Cert.GatedNormRefIdeal.nD Cert.GatedNormRefIdeal.τ).loc Cert.GatedNormRefIdeal.main_arg2) = m ((c.tc : Thread Cert.GatedNormIdeal.nD Cert.GatedNormIdeal.τ).loc Cert.GatedNormIdeal.main_arg2)
      ∧ m' ((c.tc : Thread Cert.GatedNormRefIdeal.nD Cert.GatedNormRefIdeal.τ).loc Cert.GatedNormRefIdeal.main_arg3) = m ((c.tc : Thread Cert.GatedNormIdeal.nD Cert.GatedNormIdeal.τ).loc Cert.GatedNormIdeal.main_arg3)) →
    ∃ (v0 : (c : Dev Cert.GatedNormIdeal.nD) → Buf (Elt Ideal) ((c.tc : Thread Cert.GatedNormIdeal.nD Cert.GatedNormIdeal.τ).loc Cert.GatedNormIdeal.main_v1)),
      θ_run (Cert.GatedNormIdeal.defs (F := Ideal)) (onTc (τ := Cert.GatedNormIdeal.τ) (Cert.GatedNormIdeal.main (F := Ideal))) ⟨m, fun _ => 0, g⟩ (fun r => ∀ c : Dev Cert.GatedNormIdeal.nD,
          r.2.mem ((c.tc : Thread Cert.GatedNormIdeal.nD Cert.GatedNormIdeal.τ).loc Cert.GatedNormIdeal.main_v1) = v0 c
          ∧ r.2.mem ((c.tc : Thread Cert.GatedNormIdeal.nD Cert.GatedNormIdeal.τ).loc Cert.GatedNormIdeal.main_arg0) = m ((c.tc : Thread Cert.GatedNormIdeal.nD Cert.GatedNormIdeal.τ).loc Cert.GatedNormIdeal.main_arg0)
          ∧ r.2.mem ((c.tc : Thread Cert.GatedNormIdeal.nD Cert.GatedNormIdeal.τ).loc Cert.GatedNormIdeal.main_arg1) = m ((c.tc : Thread Cert.GatedNormIdeal.nD Cert.GatedNormIdeal.τ).loc Cert.GatedNormIdeal.main_arg1)
          ∧ r.2.mem ((c.tc : Thread Cert.GatedNormIdeal.nD Cert.GatedNormIdeal.τ).loc Cert.GatedNormIdeal.main_arg2) = m ((c.tc : Thread Cert.GatedNormIdeal.nD Cert.GatedNormIdeal.τ).loc Cert.GatedNormIdeal.main_arg2)
          ∧ r.2.mem ((c.tc : Thread Cert.GatedNormIdeal.nD Cert.GatedNormIdeal.τ).loc Cert.GatedNormIdeal.main_arg3) = m ((c.tc : Thread Cert.GatedNormIdeal.nD Cert.GatedNormIdeal.τ).loc Cert.GatedNormIdeal.main_arg3))
      ∧ θ_run (Cert.GatedNormRefIdeal.defs (F := Ideal)) (onTc (τ := Cert.GatedNormRefIdeal.τ) (Cert.GatedNormRefIdeal.main (F := Ideal))) ⟨m', fun _ => 0, g'⟩ (fun r => ∀ c : Dev Cert.GatedNormRefIdeal.nD,
          r.2.mem ((c.tc : Thread Cert.GatedNormRefIdeal.nD Cert.GatedNormRefIdeal.τ).loc Cert.GatedNormRefIdeal.main_v17) = v0 c
          ∧ r.2.mem ((c.tc : Thread Cert.GatedNormRefIdeal.nD Cert.GatedNormRefIdeal.τ).loc Cert.GatedNormRefIdeal.main_arg0) = m' ((c.tc : Thread Cert.GatedNormRefIdeal.nD Cert.GatedNormRefIdeal.τ).loc Cert.GatedNormRefIdeal.main_arg0)
          ∧ r.2.mem ((c.tc : Thread Cert.GatedNormRefIdeal.nD Cert.GatedNormRefIdeal.τ).loc Cert.GatedNormRefIdeal.main_arg1) = m' ((c.tc : Thread Cert.GatedNormRefIdeal.nD Cert.GatedNormRefIdeal.τ).loc Cert.GatedNormRefIdeal.main_arg1)
          ∧ r.2.mem ((c.tc : Thread Cert.GatedNormRefIdeal.nD Cert.GatedNormRefIdeal.τ).loc Cert.GatedNormRefIdeal.main_arg2) = m' ((c.tc : Thread Cert.GatedNormRefIdeal.nD Cert.GatedNormRefIdeal.τ).loc Cert.GatedNormRefIdeal.main_arg2)
          ∧ r.2.mem ((c.tc : Thread Cert.GatedNormRefIdeal.nD Cert.GatedNormRefIdeal.τ).loc Cert.GatedNormRefIdeal.main_arg3) = m' ((c.tc : Thread Cert.GatedNormRefIdeal.nD Cert.GatedNormRefIdeal.τ).loc Cert.GatedNormRefIdeal.main_arg3))

def preserves_ConvPrompt_ConvPromptIdeal : Prop :=
  True

def algebraic_ConvPromptIdeal_ConvPromptRefIdeal [hConvPromptIdeal : Cert.ConvPromptIdeal.Facts] [hConvPromptRefIdeal : Cert.ConvPromptRefIdeal.Facts] : Prop :=
  ∀ (m : (ℓ : Loc Cert.ConvPromptIdeal.nD Cert.ConvPromptIdeal.τ Cert.ConvPromptIdeal.sig) → Buf (Elt Ideal) ℓ) (g : Dev Cert.ConvPromptIdeal.nD → PrngReg)
    (m' : (ℓ : Loc Cert.ConvPromptRefIdeal.nD Cert.ConvPromptRefIdeal.τ Cert.ConvPromptRefIdeal.sig) → Buf (Elt Ideal) ℓ) (g' : Dev Cert.ConvPromptRefIdeal.nD → PrngReg), Pre_ConvPromptIdeal m →
    (∀ c : Dev Cert.ConvPromptIdeal.nD,
      m' ((c.tc : Thread Cert.ConvPromptRefIdeal.nD Cert.ConvPromptRefIdeal.τ).loc Cert.ConvPromptRefIdeal.main_arg0) = m ((c.tc : Thread Cert.ConvPromptIdeal.nD Cert.ConvPromptIdeal.τ).loc Cert.ConvPromptIdeal.main_arg0)
      ∧ m' ((c.tc : Thread Cert.ConvPromptRefIdeal.nD Cert.ConvPromptRefIdeal.τ).loc Cert.ConvPromptRefIdeal.main_arg1) = m ((c.tc : Thread Cert.ConvPromptIdeal.nD Cert.ConvPromptIdeal.τ).loc Cert.ConvPromptIdeal.main_arg1)
      ∧ m' ((c.tc : Thread Cert.ConvPromptRefIdeal.nD Cert.ConvPromptRefIdeal.τ).loc Cert.ConvPromptRefIdeal.main_arg2) = m ((c.tc : Thread Cert.ConvPromptIdeal.nD Cert.ConvPromptIdeal.τ).loc Cert.ConvPromptIdeal.main_arg2)) →
    ∃ (v0 : (c : Dev Cert.ConvPromptIdeal.nD) → Buf (Elt Ideal) ((c.tc : Thread Cert.ConvPromptIdeal.nD Cert.ConvPromptIdeal.τ).loc Cert.ConvPromptIdeal.main_v1)),
      θ_run (Cert.ConvPromptIdeal.defs (F := Ideal)) (onTc (τ := Cert.ConvPromptIdeal.τ) (Cert.ConvPromptIdeal.main (F := Ideal))) ⟨m, fun _ => 0, g⟩ (fun r => ∀ c : Dev Cert.ConvPromptIdeal.nD,
          r.2.mem ((c.tc : Thread Cert.ConvPromptIdeal.nD Cert.ConvPromptIdeal.τ).loc Cert.ConvPromptIdeal.main_v1) = v0 c
          ∧ r.2.mem ((c.tc : Thread Cert.ConvPromptIdeal.nD Cert.ConvPromptIdeal.τ).loc Cert.ConvPromptIdeal.main_arg0) = m ((c.tc : Thread Cert.ConvPromptIdeal.nD Cert.ConvPromptIdeal.τ).loc Cert.ConvPromptIdeal.main_arg0)
          ∧ r.2.mem ((c.tc : Thread Cert.ConvPromptIdeal.nD Cert.ConvPromptIdeal.τ).loc Cert.ConvPromptIdeal.main_arg1) = m ((c.tc : Thread Cert.ConvPromptIdeal.nD Cert.ConvPromptIdeal.τ).loc Cert.ConvPromptIdeal.main_arg1)
          ∧ r.2.mem ((c.tc : Thread Cert.ConvPromptIdeal.nD Cert.ConvPromptIdeal.τ).loc Cert.ConvPromptIdeal.main_arg2) = m ((c.tc : Thread Cert.ConvPromptIdeal.nD Cert.ConvPromptIdeal.τ).loc Cert.ConvPromptIdeal.main_arg2))
      ∧ θ_run (Cert.ConvPromptRefIdeal.defs (F := Ideal)) (onTc (τ := Cert.ConvPromptRefIdeal.τ) (Cert.ConvPromptRefIdeal.main (F := Ideal))) ⟨m', fun _ => 0, g'⟩ (fun r => ∀ c : Dev Cert.ConvPromptRefIdeal.nD,
          r.2.mem ((c.tc : Thread Cert.ConvPromptRefIdeal.nD Cert.ConvPromptRefIdeal.τ).loc Cert.ConvPromptRefIdeal.main_v35) = v0 c
          ∧ r.2.mem ((c.tc : Thread Cert.ConvPromptRefIdeal.nD Cert.ConvPromptRefIdeal.τ).loc Cert.ConvPromptRefIdeal.main_arg0) = m' ((c.tc : Thread Cert.ConvPromptRefIdeal.nD Cert.ConvPromptRefIdeal.τ).loc Cert.ConvPromptRefIdeal.main_arg0)
          ∧ r.2.mem ((c.tc : Thread Cert.ConvPromptRefIdeal.nD Cert.ConvPromptRefIdeal.τ).loc Cert.ConvPromptRefIdeal.main_arg1) = m' ((c.tc : Thread Cert.ConvPromptRefIdeal.nD Cert.ConvPromptRefIdeal.τ).loc Cert.ConvPromptRefIdeal.main_arg1)
          ∧ r.2.mem ((c.tc : Thread Cert.ConvPromptRefIdeal.nD Cert.ConvPromptRefIdeal.τ).loc Cert.ConvPromptRefIdeal.main_arg2) = m' ((c.tc : Thread Cert.ConvPromptRefIdeal.nD Cert.ConvPromptRefIdeal.τ).loc Cert.ConvPromptRefIdeal.main_arg2))

def preserves_ConvSample_ConvSampleIdeal : Prop :=
  True

def algebraic_ConvSampleIdeal_ConvSampleRefIdeal [hConvSampleIdeal : Cert.ConvSampleIdeal.Facts] [hConvSampleRefIdeal : Cert.ConvSampleRefIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleRefIdeal.nD Cert.ConvSampleRefIdeal.τ Cert.ConvSampleRefIdeal.sig) → Buf (Elt Ideal) ℓ) (g' : Dev Cert.ConvSampleRefIdeal.nD → PrngReg), Pre_ConvSampleIdeal m →
    (∀ c : Dev Cert.ConvSampleIdeal.nD,
      m' ((c.tc : Thread Cert.ConvSampleRefIdeal.nD Cert.ConvSampleRefIdeal.τ).loc Cert.ConvSampleRefIdeal.main_arg0) = m ((c.tc : Thread Cert.ConvSampleIdeal.nD Cert.ConvSampleIdeal.τ).loc Cert.ConvSampleIdeal.main_arg0)
      ∧ m' ((c.tc : Thread Cert.ConvSampleRefIdeal.nD Cert.ConvSampleRefIdeal.τ).loc Cert.ConvSampleRefIdeal.main_arg1) = m ((c.tc : Thread Cert.ConvSampleIdeal.nD Cert.ConvSampleIdeal.τ).loc Cert.ConvSampleIdeal.main_arg1)
      ∧ m' ((c.tc : Thread Cert.ConvSampleRefIdeal.nD Cert.ConvSampleRefIdeal.τ).loc Cert.ConvSampleRefIdeal.main_arg2) = m ((c.tc : Thread Cert.ConvSampleIdeal.nD Cert.ConvSampleIdeal.τ).loc Cert.ConvSampleIdeal.main_arg2)
      ∧ m' ((c.tc : Thread Cert.ConvSampleRefIdeal.nD Cert.ConvSampleRefIdeal.τ).loc Cert.ConvSampleRefIdeal.main_arg3) = m ((c.tc : Thread Cert.ConvSampleIdeal.nD Cert.ConvSampleIdeal.τ).loc Cert.ConvSampleIdeal.main_arg3)) →
    ∃ (v0 : (c : Dev Cert.ConvSampleIdeal.nD) → Buf (Elt Ideal) ((c.tc : Thread Cert.ConvSampleIdeal.nD Cert.ConvSampleIdeal.τ).loc Cert.ConvSampleIdeal.main_v2)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v2) = v0 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
          ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3))
      ∧ θ_run (Cert.ConvSampleRefIdeal.defs (F := Ideal)) (onTc (τ := Cert.ConvSampleRefIdeal.τ) (Cert.ConvSampleRefIdeal.main (F := Ideal))) ⟨m', fun _ => 0, g'⟩ (fun r => ∀ c : Dev Cert.ConvSampleRefIdeal.nD,
          r.2.mem ((c.tc : Thread Cert.ConvSampleRefIdeal.nD Cert.ConvSampleRefIdeal.τ).loc Cert.ConvSampleRefIdeal.main_v35) = v0 c
          ∧ r.2.mem ((c.tc : Thread Cert.ConvSampleRefIdeal.nD Cert.ConvSampleRefIdeal.τ).loc Cert.ConvSampleRefIdeal.main_arg0) = m' ((c.tc : Thread Cert.ConvSampleRefIdeal.nD Cert.ConvSampleRefIdeal.τ).loc Cert.ConvSampleRefIdeal.main_arg0)
          ∧ r.2.mem ((c.tc : Thread Cert.ConvSampleRefIdeal.nD Cert.ConvSampleRefIdeal.τ).loc Cert.ConvSampleRefIdeal.main_arg1) = m' ((c.tc : Thread Cert.ConvSampleRefIdeal.nD Cert.ConvSampleRefIdeal.τ).loc Cert.ConvSampleRefIdeal.main_arg1)
          ∧ r.2.mem ((c.tc : Thread Cert.ConvSampleRefIdeal.nD Cert.ConvSampleRefIdeal.τ).loc Cert.ConvSampleRefIdeal.main_arg2) = m' ((c.tc : Thread Cert.ConvSampleRefIdeal.nD Cert.ConvSampleRefIdeal.τ).loc Cert.ConvSampleRefIdeal.main_arg2)
          ∧ r.2.mem ((c.tc : Thread Cert.ConvSampleRefIdeal.nD Cert.ConvSampleRefIdeal.τ).loc Cert.ConvSampleRefIdeal.main_arg3) = m' ((c.tc : Thread Cert.ConvSampleRefIdeal.nD Cert.ConvSampleRefIdeal.τ).loc Cert.ConvSampleRefIdeal.main_arg3))

def preserves_CmpBias_CmpBiasIdeal : Prop :=
  True

def algebraic_CmpBiasIdeal_CmpBiasRefIdeal [hCmpBiasIdeal : Cert.CmpBiasIdeal.Facts] [hCmpBiasRefIdeal : Cert.CmpBiasRefIdeal.Facts] : Prop :=
  ∀ (m : (ℓ : Loc Cert.CmpBiasIdeal.nD Cert.CmpBiasIdeal.τ Cert.CmpBiasIdeal.sig) → Buf (Elt Ideal) ℓ) (g : Dev Cert.CmpBiasIdeal.nD → PrngReg)
    (m' : (ℓ : Loc Cert.CmpBiasRefIdeal.nD Cert.CmpBiasRefIdeal.τ Cert.CmpBiasRefIdeal.sig) → Buf (Elt Ideal) ℓ) (g' : Dev Cert.CmpBiasRefIdeal.nD → PrngReg), Pre_CmpBiasIdeal m →
    (∀ c : Dev Cert.CmpBiasIdeal.nD,
      m' ((c.tc : Thread Cert.CmpBiasRefIdeal.nD Cert.CmpBiasRefIdeal.τ).loc Cert.CmpBiasRefIdeal.main_arg0) = m ((c.tc : Thread Cert.CmpBiasIdeal.nD Cert.CmpBiasIdeal.τ).loc Cert.CmpBiasIdeal.main_arg0)
      ∧ m' ((c.tc : Thread Cert.CmpBiasRefIdeal.nD Cert.CmpBiasRefIdeal.τ).loc Cert.CmpBiasRefIdeal.main_arg1) = m ((c.tc : Thread Cert.CmpBiasIdeal.nD Cert.CmpBiasIdeal.τ).loc Cert.CmpBiasIdeal.main_arg1)
      ∧ m' ((c.tc : Thread Cert.CmpBiasRefIdeal.nD Cert.CmpBiasRefIdeal.τ).loc Cert.CmpBiasRefIdeal.main_arg2) = m ((c.tc : Thread Cert.CmpBiasIdeal.nD Cert.CmpBiasIdeal.τ).loc Cert.CmpBiasIdeal.main_arg2)) →
    ∃ (v0 : (c : Dev Cert.CmpBiasIdeal.nD) → Buf (Elt Ideal) ((c.tc : Thread Cert.CmpBiasIdeal.nD Cert.CmpBiasIdeal.τ).loc Cert.CmpBiasIdeal.main_v7)),
      θ_run (Cert.CmpBiasIdeal.defs (F := Ideal)) (onTc (τ := Cert.CmpBiasIdeal.τ) (Cert.CmpBiasIdeal.main (F := Ideal))) ⟨m, fun _ => 0, g⟩ (fun r => ∀ c : Dev Cert.CmpBiasIdeal.nD,
          r.2.mem ((c.tc : Thread Cert.CmpBiasIdeal.nD Cert.CmpBiasIdeal.τ).loc Cert.CmpBiasIdeal.main_v7) = v0 c
          ∧ r.2.mem ((c.tc : Thread Cert.CmpBiasIdeal.nD Cert.CmpBiasIdeal.τ).loc Cert.CmpBiasIdeal.main_arg0) = m ((c.tc : Thread Cert.CmpBiasIdeal.nD Cert.CmpBiasIdeal.τ).loc Cert.CmpBiasIdeal.main_arg0)
          ∧ r.2.mem ((c.tc : Thread Cert.CmpBiasIdeal.nD Cert.CmpBiasIdeal.τ).loc Cert.CmpBiasIdeal.main_arg1) = m ((c.tc : Thread Cert.CmpBiasIdeal.nD Cert.CmpBiasIdeal.τ).loc Cert.CmpBiasIdeal.main_arg1)
          ∧ r.2.mem ((c.tc : Thread Cert.CmpBiasIdeal.nD Cert.CmpBiasIdeal.τ).loc Cert.CmpBiasIdeal.main_arg2) = m ((c.tc : Thread Cert.CmpBiasIdeal.nD Cert.CmpBiasIdeal.τ).loc Cert.CmpBiasIdeal.main_arg2))
      ∧ θ_run (Cert.CmpBiasRefIdeal.defs (F := Ideal)) (onTc (τ := Cert.CmpBiasRefIdeal.τ) (Cert.CmpBiasRefIdeal.main (F := Ideal))) ⟨m', fun _ => 0, g'⟩ (fun r => ∀ c : Dev Cert.CmpBiasRefIdeal.nD,
          r.2.mem ((c.tc : Thread Cert.CmpBiasRefIdeal.nD Cert.CmpBiasRefIdeal.τ).loc Cert.CmpBiasRefIdeal.main_v3) = v0 c
          ∧ r.2.mem ((c.tc : Thread Cert.CmpBiasRefIdeal.nD Cert.CmpBiasRefIdeal.τ).loc Cert.CmpBiasRefIdeal.main_arg0) = m' ((c.tc : Thread Cert.CmpBiasRefIdeal.nD Cert.CmpBiasRefIdeal.τ).loc Cert.CmpBiasRefIdeal.main_arg0)
          ∧ r.2.mem ((c.tc : Thread Cert.CmpBiasRefIdeal.nD Cert.CmpBiasRefIdeal.τ).loc Cert.CmpBiasRefIdeal.main_arg1) = m' ((c.tc : Thread Cert.CmpBiasRefIdeal.nD Cert.CmpBiasRefIdeal.τ).loc Cert.CmpBiasRefIdeal.main_arg1)
          ∧ r.2.mem ((c.tc : Thread Cert.CmpBiasRefIdeal.nD Cert.CmpBiasRefIdeal.τ).loc Cert.CmpBiasRefIdeal.main_arg2) = m' ((c.tc : Thread Cert.CmpBiasRefIdeal.nD Cert.CmpBiasRefIdeal.τ).loc Cert.CmpBiasRefIdeal.main_arg2))

def preserves_WinOut_WinOutIdeal : Prop :=
  True

def algebraic_WinOutIdeal_WinOutRefIdeal [hWinOutIdeal : Cert.WinOutIdeal.Facts] [hWinOutRefIdeal : Cert.WinOutRefIdeal.Facts] : Prop :=
  ∀ (m : (ℓ : Loc Cert.WinOutIdeal.nD Cert.WinOutIdeal.τ Cert.WinOutIdeal.sig) → Buf (Elt Ideal) ℓ) (g : Dev Cert.WinOutIdeal.nD → PrngReg)
    (m' : (ℓ : Loc Cert.WinOutRefIdeal.nD Cert.WinOutRefIdeal.τ Cert.WinOutRefIdeal.sig) → Buf (Elt Ideal) ℓ) (g' : Dev Cert.WinOutRefIdeal.nD → PrngReg), Pre_WinOutIdeal m →
    (∀ c : Dev Cert.WinOutIdeal.nD,
      m' ((c.tc : Thread Cert.WinOutRefIdeal.nD Cert.WinOutRefIdeal.τ).loc Cert.WinOutRefIdeal.main_arg0) = m ((c.tc : Thread Cert.WinOutIdeal.nD Cert.WinOutIdeal.τ).loc Cert.WinOutIdeal.main_arg0)
      ∧ m' ((c.tc : Thread Cert.WinOutRefIdeal.nD Cert.WinOutRefIdeal.τ).loc Cert.WinOutRefIdeal.main_arg1) = m ((c.tc : Thread Cert.WinOutIdeal.nD Cert.WinOutIdeal.τ).loc Cert.WinOutIdeal.main_arg1)) →
    ∃ (v0 : (c : Dev Cert.WinOutIdeal.nD) → Buf (Elt Ideal) ((c.tc : Thread Cert.WinOutIdeal.nD Cert.WinOutIdeal.τ).loc Cert.WinOutIdeal.main_v0)),
      θ_run (Cert.WinOutIdeal.defs (F := Ideal)) (onTc (τ := Cert.WinOutIdeal.τ) (Cert.WinOutIdeal.main (F := Ideal))) ⟨m, fun _ => 0, g⟩ (fun r => ∀ c : Dev Cert.WinOutIdeal.nD,
          r.2.mem ((c.tc : Thread Cert.WinOutIdeal.nD Cert.WinOutIdeal.τ).loc Cert.WinOutIdeal.main_v0) = v0 c
          ∧ r.2.mem ((c.tc : Thread Cert.WinOutIdeal.nD Cert.WinOutIdeal.τ).loc Cert.WinOutIdeal.main_arg0) = m ((c.tc : Thread Cert.WinOutIdeal.nD Cert.WinOutIdeal.τ).loc Cert.WinOutIdeal.main_arg0)
          ∧ r.2.mem ((c.tc : Thread Cert.WinOutIdeal.nD Cert.WinOutIdeal.τ).loc Cert.WinOutIdeal.main_arg1) = m ((c.tc : Thread Cert.WinOutIdeal.nD Cert.WinOutIdeal.τ).loc Cert.WinOutIdeal.main_arg1))
      ∧ θ_run (Cert.WinOutRefIdeal.defs (F := Ideal)) (onTc (τ := Cert.WinOutRefIdeal.τ) (Cert.WinOutRefIdeal.main (F := Ideal))) ⟨m', fun _ => 0, g'⟩ (fun r => ∀ c : Dev Cert.WinOutRefIdeal.nD,
          r.2.mem ((c.tc : Thread Cert.WinOutRefIdeal.nD Cert.WinOutRefIdeal.τ).loc Cert.WinOutRefIdeal.main_v1) = v0 c
          ∧ r.2.mem ((c.tc : Thread Cert.WinOutRefIdeal.nD Cert.WinOutRefIdeal.τ).loc Cert.WinOutRefIdeal.main_arg0) = m' ((c.tc : Thread Cert.WinOutRefIdeal.nD Cert.WinOutRefIdeal.τ).loc Cert.WinOutRefIdeal.main_arg0)
          ∧ r.2.mem ((c.tc : Thread Cert.WinOutRefIdeal.nD Cert.WinOutRefIdeal.τ).loc Cert.WinOutRefIdeal.main_arg1) = m' ((c.tc : Thread Cert.WinOutRefIdeal.nD Cert.WinOutRefIdeal.τ).loc Cert.WinOutRefIdeal.main_arg1))

def preserves_Step_StepIdeal : Prop :=
  True

def algebraic_StepIdeal_StepRefIdeal_pre_finite_steps [hStepIdeal : Cert.StepIdeal.Facts] [hStepRefIdeal : Cert.StepRefIdeal.Facts] [hPre_finite_steps : Cert.Pre_finite_steps.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal_finite_steps m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)
      ∧ m' ((c.tc : Thread Cert.StepRefIdeal.nD Cert.StepRefIdeal.τ).loc Cert.StepRefIdeal.main_arg4) = m ((c.tc : Thread Cert.StepIdeal.nD Cert.StepIdeal.τ).loc Cert.StepIdeal.main_arg4)
      ∧ m' ((c.tc : Thread Cert.StepRefIdeal.nD Cert.StepRefIdeal.τ).loc Cert.StepRefIdeal.main_arg5) = m ((c.tc : Thread Cert.StepIdeal.nD Cert.StepIdeal.τ).loc Cert.StepIdeal.main_arg5)
      ∧ m' ((c.tc : Thread Cert.StepRefIdeal.nD Cert.StepRefIdeal.τ).loc Cert.StepRefIdeal.main_arg6) = m ((c.tc : Thread Cert.StepIdeal.nD Cert.StepIdeal.τ).loc Cert.StepIdeal.main_arg6)) →
    ∃ (v0 : (c : Dev Cert.StepIdeal.nD) → Buf (Elt Ideal) ((c.tc : Thread Cert.StepIdeal.nD Cert.StepIdeal.τ).loc Cert.StepIdeal.main_v39_0)) (v1 : (c : Dev Cert.StepIdeal.nD) → Buf (Elt Ideal) ((c.tc : Thread Cert.StepIdeal.nD Cert.StepIdeal.τ).loc Cert.StepIdeal.main_v39_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v39_0) = v0 c
          ∧ r.2.mem ((c.tc : Thread Cert.StepIdeal.nD Cert.StepIdeal.τ).loc Cert.StepIdeal.main_v39_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v45) = v0 c
          ∧ r.2.mem ((c.tc : Thread Cert.StepRefIdeal.nD Cert.StepRefIdeal.τ).loc Cert.StepRefIdeal.main_v47) = v1 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3)
          ∧ r.2.mem ((c.tc : Thread Cert.StepRefIdeal.nD Cert.StepRefIdeal.τ).loc Cert.StepRefIdeal.main_arg4) = m' ((c.tc : Thread Cert.StepRefIdeal.nD Cert.StepRefIdeal.τ).loc Cert.StepRefIdeal.main_arg4)
          ∧ r.2.mem ((c.tc : Thread Cert.StepRefIdeal.nD Cert.StepRefIdeal.τ).loc Cert.StepRefIdeal.main_arg5) = m' ((c.tc : Thread Cert.StepRefIdeal.nD Cert.StepRefIdeal.τ).loc Cert.StepRefIdeal.main_arg5)
          ∧ r.2.mem ((c.tc : Thread Cert.StepRefIdeal.nD Cert.StepRefIdeal.τ).loc Cert.StepRefIdeal.main_arg6) = m' ((c.tc : Thread Cert.StepRefIdeal.nD Cert.StepRefIdeal.τ).loc Cert.StepRefIdeal.main_arg6))

def preserves_Scan_ScanIdeal : Prop :=
  IdealRules.named_const.Statement Cert.ScanIdeal.κ "mask" .f32 0xF149F2CA#32 ⊥

def algebraic_ScanIdeal_ScanRefIdeal_pre_finite_decays [hScanIdeal : Cert.ScanIdeal.Facts] [hScanRefIdeal : Cert.ScanRefIdeal.Facts] [hPre_finite_decays : Cert.Pre_finite_decays.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_finite_decays m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)) →
    ∃ (v0 : (c : Dev Cert.ScanIdeal.nD) → Buf (Elt Ideal) ((c.tc : Thread Cert.ScanIdeal.nD Cert.ScanIdeal.τ).loc Cert.ScanIdeal.main_v25_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v25_1) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v31) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4))

def Claim : Prop :=
  ∃ (hRouter : Cert.Router.Facts) (hRouterIdeal : Cert.RouterIdeal.Facts) (hRouterRefIdeal : Cert.RouterRefIdeal.Facts) (hMoe : Cert.Moe.Facts) (hMoeIdeal : Cert.MoeIdeal.Facts) (hMoeRefIdeal : Cert.MoeRefIdeal.Facts) (hInProj : Cert.InProj.Facts) (hInProjIdeal : Cert.InProjIdeal.Facts) (hInProjRefIdeal : Cert.InProjRefIdeal.Facts) (hSsdOut : Cert.SsdOut.Facts) (hSsdOutIdeal : Cert.SsdOutIdeal.Facts) (hSsdOutRefIdeal : Cert.SsdOutRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hRmsNorm : Cert.RmsNorm.Facts) (hRmsNormIdeal : Cert.RmsNormIdeal.Facts) (hRmsNormRefIdeal : Cert.RmsNormRefIdeal.Facts) (hGatedNorm : Cert.GatedNorm.Facts) (hGatedNormIdeal : Cert.GatedNormIdeal.Facts) (hGatedNormRefIdeal : Cert.GatedNormRefIdeal.Facts) (hConvPrompt : Cert.ConvPrompt.Facts) (hConvPromptIdeal : Cert.ConvPromptIdeal.Facts) (hConvPromptRefIdeal : Cert.ConvPromptRefIdeal.Facts) (hConvSample : Cert.ConvSample.Facts) (hConvSampleIdeal : Cert.ConvSampleIdeal.Facts) (hConvSampleRefIdeal : Cert.ConvSampleRefIdeal.Facts) (hCmpBias : Cert.CmpBias.Facts) (hCmpBiasIdeal : Cert.CmpBiasIdeal.Facts) (hCmpBiasRefIdeal : Cert.CmpBiasRefIdeal.Facts) (hWinOut : Cert.WinOut.Facts) (hWinOutIdeal : Cert.WinOutIdeal.Facts) (hWinOutRefIdeal : Cert.WinOutRefIdeal.Facts) (hStep : Cert.Step.Facts) (hStepIdeal : Cert.StepIdeal.Facts) (hStepRefIdeal : Cert.StepRefIdeal.Facts) (hScan : Cert.Scan.Facts) (hScanIdeal : Cert.ScanIdeal.Facts) (hScanRefIdeal : Cert.ScanRefIdeal.Facts) (hPre_finite_steps : Cert.Pre_finite_steps.Facts) (hPre_finite_decays : Cert.Pre_finite_decays.Facts),
    quiescent_Router (hRouter := hRouter)
    ∧ quiescent_RouterIdeal (hRouterIdeal := hRouterIdeal)
    ∧ quiescent_RouterRefIdeal (hRouterRefIdeal := hRouterRefIdeal)
    ∧ quiescent_Moe (hMoe := hMoe)
    ∧ quiescent_MoeIdeal (hMoeIdeal := hMoeIdeal)
    ∧ quiescent_MoeRefIdeal (hMoeRefIdeal := hMoeRefIdeal)
    ∧ quiescent_InProj (hInProj := hInProj)
    ∧ quiescent_InProjIdeal (hInProjIdeal := hInProjIdeal)
    ∧ quiescent_InProjRefIdeal (hInProjRefIdeal := hInProjRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_RmsNorm (hRmsNorm := hRmsNorm)
    ∧ quiescent_RmsNormIdeal (hRmsNormIdeal := hRmsNormIdeal)
    ∧ quiescent_RmsNormRefIdeal (hRmsNormRefIdeal := hRmsNormRefIdeal)
    ∧ quiescent_GatedNorm (hGatedNorm := hGatedNorm)
    ∧ quiescent_GatedNormIdeal (hGatedNormIdeal := hGatedNormIdeal)
    ∧ quiescent_GatedNormRefIdeal (hGatedNormRefIdeal := hGatedNormRefIdeal)
    ∧ quiescent_ConvPrompt (hConvPrompt := hConvPrompt)
    ∧ quiescent_ConvPromptIdeal (hConvPromptIdeal := hConvPromptIdeal)
    ∧ quiescent_ConvPromptRefIdeal (hConvPromptRefIdeal := hConvPromptRefIdeal)
    ∧ quiescent_ConvSample (hConvSample := hConvSample)
    ∧ quiescent_ConvSampleIdeal (hConvSampleIdeal := hConvSampleIdeal)
    ∧ quiescent_ConvSampleRefIdeal (hConvSampleRefIdeal := hConvSampleRefIdeal)
    ∧ quiescent_CmpBias (hCmpBias := hCmpBias)
    ∧ quiescent_CmpBiasIdeal (hCmpBiasIdeal := hCmpBiasIdeal)
    ∧ quiescent_CmpBiasRefIdeal (hCmpBiasRefIdeal := hCmpBiasRefIdeal)
    ∧ quiescent_WinOut (hWinOut := hWinOut)
    ∧ quiescent_WinOutIdeal (hWinOutIdeal := hWinOutIdeal)
    ∧ quiescent_WinOutRefIdeal (hWinOutRefIdeal := hWinOutRefIdeal)
    ∧ quiescent_Step (hStep := hStep)
    ∧ quiescent_StepIdeal (hStepIdeal := hStepIdeal)
    ∧ quiescent_StepIdeal_pre_finite_steps (hStepIdeal := hStepIdeal) (hPre_finite_steps := hPre_finite_steps)
    ∧ quiescent_StepRefIdeal (hStepRefIdeal := hStepRefIdeal)
    ∧ quiescent_StepRefIdeal_pre_finite_steps (hStepRefIdeal := hStepRefIdeal) (hPre_finite_steps := hPre_finite_steps)
    ∧ quiescent_Scan (hScan := hScan)
    ∧ quiescent_ScanIdeal (hScanIdeal := hScanIdeal)
    ∧ quiescent_ScanIdeal_pre_finite_decays (hScanIdeal := hScanIdeal) (hPre_finite_decays := hPre_finite_decays)
    ∧ quiescent_ScanRefIdeal (hScanRefIdeal := hScanRefIdeal)
    ∧ quiescent_ScanRefIdeal_pre_finite_decays (hScanRefIdeal := hScanRefIdeal) (hPre_finite_decays := hPre_finite_decays)
    ∧ preserves_Router_RouterIdeal
    ∧ preserves_Moe_MoeIdeal
    ∧ algebraic_MoeIdeal_MoeRefIdeal (hMoeIdeal := hMoeIdeal) (hMoeRefIdeal := hMoeRefIdeal)
    ∧ preserves_InProj_InProjIdeal
    ∧ algebraic_InProjIdeal_InProjRefIdeal (hInProjIdeal := hInProjIdeal) (hInProjRefIdeal := hInProjRefIdeal)
    ∧ preserves_SsdOut_SsdOutIdeal
    ∧ algebraic_SsdOutIdeal_SsdOutRefIdeal (hSsdOutIdeal := hSsdOutIdeal) (hSsdOutRefIdeal := hSsdOutRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_RmsNorm_RmsNormIdeal
    ∧ algebraic_RmsNormIdeal_RmsNormRefIdeal (hRmsNormIdeal := hRmsNormIdeal) (hRmsNormRefIdeal := hRmsNormRefIdeal)
    ∧ preserves_GatedNorm_GatedNormIdeal
    ∧ algebraic_GatedNormIdeal_GatedNormRefIdeal (hGatedNormIdeal := hGatedNormIdeal) (hGatedNormRefIdeal := hGatedNormRefIdeal)
    ∧ preserves_ConvPrompt_ConvPromptIdeal
    ∧ algebraic_ConvPromptIdeal_ConvPromptRefIdeal (hConvPromptIdeal := hConvPromptIdeal) (hConvPromptRefIdeal := hConvPromptRefIdeal)
    ∧ preserves_ConvSample_ConvSampleIdeal
    ∧ algebraic_ConvSampleIdeal_ConvSampleRefIdeal (hConvSampleIdeal := hConvSampleIdeal) (hConvSampleRefIdeal := hConvSampleRefIdeal)
    ∧ preserves_CmpBias_CmpBiasIdeal
    ∧ algebraic_CmpBiasIdeal_CmpBiasRefIdeal (hCmpBiasIdeal := hCmpBiasIdeal) (hCmpBiasRefIdeal := hCmpBiasRefIdeal)
    ∧ preserves_WinOut_WinOutIdeal
    ∧ algebraic_WinOutIdeal_WinOutRefIdeal (hWinOutIdeal := hWinOutIdeal) (hWinOutRefIdeal := hWinOutRefIdeal)
    ∧ preserves_Step_StepIdeal
    ∧ algebraic_StepIdeal_StepRefIdeal_pre_finite_steps (hStepIdeal := hStepIdeal) (hStepRefIdeal := hStepRefIdeal) (hPre_finite_steps := hPre_finite_steps)
    ∧ preserves_Scan_ScanIdeal
    ∧ algebraic_ScanIdeal_ScanRefIdeal_pre_finite_decays (hScanIdeal := hScanIdeal) (hScanRefIdeal := hScanRefIdeal) (hPre_finite_decays := hPre_finite_decays)
-- ==== Pre_finite_decays.lean ====
abbrev S8192x6144 : Shape := ⟨2, ![8192, 6144]⟩
abbrev S8192x64 : Shape := ⟨2, ![8192, 64]⟩
abbrev S64 : Shape := ⟨1, ![64]⟩
abbrev S1x64 : Shape := ⟨2, ![1, 64]⟩
abbrev S_ : Shape := ⟨0, ![]⟩

class Facts : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)

variable [Facts]

def fn {F : FTy → Type} [FloatOps F] (main_arg0 : FVec F S8192x6144 .f32) (main_arg1 : FVec F S8192x64 .f32) (main_arg2 : FVec F S64 .f32) (main_arg3 : FVec F S64 .f32) (main_arg4 : FVec F S64 .f32) : IVec S8192x64 1 :=
  let main_v0 : FVec F S1x64 .f32 := broadcastInDim S1x64 ![1] bcast_S64_S1x64_1 main_arg2
  let main_v1 : FVec F S8192x64 .f32 := broadcastInDim S8192x64 ![0, 1] bcast_S1x64_S8192x64_0_1 main_v0
  let main_v2 : FVec F S8192x64 .f32 := addf main_arg1 main_v1
  let main_v3 : FVec F S8192x64 .f32 := Host.absf main_v2
  let main_v4 : FVec F S64 .f32 := Host.absf main_arg3
  let main_v5 : FVec F S1x64 .f32 := broadcastInDim S1x64 ![1] bcast_S64_S1x64_1 main_v4
  let main_v6 : FVec F S8192x64 .f32 := broadcastInDim S8192x64 ![0, 1] bcast_S1x64_S8192x64_0_1 main_v5
  let main_v7 : FVec F S8192x64 .f32 := maximumf main_v3 main_v6
  let main_cst : FVec F S_ .f32 := constant S_ .f32 0x7F800000#32
  let main_v8 : FVec F S8192x64 .f32 := broadcastInDim S8192x64 ![] bcast_S_S8192x64 main_cst
  let main_v9 : IVec S8192x64 1 := cmpf .olt main_v7 main_v8
  main_v9
-- ==== Pre_finite_steps.lean ====
abbrev S2x128x64x64x128 : Shape := ⟨5, ![2, 128, 64, 64, 128]⟩
abbrev S1x128x128x4096 : Shape := ⟨4, ![1, 128, 128, 4096]⟩
abbrev S128x6144 : Shape := ⟨2, ![128, 6144]⟩
abbrev S128x64 : Shape := ⟨2, ![128, 64]⟩
abbrev S64 : Shape := ⟨1, ![64]⟩
abbrev S1x64 : Shape := ⟨2, ![1, 64]⟩
abbrev S_ : Shape := ⟨0, ![]⟩

class Facts : Prop where
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)

variable [Facts]

def fn {F : FTy → Type} [FloatOps F] (main_arg0 : FVec F S2x128x64x64x128 .f32) (main_arg1 : FVec F S1x128x128x4096 .f32) (main_arg2 : FVec F S128x6144 .f32) (main_arg3 : FVec F S128x64 .f32) (main_arg4 : FVec F S64 .f32) (main_arg5 : FVec F S64 .f32) (main_arg6 : FVec F S64 .f32) : IVec S128x64 1 :=
  let main_v0 : FVec F S1x64 .f32 := broadcastInDim S1x64 ![1] bcast_S64_S1x64_1 main_arg4
  let main_v1 : FVec F S128x64 .f32 := broadcastInDim S128x64 ![0, 1] bcast_S1x64_S128x64_0_1 main_v0
  let main_v2 : FVec F S128x64 .f32 := addf main_arg3 main_v1
  let main_v3 : FVec F S128x64 .f32 := Host.absf main_v2
  let main_cst : FVec F S_ .f32 := constant S_ .f32 0x7F800000#32
  let main_v4 : FVec F S128x64 .f32 := broadcastInDim S128x64 ![] bcast_S_S128x64 main_cst
  let main_v5 : IVec S128x64 1 := cmpf .olt main_v3 main_v4
  main_v5
-- ==== Router.lean ====
abbrev S8320x2048 : Shape := ⟨2, ![8320, 2048]⟩
abbrev S2048x4 : Shape := ⟨2, ![2048, 4]⟩
abbrev S4 : Shape := ⟨1, ![4]⟩
abbrev S2048x16 : Shape := ⟨2, ![2048, 16]⟩
abbrev S16 : Shape := ⟨1, ![16]⟩
abbrev S_ : Shape := ⟨0, ![]⟩
abbrev S2048x108 : Shape := ⟨2, ![2048, 108]⟩
abbrev S2048x128 : Shape := ⟨2, ![2048, 128]⟩
abbrev S108 : Shape := ⟨1, ![108]⟩
abbrev S128 : Shape := ⟨1, ![128]⟩
abbrev S1x128 : Shape := ⟨2, ![1, 128]⟩
abbrev S8320x128 : Shape := ⟨2, ![8320, 128]⟩
abbrev S640x2048 : Shape := ⟨2, ![640, 2048]⟩
abbrev S640x128 : Shape := ⟨2, ![640, 128]⟩
abbrev S640 : Shape := ⟨1, ![640]⟩
abbrev S640x1 : Shape := ⟨2, ![640, 1]⟩

abbrev nBuf : Space → Nat
  | .hbm => 15
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S2048x4, .f32⟩
  | .hbm, ⟨2, _⟩ => ⟨S4, .f32⟩
  | .hbm, ⟨3, _⟩ => ⟨S2048x16, .f32⟩
  | .hbm, ⟨4, _⟩ => ⟨S16, .f32⟩
  | .hbm, ⟨5, _⟩ => ⟨S8320x2048, .bf16⟩
  | .hbm, ⟨6, _⟩ => ⟨S_, .f32⟩
  | .hbm, ⟨7, _⟩ => ⟨S2048x108, .f32⟩
  | .hbm, ⟨8, _⟩ => ⟨S2048x128, .f32⟩
  | .hbm, ⟨9, _⟩ => ⟨S_, .f32⟩
  | .hbm, ⟨10, _⟩ => ⟨S108, .f32⟩
  | .hbm, ⟨11, _⟩ => ⟨S128, .f32⟩
  | .hbm, ⟨12, _⟩ => ⟨S1x128, .f32⟩
  | .hbm, ⟨13, _⟩ => ⟨S2048x128, .bf16⟩
  | .hbm, ⟨14, _⟩ => ⟨S8320x128, .f32⟩
  | .local _ .vmem, ⟨0, _⟩ => ⟨S640x2048, .bf16⟩
  | .local _ .vmem, ⟨1, _⟩ => ⟨S640x2048, .bf16⟩
  | .local _ .vmem, ⟨2, _⟩ => ⟨S2048x128, .bf16⟩
  | .local _ .vmem, ⟨3, _⟩ => ⟨S1x128, .f32⟩
  | .local _ .vmem, ⟨4, _⟩ => ⟨S640x128, .f32⟩
  | .local _ .vmem, ⟨5, _⟩ => ⟨S640x128, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RouterIdeal.lean ====
variable {F : FTy → Type} [FloatOps F] [Named F]
def κ : String → Option EReal := fun
  | "mask" => some ⊥
  | _ => none
-- ==== RouterRefIdeal.lean ====
abbrev S8320x2048 : Shape := ⟨2, ![8320, 2048]⟩
abbrev S2048x4 : Shape := ⟨2, ![2048, 4]⟩
abbrev S4 : Shape := ⟨1, ![4]⟩
abbrev S2048x16 : Shape := ⟨2, ![2048, 16]⟩
abbrev S16 : Shape := ⟨1, ![16]⟩
abbrev S8320x4 : Shape := ⟨2, ![8320, 4]⟩
abbrev S1x4 : Shape := ⟨2, ![1, 4]⟩
abbrev S_ : Shape := ⟨0, ![]⟩
abbrev S8320 : Shape := ⟨1, ![8320]⟩
abbrev S8320x1 : Shape := ⟨2, ![8320, 1]⟩
abbrev S8320x16 : Shape := ⟨2, ![8320, 16]⟩
abbrev S1x16 : Shape := ⟨2, ![1, 16]⟩
abbrev S8320x4x4 : Shape := ⟨3, ![8320, 4, 4]⟩
abbrev S8320x2 : Shape := ⟨2, ![8320, 2]⟩
abbrev S8320x2x1 : Shape := ⟨3, ![8320, 2, 1]⟩
abbrev S1x1x16 : Shape := ⟨3, ![1, 1, 16]⟩
abbrev S8320x2x16 : Shape := ⟨3, ![8320, 2, 16]⟩
abbrev S8320x128 : Shape := ⟨2, ![8320, 128]⟩

abbrev nBuf : Space → Nat
  | .hbm => 76
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x4, .f32⟩
  | .hbm, ⟨2, _⟩ => ⟨S4, .f32⟩
  | .hbm, ⟨3, _⟩ => ⟨S2048x16, .f32⟩
  | .hbm, ⟨4, _⟩ => ⟨S16, .f32⟩
  | .hbm, ⟨5, _⟩ => ⟨S8320x4, .f32⟩
  | .hbm, ⟨6, _⟩ => ⟨S1x4, .f32⟩
  | .hbm, ⟨7, _⟩ => ⟨S8320x4, .f32⟩
  | .hbm, ⟨8, _⟩ => ⟨S8320x4, .f32⟩
  | .hbm, ⟨9, _⟩ => ⟨S_, .f32⟩
  | .hbm, ⟨10, _⟩ => ⟨S8320, .f32⟩
  | .hbm, ⟨11, _⟩ => ⟨S_, .f32⟩
  | .hbm, ⟨12, _⟩ => ⟨S8320, .f32⟩
  | .hbm, ⟨13, _⟩ => ⟨S8320, .f32⟩
  | .hbm, ⟨14, _⟩ => ⟨S8320x1, .f32⟩
  | .hbm, ⟨15, _⟩ => ⟨S8320x4, .f32⟩
  | .hbm, ⟨16, _⟩ => ⟨S8320x4, .f32⟩
  | .hbm, ⟨17, _⟩ => ⟨S8320x4, .f32⟩
  | .hbm, ⟨18, _⟩ => ⟨S_, .f32⟩
  | .hbm, ⟨19, _⟩ => ⟨S8320, .f32⟩
  | .hbm, ⟨20, _⟩ => ⟨S8320x1, .f32⟩
  | .hbm, ⟨21, _⟩ => ⟨S8320x4, .f32⟩
  | .hbm, ⟨22, _⟩ => ⟨S8320x4, .f32⟩
  | .hbm, ⟨23, _⟩ => ⟨S8320x1, .f32⟩
  | .hbm, ⟨24, _⟩ => ⟨S8320x1, .i32⟩
  | .hbm, ⟨25, _⟩ => ⟨S8320x16, .f32⟩
  | .hbm, ⟨26, _⟩ => ⟨S1x16, .f32⟩
  | .hbm, ⟨27, _⟩ => ⟨S8320x16, .f32⟩
  | .hbm, ⟨28, _⟩ => ⟨S8320x16, .f32⟩
  | .hbm, ⟨29, _⟩ => ⟨S8320x4x4, .f32⟩
  | .hbm, ⟨30, _⟩ => ⟨S8320, .i32⟩
  | .hbm, ⟨31, _⟩ => ⟨S8320x1, .i32⟩
  | .hbm, ⟨32, _⟩ => ⟨S1x4, .i32⟩
  | .hbm, ⟨33, _⟩ => ⟨S8320x4, .i32⟩
  | .hbm, ⟨34, _⟩ => ⟨S8320x4, .i32⟩
  | .hbm, ⟨35, _⟩ => ⟨S8320x4, .i1⟩
  | .hbm, ⟨36, _⟩ => ⟨S8320x4, .f32⟩
  | .hbm, ⟨37, _⟩ => ⟨S8320x4, .f32⟩
  | .hbm, ⟨38, _⟩ => ⟨S_, .f32⟩
  | .hbm, ⟨39, _⟩ => ⟨S8320, .f32⟩
  | .hbm, ⟨40, _⟩ => ⟨S_, .f32⟩
  | .hbm, ⟨41, _⟩ => ⟨S8320, .f32⟩
  | .hbm, ⟨42, _⟩ => ⟨S8320, .f32⟩
  | .hbm, ⟨43, _⟩ => ⟨S8320x1, .f32⟩
  | .hbm, ⟨44, _⟩ => ⟨S8320x4, .f32⟩
  | .hbm, ⟨45, _⟩ => ⟨S8320x4, .f32⟩
  | .hbm, ⟨46, _⟩ => ⟨S8320x4, .f32⟩
  | .hbm, ⟨47, _⟩ => ⟨S_, .f32⟩
  | .hbm, ⟨48, _⟩ => ⟨S8320, .f32⟩
  | .hbm, ⟨49, _⟩ => ⟨S8320x1, .f32⟩
  | .hbm, ⟨50, _⟩ => ⟨S8320x4, .f32⟩
  | .hbm, ⟨51, _⟩ => ⟨S8320x4, .f32⟩
  | .hbm, ⟨52, _⟩ => ⟨S8320x2, .f32⟩
  | .hbm, ⟨53, _⟩ => ⟨S8320x2, .i32⟩
  | .hbm, ⟨54, _⟩ => ⟨S_, .f32⟩
  | .hbm, ⟨55, _⟩ => ⟨S8320, .f32⟩
  | .hbm, ⟨56, _⟩ => ⟨S8320x1, .f32⟩
  | .hbm, ⟨57, _⟩ => ⟨S8320x2, .f32⟩
  | .hbm, ⟨58, _⟩ => ⟨S8320x2, .f32⟩
  | .hbm, ⟨59, _⟩ => ⟨S8320x2, .f32⟩
  | .hbm, ⟨60, _⟩ => ⟨S8320x2, .f32⟩
  | .hbm, ⟨61, _⟩ => ⟨S_, .i32⟩
  | .hbm, ⟨62, _⟩ => ⟨S8320x1, .i32⟩
  | .hbm, ⟨63, _⟩ => ⟨S8320x1, .i32⟩
  | .hbm, ⟨64, _⟩ => ⟨S8320x2, .i32⟩
  | .hbm, ⟨65, _⟩ => ⟨S8320x2, .i32⟩
  | .hbm, ⟨66, _⟩ => ⟨S8320x2x1, .i32⟩
  | .hbm, ⟨67, _⟩ => ⟨S1x1x16, .i32⟩
  | .hbm, ⟨68, _⟩ => ⟨S8320x2x16, .i32⟩
  | .hbm, ⟨69, _⟩ => ⟨S8320x2x16, .i32⟩
  | .hbm, ⟨70, _⟩ => ⟨S8320x2x16, .i1⟩
  | .hbm, ⟨71, _⟩ => ⟨S8320x2x16, .f32⟩
  | .hbm, ⟨72, _⟩ => ⟨S8320x16, .f32⟩
  | .hbm, ⟨73, _⟩ => ⟨S_, .i32⟩
  | .hbm, ⟨74, _⟩ => ⟨S_, .f32⟩
  | .hbm, ⟨75, _⟩ => ⟨S8320x128, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_values : Ref sig .tc := ⟨.hbm, 23, rfl⟩
abbrev main_indices : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_values_5 : Ref sig .tc := ⟨.hbm, 52, rfl⟩
abbrev main_indices_6 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v44 : Ref sig .tc := ⟨.hbm, 71, rfl⟩
abbrev main_v45 : Ref sig .tc := ⟨.hbm, 72, rfl⟩
abbrev main_c_8 : Ref sig .tc := ⟨.hbm, 73, rfl⟩
abbrev main_call2_v0 : Ref sig .tc := ⟨.hbm, 74, rfl⟩
abbrev main_v46 : Ref sig .tc := ⟨.hbm, 75, rfl⟩

abbrev nD : Nat := 1
abbrev τ : Topo := Topo.v7x

variable {F : FTy → Type} [FloatOps F]
-- ==== Moe.lean ====
abbrev S8320x2048 : Shape := ⟨2, ![8320, 2048]⟩
abbrev S8320x128 : Shape := ⟨2, ![8320, 128]⟩
abbrev S16x2048x1024 : Shape := ⟨3, ![16, 2048, 1024]⟩
abbrev S16x512x2048 : Shape := ⟨3, ![16, 512, 2048]⟩
abbrev S640x2048 : Shape := ⟨2, ![640, 2048]⟩
abbrev S1x2048x1024 : Shape := ⟨3, ![1, 2048, 1024]⟩
abbrev S1x512x2048 : Shape := ⟨3, ![1, 512, 2048]⟩
abbrev S640x128 : Shape := ⟨2, ![640, 128]⟩
abbrev S2048x1024 : Shape := ⟨2, ![2048, 1024]⟩
abbrev S640x1024 : Shape := ⟨2, ![640, 1024]⟩
abbrev S640 : Shape := ⟨1, ![640]⟩
abbrev S640x1 : Shape := ⟨2, ![640, 1]⟩
abbrev S640x512 : Shape := ⟨2, ![640, 512]⟩
abbrev S512x2048 : Shape := ⟨2, ![512, 2048]⟩

abbrev nBuf : Space → Nat
  | .hbm => 9
  | .vmem => 13
  | .smem => 0
  | _ => 0

abbrev bufTy : (tb : Table) → Fin (tcTables nBuf tb) → BufTy
  | .hbm, ⟨0, _⟩ => ⟨S8320x2048, .f32⟩
  | .hbm, ⟨1, _⟩ => ⟨S8320x128, .f32⟩
  | .hbm, ⟨2, _⟩ => ⟨S8320x2048, .f32⟩
  | .hbm, ⟨3, _⟩ => ⟨S16x2048x1024, .f32⟩
  | .hbm, ⟨4, _⟩ => ⟨S16x512x2048, .f32⟩
  | .hbm, ⟨5, _⟩ => ⟨S8320x2048, .bf16⟩
  | .hbm, ⟨6, _⟩ => ⟨S16x2048x1024, .bf16⟩
  | .hbm, ⟨7, _⟩ => ⟨S16x512x2048, .bf16⟩
  | .hbm, ⟨8, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S640x128, .f32⟩
  | .local _ .vmem, ⟨7, _⟩ => ⟨S640x128, .f32⟩
  | .local _ .vmem, ⟨8, _⟩ => ⟨S640x2048, .f32⟩
  | .local _ .vmem, ⟨9, _⟩ => ⟨S640x2048, .f32⟩
  | .local _ .vmem, ⟨10, _⟩ => ⟨S640x2048, .f32⟩
  | .local _ .vmem, ⟨11, _⟩ => ⟨S640x2048, .f32⟩
  | .local _ .vmem, ⟨12, _⟩ => ⟨S640x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S640x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MoeRefIdeal.lean ====
abbrev S8320x2048 : Shape := ⟨2, ![8320, 2048]⟩
abbrev S8320x128 : Shape := ⟨2, ![8320, 128]⟩
abbrev S16x2048x1024 : Shape := ⟨3, ![16, 2048, 1024]⟩
abbrev S16x512x2048 : Shape := ⟨3, ![16, 512, 2048]⟩
abbrev S8320x16 : Shape := ⟨2, ![8320, 16]⟩
abbrev S8320x16x1024 : Shape := ⟨3, ![8320, 16, 1024]⟩
abbrev S8320x16x512 : Shape := ⟨3, ![8320, 16, 512]⟩
abbrev S_ : Shape := ⟨0, ![]⟩
abbrev S8320x16x1 : Shape := ⟨3, ![8320, 16, 1]⟩

abbrev nBuf : Space → Nat
  | .hbm => 24
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x128, .f32⟩
  | .hbm, ⟨2, _⟩ => ⟨S8320x2048, .f32⟩
  | .hbm, ⟨3, _⟩ => ⟨S16x2048x1024, .f32⟩
  | .hbm, ⟨4, _⟩ => ⟨S16x512x2048, .f32⟩
  | .hbm, ⟨5, _⟩ => ⟨S8320x16, .f32⟩
  | .hbm, ⟨6, _⟩ => ⟨S8320x16x1024, .f32⟩
  | .hbm, ⟨7, _⟩ => ⟨S8320x16x512, .f32⟩
  | .hbm, ⟨8, _⟩ => ⟨S8320x16x512, .f32⟩
  | .hbm, ⟨9, _⟩ => ⟨S8320x16x512, .f32⟩
  | .hbm, ⟨10, _⟩ => ⟨S8320x16x512, .f32⟩
  | .hbm, ⟨11, _⟩ => ⟨S_, .f32⟩
  | .hbm, ⟨12, _⟩ => ⟨S8320x16x512, .f32⟩
  | .hbm, ⟨13, _⟩ => ⟨S8320x16x512, .f32⟩
  | .hbm, ⟨14, _⟩ => ⟨S_, .f32⟩
  | .hbm, ⟨15, _⟩ => ⟨S8320x16x512, .f32⟩
  | .hbm, ⟨16, _⟩ => ⟨S8320x16x512, .f32⟩
  | .hbm, ⟨17, _⟩ => ⟨S8320x16x512, .f32⟩
  | .hbm, ⟨18, _⟩ => ⟨S8320x16x512, .f32⟩
  | .hbm, ⟨19, _⟩ => ⟨S8320x16x1, .f32⟩
  | .hbm, ⟨20, _⟩ => ⟨S8320x16x512, .f32⟩
  | .hbm, ⟨21, _⟩ => ⟨S8320x16x512, .f32⟩
  | .hbm, ⟨22, _⟩ => ⟨S8320x2048, .f32⟩
  | .hbm, ⟨23, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== InProj.lean ====
abbrev S8320x2048 : Shape := ⟨2, ![8320, 2048]⟩
abbrev S2048x19568 : Shape := ⟨2, ![2048, 19568]⟩
abbrev S2048x4096 : Shape := ⟨2, ![2048, 4096]⟩
abbrev S2048x6144 : Shape := ⟨2, ![2048, 6144]⟩
abbrev S2048x64 : Shape := ⟨2, ![2048, 64]⟩
abbrev S2048x2048 : Shape := ⟨2, ![2048, 2048]⟩
abbrev S2048x1024 : Shape := ⟨2, ![2048, 1024]⟩
abbrev S2048x48 : Shape := ⟨2, ![2048, 48]⟩
abbrev S_ : Shape := ⟨0, ![]⟩
abbrev S2048x144 : Shape := ⟨2, ![2048, 144]⟩
abbrev S2048x256 : Shape := ⟨2, ![2048, 256]⟩
abbrev S2048x19712 : Shape := ⟨2, ![2048, 19712]⟩
abbrev S8320x19712 : Shape := ⟨2, ![8320, 19712]⟩
abbrev S640x2048 : Shape := ⟨2, ![640, 2048]⟩
abbrev S2048x1792 : Shape := ⟨2, ![2048, 1792]⟩
abbrev S640x1792 : Shape := ⟨2, ![640, 1792]⟩

abbrev nBuf : Space → Nat
  | .hbm => 18
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S2048x19568, .f32⟩
  | .hbm, ⟨2, _⟩ => ⟨S8320x2048, .bf16⟩
  | .hbm, ⟨3, _⟩ => ⟨S2048x4096, .f32⟩
  | .hbm, ⟨4, _⟩ => ⟨S2048x6144, .f32⟩
  | .hbm, ⟨5, _⟩ => ⟨S2048x64, .f32⟩
  | .hbm, ⟨6, _⟩ => ⟨S2048x2048, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x48, .f32⟩
  | .hbm, ⟨11, _⟩ => ⟨S2048x4096, .f32⟩
  | .hbm, ⟨12, _⟩ => ⟨S_, .f32⟩
  | .hbm, ⟨13, _⟩ => ⟨S2048x144, .f32⟩
  | .hbm, ⟨14, _⟩ => ⟨S2048x256, .f32⟩
  | .hbm, ⟨15, _⟩ => ⟨S2048x19712, .f32⟩
  | .hbm, ⟨16, _⟩ => ⟨S2048x19712, .bf16⟩
  | .hbm, ⟨17, _⟩ => ⟨S8320x19712, .f32⟩
  | .local _ .vmem, ⟨0, _⟩ => ⟨S640x2048, .bf16⟩
  | .local _ .vmem, ⟨1, _⟩ => ⟨S640x2048, .bf16⟩
  | .local _ .vmem, ⟨2, _⟩ => ⟨S2048x1792, .bf16⟩
  | .local _ .vmem, ⟨3, _⟩ => ⟨S2048x1792, .bf16⟩
  | .local _ .vmem, ⟨4, _⟩ => ⟨S640x1792, .f32⟩
  | .local _ .vmem, ⟨5, _⟩ => ⟨S640x1792, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8320x2048 : Shape := ⟨2, ![8320, 2048]⟩
abbrev S2048x19568 : Shape := ⟨2, ![2048, 19568]⟩
abbrev S8320x19568 : Shape := ⟨2, ![8320, 19568]⟩
abbrev S8320x4096 : Shape := ⟨2, ![8320, 4096]⟩
abbrev S8320x6144 : Shape := ⟨2, ![8320, 6144]⟩
abbrev S8320x64 : Shape := ⟨2, ![8320, 64]⟩
abbrev S8320x1024 : Shape := ⟨2, ![8320, 1024]⟩
abbrev S8320x48 : Shape := ⟨2, ![8320, 48]⟩
abbrev S_ : Shape := ⟨0, ![]⟩
abbrev S8320x144 : Shape := ⟨2, ![8320, 144]⟩
abbrev S8320x19712 : Shape := ⟨2, ![8320, 19712]⟩

abbrev nBuf : Space → Nat
  | .hbm => 15
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x19568, .f32⟩
  | .hbm, ⟨2, _⟩ => ⟨S8320x19568, .f32⟩
  | .hbm, ⟨3, _⟩ => ⟨S8320x4096, .f32⟩
  | .hbm, ⟨4, _⟩ => ⟨S8320x6144, .f32⟩
  | .hbm, ⟨5, _⟩ => ⟨S8320x64, .f32⟩
  | .hbm, ⟨6, _⟩ => ⟨S8320x2048, .f32⟩
  | .hbm, ⟨7, _⟩ => ⟨S8320x1024, .f32⟩
  | .hbm, ⟨8, _⟩ => ⟨S8320x1024, .f32⟩
  | .hbm, ⟨9, _⟩ => ⟨S8320x1024, .f32⟩
  | .hbm, ⟨10, _⟩ => ⟨S8320x48, .f32⟩
  | .hbm, ⟨11, _⟩ => ⟨S8320x4096, .f32⟩
  | .hbm, ⟨12, _⟩ => ⟨S_, .f32⟩
  | .hbm, ⟨13, _⟩ => ⟨S8320x144, .f32⟩
  | .hbm, ⟨14, _⟩ => ⟨S8320x19712, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== SsdOut.lean ====
abbrev S8320x4096 : Shape := ⟨2, ![8320, 4096]⟩
abbrev S4096x2048 : Shape := ⟨2, ![4096, 2048]⟩
abbrev S8320x2048 : Shape := ⟨2, ![8320, 2048]⟩
abbrev S640x4096 : Shape := ⟨2, ![640, 4096]⟩
abbrev S4096x1024 : Shape := ⟨2, ![4096, 1024]⟩
abbrev S640x1024 : Shape := ⟨2, ![640, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8320x4096, .f32⟩
  | .hbm, ⟨1, _⟩ => ⟨S4096x2048, .f32⟩
  | .hbm, ⟨2, _⟩ => ⟨S8320x4096, .bf16⟩
  | .hbm, ⟨3, _⟩ => ⟨S4096x2048, .bf16⟩
  | .hbm, ⟨4, _⟩ => ⟨S8320x2048, .f32⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S4096x1024, .bf16⟩
  | .local _ .vmem, ⟨4, _⟩ => ⟨S640x1024, .f32⟩
  | .local _ .vmem, ⟨5, _⟩ => ⟨S640x1024, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsdOutRefIdeal.lean ====
abbrev S8320x4096 : Shape := ⟨2, ![8320, 4096]⟩
abbrev S4096x2048 : Shape := ⟨2, ![4096, 2048]⟩
abbrev S8320x2048 : Shape := ⟨2, ![8320, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096x2048, .f32⟩
  | .hbm, ⟨2, _⟩ => ⟨S8320x2048, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Merge.lean ====
abbrev S8320x2048 : Shape := ⟨2, ![8320, 2048]⟩
abbrev S2048x2048 : Shape := ⟨2, ![2048, 2048]⟩
abbrev S8320x19712 : Shape := ⟨2, ![8320, 19712]⟩
abbrev S640x2048 : Shape := ⟨2, ![640, 2048]⟩
abbrev S2048x1024 : Shape := ⟨2, ![2048, 1024]⟩
abbrev S640x1024 : Shape := ⟨2, ![640, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S2048x2048, .f32⟩
  | .hbm, ⟨2, _⟩ => ⟨S8320x2048, .f32⟩
  | .hbm, ⟨3, _⟩ => ⟨S8320x19712, .f32⟩
  | .hbm, ⟨4, _⟩ => ⟨S8320x2048, .bf16⟩
  | .hbm, ⟨5, _⟩ => ⟨S2048x2048, .bf16⟩
  | .hbm, ⟨6, _⟩ => ⟨S8320x2048, .bf16⟩
  | .local _ .vmem, ⟨0, _⟩ => ⟨S640x2048, .bf16⟩
  | .local _ .vmem, ⟨1, _⟩ => ⟨S640x2048, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .bf16⟩
  | .local _ .vmem, ⟨11, _⟩ => ⟨S640x1024, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.addi c15_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MergeRefIdeal.lean ====
abbrev S8320x2048 : Shape := ⟨2, ![8320, 2048]⟩
abbrev S2048x2048 : Shape := ⟨2, ![2048, 2048]⟩
abbrev S8320x19712 : Shape := ⟨2, ![8320, 19712]⟩
abbrev S8320x4096 : Shape := ⟨2, ![8320, 4096]⟩
abbrev S_ : Shape := ⟨0, ![]⟩
abbrev S8320x2x2048 : Shape := ⟨3, ![8320, 2, 2048]⟩
abbrev S8320x1x2048 : Shape := ⟨3, ![8320, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x2048, .f32⟩
  | .hbm, ⟨2, _⟩ => ⟨S8320x2048, .f32⟩
  | .hbm, ⟨3, _⟩ => ⟨S8320x19712, .f32⟩
  | .hbm, ⟨4, _⟩ => ⟨S8320x2048, .f32⟩
  | .hbm, ⟨5, _⟩ => ⟨S8320x4096, .f32⟩
  | .hbm, ⟨6, _⟩ => ⟨S8320x4096, .f32⟩
  | .hbm, ⟨7, _⟩ => ⟨S8320x4096, .f32⟩
  | .hbm, ⟨8, _⟩ => ⟨S_, .f32⟩
  | .hbm, ⟨9, _⟩ => ⟨S8320x4096, .f32⟩
  | .hbm, ⟨10, _⟩ => ⟨S8320x4096, .f32⟩
  | .hbm, ⟨11, _⟩ => ⟨S_, .f32⟩
  | .hbm, ⟨12, _⟩ => ⟨S8320x4096, .f32⟩
  | .hbm, ⟨13, _⟩ => ⟨S8320x4096, .f32⟩
  | .hbm, ⟨14, _⟩ => ⟨S8320x2x2048, .f32⟩
  | .hbm, ⟨15, _⟩ => ⟨S8320x1x2048, .f32⟩
  | .hbm, ⟨16, _⟩ => ⟨S8320x2048, .f32⟩
  | .hbm, ⟨17, _⟩ => ⟨S8320x2048, .f32⟩
  | .hbm, ⟨18, _⟩ => ⟨S8320x1x2048, .f32⟩
  | .hbm, ⟨19, _⟩ => ⟨S8320x2048, .f32⟩
  | .hbm, ⟨20, _⟩ => ⟨S8320x2048, .f32⟩
  | .hbm, ⟨21, _⟩ => ⟨S8320x2048, .f32⟩
  | .hbm, ⟨22, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== OutProj.lean ====
abbrev S8320x2048 : Shape := ⟨2, ![8320, 2048]⟩
abbrev S2048x2048 : Shape := ⟨2, ![2048, 2048]⟩
abbrev S640x2048 : Shape := ⟨2, ![640, 2048]⟩
abbrev S2048x1024 : Shape := ⟨2, ![2048, 1024]⟩
abbrev S640x1024 : Shape := ⟨2, ![640, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8320x2048, .f32⟩
  | .hbm, ⟨1, _⟩ => ⟨S2048x2048, .f32⟩
  | .hbm, ⟨2, _⟩ => ⟨S8320x2048, .f32⟩
  | .hbm, ⟨3, _⟩ => ⟨S8320x2048, .bf16⟩
  | .hbm, ⟨4, _⟩ => ⟨S2048x2048, .bf16⟩
  | .hbm, ⟨5, _⟩ => ⟨S8320x2048, .f32⟩
  | .local _ .vmem, ⟨0, _⟩ => ⟨S640x2048, .bf16⟩
  | .local _ .vmem, ⟨1, _⟩ => ⟨S640x2048, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8320x2048 : Shape := ⟨2, ![8320, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048x2048, .f32⟩
  | .hbm, ⟨2, _⟩ => ⟨S8320x2048, .f32⟩
  | .hbm, ⟨3, _⟩ => ⟨S8320x2048, .f32⟩
  | .hbm, ⟨4, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== RmsNorm.lean ====
abbrev S8320x2048 : Shape := ⟨2, ![8320, 2048]⟩
abbrev S2048 : Shape := ⟨1, ![2048]⟩
abbrev S1x2048 : Shape := ⟨2, ![1, 2048]⟩
abbrev S640x2048 : Shape := ⟨2, ![640, 2048]⟩
abbrev S640 : Shape := ⟨1, ![640]⟩
abbrev S640x1 : Shape := ⟨2, ![640, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8320x2048, .f32⟩
  | .local _ .vmem, ⟨0, _⟩ => ⟨S640x2048, .f32⟩
  | .local _ .vmem, ⟨1, _⟩ => ⟨S640x2048, .f32⟩
  | .local _ .vmem, ⟨2, _⟩ => ⟨S1x2048, .f32⟩
  | .local _ .vmem, ⟨3, _⟩ => ⟨S640x2048, .f32⟩
  | .local _ .vmem, ⟨4, _⟩ => ⟨S640x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsNormRefIdeal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8320x2048, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x2048, .f32⟩
  | .hbm, ⟨14, _⟩ => ⟨S8320x2048, .f32⟩
  | .hbm, ⟨15, _⟩ => ⟨S1x2048, .f32⟩
  | .hbm, ⟨16, _⟩ => ⟨S8320x2048, .f32⟩
  | .hbm, ⟨17, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GatedNorm.lean ====
abbrev S8192x4096 : Shape := ⟨2, ![8192, 4096]⟩
abbrev S128x4096 : Shape := ⟨2, ![128, 4096]⟩
abbrev S8320x19712 : Shape := ⟨2, ![8320, 19712]⟩
abbrev S4096 : Shape := ⟨1, ![4096]⟩
abbrev S1x4096 : Shape := ⟨2, ![1, 4096]⟩
abbrev S8320x4096 : Shape := ⟨2, ![8320, 4096]⟩
abbrev S128 : Shape := ⟨1, ![128]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S8320x19712, .f32⟩
  | .hbm, ⟨3, _⟩ => ⟨S4096, .f32⟩
  | .hbm, ⟨4, _⟩ => ⟨S1x4096, .f32⟩
  | .hbm, ⟨5, _⟩ => ⟨S8320x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S1x4096, .f32⟩
  | .local _ .vmem, ⟨6, _⟩ => ⟨S128x4096, .bf16⟩
  | .local _ .vmem, ⟨7, _⟩ => ⟨S128x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatedNormRefIdeal.lean ====
abbrev S8192x4096 : Shape := ⟨2, ![8192, 4096]⟩
abbrev S128x4096 : Shape := ⟨2, ![128, 4096]⟩
abbrev S8320x19712 : Shape := ⟨2, ![8320, 19712]⟩
abbrev S4096 : Shape := ⟨1, ![4096]⟩
abbrev S8320x4096 : Shape := ⟨2, ![8320, 4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S128x4096, .f32⟩
  | .hbm, ⟨2, _⟩ => ⟨S8320x19712, .f32⟩
  | .hbm, ⟨3, _⟩ => ⟨S4096, .f32⟩
  | .hbm, ⟨4, _⟩ => ⟨S8320x4096, .f32⟩
  | .hbm, ⟨5, _⟩ => ⟨S8320x4096, .f32⟩
  | .hbm, ⟨6, _⟩ => ⟨S8320x4096, .f32⟩
  | .hbm, ⟨7, _⟩ => ⟨S8320x4096, .f32⟩
  | .hbm, ⟨8, _⟩ => ⟨S_, .f32⟩
  | .hbm, ⟨9, _⟩ => ⟨S8320x4096, .f32⟩
  | .hbm, ⟨10, _⟩ => ⟨S8320x4096, .f32⟩
  | .hbm, ⟨11, _⟩ => ⟨S_, .f32⟩
  | .hbm, ⟨12, _⟩ => ⟨S8320x4096, .f32⟩
  | .hbm, ⟨13, _⟩ => ⟨S8320x4096, .f32⟩
  | .hbm, ⟨14, _⟩ => ⟨S8320x4096, .f32⟩
  | .hbm, ⟨15, _⟩ => ⟨S8320x4096, .f32⟩
  | .hbm, ⟨16, _⟩ => ⟨S8320x4096, .f32⟩
  | .hbm, ⟨17, _⟩ => ⟨S_, .f32⟩
  | .hbm, ⟨18, _⟩ => ⟨S8320, .f32⟩
  | .hbm, ⟨19, _⟩ => ⟨S8320x1, .f32⟩
  | .hbm, ⟨20, _⟩ => ⟨S_, .f32⟩
  | .hbm, ⟨21, _⟩ => ⟨S8320x1, .f32⟩
  | .hbm, ⟨22, _⟩ => ⟨S8320x1, .f32⟩
  | .hbm, ⟨23, _⟩ => ⟨S_, .f32⟩
  | .hbm, ⟨24, _⟩ => ⟨S8320x1, .f32⟩
  | .hbm, ⟨25, _⟩ => ⟨S8320x1, .f32⟩
  | .hbm, ⟨26, _⟩ => ⟨S8320x1, .f32⟩
  | .hbm, ⟨27, _⟩ => ⟨S8320x4096, .f32⟩
  | .hbm, ⟨28, _⟩ => ⟨S8320x4096, .f32⟩
  | .hbm, ⟨29, _⟩ => ⟨S1x4096, .f32⟩
  | .hbm, ⟨30, _⟩ => ⟨S8320x4096, .f32⟩
  | .hbm, ⟨31, _⟩ => ⟨S8320x4096, .f32⟩
  | .hbm, ⟨32, _⟩ => ⟨S8320x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== ConvPrompt.lean ====
abbrev S8320x19712 : Shape := ⟨2, ![8320, 19712]⟩
abbrev S4x6144 : Shape := ⟨2, ![4, 6144]⟩
abbrev S6144 : Shape := ⟨1, ![6144]⟩
abbrev S1x6144 : Shape := ⟨2, ![1, 6144]⟩
abbrev S8192x6144 : Shape := ⟨2, ![8192, 6144]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S520x512 : Shape := ⟨2, ![520, 512]⟩

abbrev nBuf : Space → Nat
  | .hbm => 5
  | .vmem => 10
  | .smem => 0
  | _ => 0

abbrev bufTy : (tb : Table) → Fin (tcTables nBuf tb) → BufTy
  | .hbm, ⟨0, _⟩ => ⟨S8320x19712, .f32⟩
  | .hbm, ⟨1, _⟩ => ⟨S4x6144, .f32⟩
  | .hbm, ⟨2, _⟩ => ⟨S6144, .f32⟩
  | .hbm, ⟨3, _⟩ => ⟨S1x6144, .f32⟩
  | .hbm, ⟨4, _⟩ => ⟨S8192x6144, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S8320x19712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvPromptRefIdeal.lean ====
abbrev S8320x19712 : Shape := ⟨2, ![8320, 19712]⟩
abbrev S4x6144 : Shape := ⟨2, ![4, 6144]⟩
abbrev S6144 : Shape := ⟨1, ![6144]⟩
abbrev S8192x6144 : Shape := ⟨2, ![8192, 6144]⟩
abbrev S_ : Shape := ⟨0, ![]⟩
abbrev S3x6144 : Shape := ⟨2, ![3, 6144]⟩
abbrev S8195x6144 : Shape := ⟨2, ![8195, 6144]⟩
abbrev S1x6144 : Shape := ⟨2, ![1, 6144]⟩

abbrev nBuf : Space → Nat
  | .hbm => 49
  | .vmem => 0
  | .smem => 0
  | _ => 0

abbrev bufTy : (tb : Table) → Fin (tcTables nBuf tb) → BufTy
  | .hbm, ⟨0, _⟩ => ⟨S8320x19712, .f32⟩
  | .hbm, ⟨1, _⟩ => ⟨S4x6144, .f32⟩
  | .hbm, ⟨2, _⟩ => ⟨S6144, .f32⟩
  | .hbm, ⟨3, _⟩ => ⟨S8192x6144, .f32⟩
  | .hbm, ⟨4, _⟩ => ⟨S_, .f32⟩
  | .hbm, ⟨5, _⟩ => ⟨S3x6144, .f32⟩
  | .hbm, ⟨6, _⟩ => ⟨S8195x6144, .f32⟩
  | .hbm, ⟨7, _⟩ => ⟨S8192x6144, .f32⟩
  | .hbm, ⟨8, _⟩ => ⟨S1x6144, .f32⟩
  | .hbm, ⟨9, _⟩ => ⟨S6144, .f32⟩
  | .hbm, ⟨10, _⟩ => ⟨S1x6144, .f32⟩
  | .hbm, ⟨11, _⟩ => ⟨S8192x6144, .f32⟩
  | .hbm, ⟨12, _⟩ => ⟨S8192x6144, .f32⟩
  | .hbm, ⟨13, _⟩ => ⟨S_, .f32⟩
  | .hbm, ⟨14, _⟩ => ⟨S8192x6144, .f32⟩
  | .hbm, ⟨15, _⟩ => ⟨S8192x6144, .f32⟩
  | .hbm, ⟨16, _⟩ => ⟨S8192x6144, .f32⟩
  | .hbm, ⟨17, _⟩ => ⟨S1x6144, .f32⟩
  | .hbm, ⟨18, _⟩ => ⟨S6144, .f32⟩
  | .hbm, ⟨19, _⟩ => ⟨S1x6144, .f32⟩
  | .hbm, ⟨20, _⟩ => ⟨S8192x6144, .f32⟩
  | .hbm, ⟨21, _⟩ => ⟨S8192x6144, .f32⟩
  | .hbm, ⟨22, _⟩ => ⟨S8192x6144, .f32⟩
  | .hbm, ⟨23, _⟩ => ⟨S8192x6144, .f32⟩
  | .hbm, ⟨24, _⟩ => ⟨S1x6144, .f32⟩
  | .hbm, ⟨25, _⟩ => ⟨S6144, .f32⟩
  | .hbm, ⟨26, _⟩ => ⟨S1x6144, .f32⟩
  | .hbm, ⟨27, _⟩ => ⟨S8192x6144, .f32⟩
  | .hbm, ⟨28, _⟩ => ⟨S8192x6144, .f32⟩
  | .hbm, ⟨29, _⟩ => ⟨S8192x6144, .f32⟩
  | .hbm, ⟨30, _⟩ => ⟨S8192x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S8192x6144, .f32⟩
  | .hbm, ⟨35, _⟩ => ⟨S8192x6144, .f32⟩
  | .hbm, ⟨36, _⟩ => ⟨S8192x6144, .f32⟩
  | .hbm, ⟨37, _⟩ => ⟨S1x6144, .f32⟩
  | .hbm, ⟨38, _⟩ => ⟨S8192x6144, .f32⟩
  | .hbm, ⟨39, _⟩ => ⟨S8192x6144, .f32⟩
  | .hbm, ⟨40, _⟩ => ⟨S8192x6144, .f32⟩
  | .hbm, ⟨41, _⟩ => ⟨S8192x6144, .f32⟩
  | .hbm, ⟨42, _⟩ => ⟨S_, .f32⟩
  | .hbm, ⟨43, _⟩ => ⟨S8192x6144, .f32⟩
  | .hbm, ⟨44, _⟩ => ⟨S8192x6144, .f32⟩
  | .hbm, ⟨45, _⟩ => ⟨S_, .f32⟩
  | .hbm, ⟨46, _⟩ => ⟨S8192x6144, .f32⟩
  | .hbm, ⟨47, _⟩ => ⟨S8192x6144, .f32⟩
  | .hbm, ⟨48, _⟩ => ⟨S8192x6144, .f32⟩
  | _, _ => ⟨S8320x19712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== ConvSample.lean ====
abbrev S128x3x6144 : Shape := ⟨3, ![128, 3, 6144]⟩
abbrev S128x6144 : Shape := ⟨2, ![128, 6144]⟩
abbrev S4x6144 : Shape := ⟨2, ![4, 6144]⟩
abbrev S6144 : Shape := ⟨1, ![6144]⟩
abbrev S3x128x6144 : Shape := ⟨3, ![3, 128, 6144]⟩
abbrev S1x6144 : Shape := ⟨2, ![1, 6144]⟩
abbrev S3x128x1024 : Shape := ⟨3, ![3, 128, 1024]⟩
abbrev S128x1024 : Shape := ⟨2, ![128, 1024]⟩
abbrev S4x1024 : Shape := ⟨2, ![4, 1024]⟩
abbrev S1x1024 : Shape := ⟨2, ![1, 1024]⟩
abbrev S1x128x1024 : Shape := ⟨3, ![1, 128, 1024]⟩

abbrev nBuf : Space → Nat
  | .hbm => 7
  | .vmem => 10
  | .smem => 0
  | _ => 0

abbrev bufTy : (tb : Table) → Fin (tcTables nBuf tb) → BufTy
  | .hbm, ⟨0, _⟩ => ⟨S128x3x6144, .f32⟩
  | .hbm, ⟨1, _⟩ => ⟨S128x6144, .f32⟩
  | .hbm, ⟨2, _⟩ => ⟨S4x6144, .f32⟩
  | .hbm, ⟨3, _⟩ => ⟨S6144, .f32⟩
  | .hbm, ⟨4, _⟩ => ⟨S3x128x6144, .f32⟩
  | .hbm, ⟨5, _⟩ => ⟨S1x6144, .f32⟩
  | .hbm, ⟨6, _⟩ => ⟨S128x6144, .f32⟩
  | .local _ .vmem, ⟨0, _⟩ => ⟨S3x128x1024, .f32⟩
  | .local _ .vmem, ⟨1, _⟩ => ⟨S3x128x1024, .f32⟩
  | .local _ .vmem, ⟨2, _⟩ => ⟨S128x1024, .f32⟩
  | .local _ .vmem, ⟨3, _⟩ => ⟨S128x1024, .f32⟩
  | .local _ .vmem, ⟨4, _⟩ => ⟨S4x1024, .f32⟩
  | .local _ .vmem, ⟨5, _⟩ => ⟨S4x1024, .f32⟩
  | .local _ .vmem, ⟨6, _⟩ => ⟨S1x1024, .f32⟩
  | .local _ .vmem, ⟨7, _⟩ => ⟨S1x1024, .f32⟩
  | .local _ .vmem, ⟨8, _⟩ => ⟨S128x1024, .f32⟩
  | .local _ .vmem, ⟨9, _⟩ => ⟨S128x1024, .f32⟩
  | _, _ => ⟨S128x3x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvSampleRefIdeal.lean ====
abbrev S128x3x6144 : Shape := ⟨3, ![128, 3, 6144]⟩
abbrev S128x6144 : Shape := ⟨2, ![128, 6144]⟩
abbrev S4x6144 : Shape := ⟨2, ![4, 6144]⟩
abbrev S6144 : Shape := ⟨1, ![6144]⟩
abbrev S128x1x6144 : Shape := ⟨3, ![128, 1, 6144]⟩
abbrev S128x4x6144 : Shape := ⟨3, ![128, 4, 6144]⟩
abbrev S1x6144 : Shape := ⟨2, ![1, 6144]⟩
abbrev S1x1x6144 : Shape := ⟨3, ![1, 1, 6144]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S128x3x6144, .f32⟩
  | .hbm, ⟨1, _⟩ => ⟨S128x6144, .f32⟩
  | .hbm, ⟨2, _⟩ => ⟨S4x6144, .f32⟩
  | .hbm, ⟨3, _⟩ => ⟨S6144, .f32⟩
  | .hbm, ⟨4, _⟩ => ⟨S128x1x6144, .f32⟩
  | .hbm, ⟨5, _⟩ => ⟨S128x4x6144, .f32⟩
  | .hbm, ⟨6, _⟩ => ⟨S128x1x6144, .f32⟩
  | .hbm, ⟨7, _⟩ => ⟨S1x6144, .f32⟩
  | .hbm, ⟨8, _⟩ => ⟨S6144, .f32⟩
  | .hbm, ⟨9, _⟩ => ⟨S1x1x6144, .f32⟩
  | .hbm, ⟨10, _⟩ => ⟨S128x1x6144, .f32⟩
  | .hbm, ⟨11, _⟩ => ⟨S128x1x6144, .f32⟩
  | .hbm, ⟨12, _⟩ => ⟨S_, .f32⟩
  | .hbm, ⟨13, _⟩ => ⟨S128x1x6144, .f32⟩
  | .hbm, ⟨14, _⟩ => ⟨S128x1x6144, .f32⟩
  | .hbm, ⟨15, _⟩ => ⟨S128x1x6144, .f32⟩
  | .hbm, ⟨16, _⟩ => ⟨S1x6144, .f32⟩
  | .hbm, ⟨17, _⟩ => ⟨S6144, .f32⟩
  | .hbm, ⟨18, _⟩ => ⟨S1x1x6144, .f32⟩
  | .hbm, ⟨19, _⟩ => ⟨S128x1x6144, .f32⟩
  | .hbm, ⟨20, _⟩ => ⟨S128x1x6144, .f32⟩
  | .hbm, ⟨21, _⟩ => ⟨S128x1x6144, .f32⟩
  | .hbm, ⟨22, _⟩ => ⟨S128x1x6144, .f32⟩
  | .hbm, ⟨23, _⟩ => ⟨S1x6144, .f32⟩
  | .hbm, ⟨24, _⟩ => ⟨S6144, .f32⟩
  | .hbm, ⟨25, _⟩ => ⟨S1x1x6144, .f32⟩
  | .hbm, ⟨26, _⟩ => ⟨S128x1x6144, .f32⟩
  | .hbm, ⟨27, _⟩ => ⟨S128x1x6144, .f32⟩
  | .hbm, ⟨28, _⟩ => ⟨S128x1x6144, .f32⟩
  | .hbm, ⟨29, _⟩ => ⟨S128x1x6144, .f32⟩
  | .hbm, ⟨30, _⟩ => ⟨S1x6144, .f32⟩
  | .hbm, ⟨31, _⟩ => ⟨S6144, .f32⟩
  | .hbm, ⟨32, _⟩ => ⟨S1x1x6144, .f32⟩
  | .hbm, ⟨33, _⟩ => ⟨S128x1x6144, .f32⟩
  | .hbm, ⟨34, _⟩ => ⟨S128x1x6144, .f32⟩
  | .hbm, ⟨35, _⟩ => ⟨S128x1x6144, .f32⟩
  | .hbm, ⟨36, _⟩ => ⟨S1x1x6144, .f32⟩
  | .hbm, ⟨37, _⟩ => ⟨S128x1x6144, .f32⟩
  | .hbm, ⟨38, _⟩ => ⟨S128x1x6144, .f32⟩
  | .hbm, ⟨39, _⟩ => ⟨S128x1x6144, .f32⟩
  | .hbm, ⟨40, _⟩ => ⟨S128x1x6144, .f32⟩
  | .hbm, ⟨41, _⟩ => ⟨S_, .f32⟩
  | .hbm, ⟨42, _⟩ => ⟨S128x1x6144, .f32⟩
  | .hbm, ⟨43, _⟩ => ⟨S128x1x6144, .f32⟩
  | .hbm, ⟨44, _⟩ => ⟨S_, .f32⟩
  | .hbm, ⟨45, _⟩ => ⟨S128x1x6144, .f32⟩
  | .hbm, ⟨46, _⟩ => ⟨S128x1x6144, .f32⟩
  | .hbm, ⟨47, _⟩ => ⟨S128x1x6144, .f32⟩
  | .hbm, ⟨48, _⟩ => ⟨S128x6144, .f32⟩
  | _, _ => ⟨S128x3x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== CmpBias.lean ====
abbrev S2x32x128 : Shape := ⟨3, ![2, 32, 128]⟩
abbrev S2x32x128x128 : Shape := ⟨4, ![2, 32, 128, 128]⟩
abbrev S2x128 : Shape := ⟨2, ![2, 128]⟩
abbrev S2x1x4096 : Shape := ⟨3, ![2, 1, 4096]⟩
abbrev S2x8x4096 : Shape := ⟨3, ![2, 8, 4096]⟩
abbrev S2x4096x128 : Shape := ⟨3, ![2, 4096, 128]⟩
abbrev S2x1x128 : Shape := ⟨3, ![2, 1, 128]⟩
abbrev S2x8x128 : Shape := ⟨3, ![2, 8, 128]⟩
abbrev S1x8x4096 : Shape := ⟨3, ![1, 8, 4096]⟩
abbrev S1x4096x128 : Shape := ⟨3, ![1, 4096, 128]⟩
abbrev S1x8x128 : Shape := ⟨3, ![1, 8, 128]⟩
abbrev S8x128 : Shape := ⟨2, ![8, 128]⟩
abbrev S8x4096 : Shape := ⟨2, ![8, 4096]⟩
abbrev S4096x128 : Shape := ⟨2, ![4096, 128]⟩

abbrev nBuf : Space → Nat
  | .hbm => 11
  | .vmem => 8
  | .smem => 0
  | _ => 0

abbrev bufTy : (tb : Table) → Fin (tcTables nBuf tb) → BufTy
  | .hbm, ⟨0, _⟩ => ⟨S2x32x128, .f32⟩
  | .hbm, ⟨1, _⟩ => ⟨S2x32x128x128, .f32⟩
  | .hbm, ⟨2, _⟩ => ⟨S2x128, .f32⟩
  | .hbm, ⟨3, _⟩ => ⟨S2x1x4096, .f32⟩
  | .hbm, ⟨4, _⟩ => ⟨S2x8x4096, .f32⟩
  | .hbm, ⟨5, _⟩ => ⟨S2x8x4096, .bf16⟩
  | .hbm, ⟨6, _⟩ => ⟨S2x4096x128, .f32⟩
  | .hbm, ⟨7, _⟩ => ⟨S2x4096x128, .bf16⟩
  | .hbm, ⟨8, _⟩ => ⟨S2x1x128, .f32⟩
  | .hbm, ⟨9, _⟩ => ⟨S2x8x128, .f32⟩
  | .hbm, ⟨10, _⟩ => ⟨S2x8x128, .f32⟩
  | .local _ .vmem, ⟨0, _⟩ => ⟨S1x8x4096, .bf16⟩
  | .local _ .vmem, ⟨1, _⟩ => ⟨S1x8x4096, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S2x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CmpBiasRefIdeal.lean ====
abbrev S2x32x128 : Shape := ⟨3, ![2, 32, 128]⟩
abbrev S2x32x128x128 : Shape := ⟨4, ![2, 32, 128, 128]⟩
abbrev S2x128 : Shape := ⟨2, ![2, 128]⟩
abbrev S2x1x128 : Shape := ⟨3, ![2, 1, 128]⟩
abbrev S2x8x128 : Shape := ⟨3, ![2, 8, 128]⟩

abbrev nBuf : Space → Nat
  | .hbm => 7
  | .vmem => 0
  | .smem => 0
  | _ => 0

abbrev bufTy : (tb : Table) → Fin (tcTables nBuf tb) → BufTy
  | .hbm, ⟨0, _⟩ => ⟨S2x32x128, .f32⟩
  | .hbm, ⟨1, _⟩ => ⟨S2x32x128x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x1x128, .f32⟩
  | .hbm, ⟨6, _⟩ => ⟨S2x8x128, .f32⟩
  | _, _ => ⟨S2x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== WinOut.lean ====
abbrev S2x128x512x4x2x128 : Shape := ⟨6, ![2, 128, 512, 4, 2, 128]⟩
abbrev S2x128x1x4x2x128 : Shape := ⟨6, ![2, 128, 1, 4, 2, 128]⟩
abbrev S1x1x512x4x2x128 : Shape := ⟨6, ![1, 1, 512, 4, 2, 128]⟩
abbrev S1x1x1x4x2x128 : Shape := ⟨6, ![1, 1, 1, 4, 2, 128]⟩
abbrev S512x4x2x128 : Shape := ⟨4, ![512, 4, 2, 128]⟩
abbrev S4096x128 : Shape := ⟨2, ![4096, 128]⟩
abbrev S1x4x2x128 : Shape := ⟨4, ![1, 4, 2, 128]⟩
abbrev S8x128 : Shape := ⟨2, ![8, 128]⟩
abbrev S4088x128 : Shape := ⟨2, ![4088, 128]⟩

abbrev nBuf : Space → Nat
  | .hbm => 3
  | .vmem => 6
  | .smem => 0
  | _ => 0

abbrev bufTy : (tb : Table) → Fin (tcTables nBuf tb) → BufTy
  | .hbm, ⟨0, _⟩ => ⟨S2x128x512x4x2x128, .f32⟩
  | .hbm, ⟨1, _⟩ => ⟨S2x128x1x4x2x128, .f32⟩
  | .hbm, ⟨2, _⟩ => ⟨S2x128x512x4x2x128, .f32⟩
  | .local _ .vmem, ⟨0, _⟩ => ⟨S1x1x512x4x2x128, .f32⟩
  | .local _ .vmem, ⟨1, _⟩ => ⟨S1x1x512x4x2x128, .f32⟩
  | .local _ .vmem, ⟨2, _⟩ => ⟨S1x1x1x4x2x128, .f32⟩
  | .local _ .vmem, ⟨3, _⟩ => ⟨S1x1x1x4x2x128, .f32⟩
  | .local _ .vmem, ⟨4, _⟩ => ⟨S1x1x512x4x2x128, .f32⟩
  | .local _ .vmem, ⟨5, _⟩ => ⟨S1x1x512x4x2x128, .f32⟩
  | _, _ => ⟨S2x128x512x4x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_2 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

abbrev stage0_0 : Fin 2 → Memref sig .tc .vmem S1x1x512x4x2x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x4x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x4x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinOutRefIdeal.lean ====
abbrev S2x128x512x4x2x128 : Shape := ⟨6, ![2, 128, 512, 4, 2, 128]⟩
abbrev S2x128x1x4x2x128 : Shape := ⟨6, ![2, 128, 1, 4, 2, 128]⟩
abbrev S2x128x511x4x2x128 : Shape := ⟨6, ![2, 128, 511, 4, 2, 128]⟩

abbrev nBuf : Space → Nat
  | .hbm => 4
  | .vmem => 0
  | .smem => 0
  | _ => 0

abbrev bufTy : (tb : Table) → Fin (tcTables nBuf tb) → BufTy
  | .hbm, ⟨0, _⟩ => ⟨S2x128x512x4x2x128, .f32⟩
  | .hbm, ⟨1, _⟩ => ⟨S2x128x1x4x2x128, .f32⟩
  | .hbm, ⟨2, _⟩ => ⟨S2x128x511x4x2x128, .f32⟩
  | .hbm, ⟨3, _⟩ => ⟨S2x128x512x4x2x128, .f32⟩
  | _, _ => ⟨S2x128x512x4x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Step.lean ====
abbrev S2x128x64x64x128 : Shape := ⟨5, ![2, 128, 64, 64, 128]⟩
abbrev S1x128x128x4096 : Shape := ⟨4, ![1, 128, 128, 4096]⟩
abbrev S128x6144 : Shape := ⟨2, ![128, 6144]⟩
abbrev S128x64 : Shape := ⟨2, ![128, 64]⟩
abbrev S64 : Shape := ⟨1, ![64]⟩
abbrev S2x128x4096x128 : Shape := ⟨4, ![2, 128, 4096, 128]⟩
abbrev S2x128x128x4096 : Shape := ⟨4, ![2, 128, 128, 4096]⟩
abbrev S128x4096 : Shape := ⟨2, ![128, 4096]⟩
abbrev S128x1x4096 : Shape := ⟨3, ![128, 1, 4096]⟩
abbrev S128x1024 : Shape := ⟨2, ![128, 1024]⟩
abbrev S128x8x128 : Shape := ⟨3, ![128, 8, 128]⟩
abbrev S128x128x8 : Shape := ⟨3, ![128, 128, 8]⟩
abbrev S_ : Shape := ⟨0, ![]⟩
abbrev S128x128x128 : Shape := ⟨3, ![128, 128, 128]⟩
abbrev S128x1x64 : Shape := ⟨3, ![128, 1, 64]⟩
abbrev S64x64 : Shape := ⟨2, ![64, 64]⟩
abbrev S4096 : Shape := ⟨1, ![4096]⟩
abbrev S1x4096 : Shape := ⟨2, ![1, 4096]⟩
abbrev S128x64x1 : Shape := ⟨3, ![128, 64, 1]⟩
abbrev S128x64x64 : Shape := ⟨3, ![128, 64, 64]⟩
abbrev S128x8 : Shape := ⟨2, ![128, 8]⟩
abbrev S128x8x1 : Shape := ⟨3, ![128, 8, 1]⟩
abbrev S128x8x512 : Shape := ⟨3, ![128, 8, 512]⟩
abbrev S1x64 : Shape := ⟨2, ![1, 64]⟩
abbrev S1x128 : Shape := ⟨2, ![1, 128]⟩
abbrev S1x1x128x4096 : Shape := ⟨4, ![1, 1, 128, 4096]⟩
abbrev S1x1x4096 : Shape := ⟨3, ![1, 1, 4096]⟩
abbrev S1x8x128 : Shape := ⟨3, ![1, 8, 128]⟩
abbrev S1x128x128 : Shape := ⟨3, ![1, 128, 128]⟩
abbrev S2x1x128x4096 : Shape := ⟨4, ![2, 1, 128, 4096]⟩
abbrev S1x128x4096 : Shape := ⟨3, ![1, 128, 4096]⟩
abbrev S8x128 : Shape := ⟨2, ![8, 128]⟩
abbrev S8x4096 : Shape := ⟨2, ![8, 4096]⟩
abbrev S128x128 : Shape := ⟨2, ![128, 128]⟩

abbrev nBuf : Space → Nat
  | .hbm => 60
  | .vmem => 21
  | .smem => 0
  | _ => 0

abbrev bufTy : (tb : Table) → Fin (tcTables nBuf tb) → BufTy
  | .hbm, ⟨0, _⟩ => ⟨S2x128x64x64x128, .f32⟩
  | .hbm, ⟨1, _⟩ => ⟨S1x128x128x4096, .f32⟩
  | .hbm, ⟨2, _⟩ => ⟨S128x6144, .f32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S2x128x4096x128, .f32⟩
  | .hbm, ⟨8, _⟩ => ⟨S2x128x128x4096, .f32⟩
  | .hbm, ⟨9, _⟩ => ⟨S128x4096, .f32⟩
  | .hbm, ⟨10, _⟩ => ⟨S128x1x4096, .f32⟩
  | .hbm, ⟨11, _⟩ => ⟨S128x1024, .f32⟩
  | .hbm, ⟨12, _⟩ => ⟨S128x8x128, .f32⟩
  | .hbm, ⟨13, _⟩ => ⟨S128x128x8, .f32⟩
  | .hbm, ⟨14, _⟩ => ⟨S128x1024, .f32⟩
  | .hbm, ⟨15, _⟩ => ⟨S128x8x128, .f32⟩
  | .hbm, ⟨16, _⟩ => ⟨S128x128x8, .f32⟩
  | .hbm, ⟨17, _⟩ => ⟨S_, .i32⟩
  | .hbm, ⟨18, _⟩ => ⟨S_, .f32⟩
  | .hbm, ⟨19, _⟩ => ⟨S128x128x128, .f32⟩
  | .hbm, ⟨20, _⟩ => ⟨S_, .i32⟩
  | .hbm, ⟨21, _⟩ => ⟨S_, .f32⟩
  | .hbm, ⟨22, _⟩ => ⟨S128x128x128, .f32⟩
  | .hbm, ⟨23, _⟩ => ⟨S128x1x64, .f32⟩
  | .hbm, ⟨24, _⟩ => ⟨S_, .i32⟩
  | .hbm, ⟨25, _⟩ => ⟨S_, .f32⟩
  | .hbm, ⟨26, _⟩ => ⟨S128x8x128, .f32⟩
  | .hbm, ⟨27, _⟩ => ⟨S64x64, .f32⟩
  | .hbm, ⟨28, _⟩ => ⟨S4096, .f32⟩
  | .hbm, ⟨29, _⟩ => ⟨S1x4096, .f32⟩
  | .hbm, ⟨30, _⟩ => ⟨S128x64, .i32⟩
  | .hbm, ⟨31, _⟩ => ⟨S128x64, .i32⟩
  | .hbm, ⟨32, _⟩ => ⟨S_, .i32⟩
  | .hbm, ⟨33, _⟩ => ⟨S128x64, .i32⟩
  | .hbm, ⟨34, _⟩ => ⟨S128x64, .i32⟩
  | .hbm, ⟨35, _⟩ => ⟨S128x64, .i1⟩
  | .hbm, ⟨36, _⟩ => ⟨S128x64, .bf16⟩
  | .hbm, ⟨37, _⟩ => ⟨S128x64x1, .bf16⟩
  | .hbm, ⟨38, _⟩ => ⟨S128x64x64, .bf16⟩
  | .hbm, ⟨39, _⟩ => ⟨S128x4096, .bf16⟩
  | .hbm, ⟨40, _⟩ => ⟨S128x8, .i32⟩
  | .hbm, ⟨41, _⟩ => ⟨S128x8, .i32⟩
  | .hbm, ⟨42, _⟩ => ⟨S_, .i32⟩
  | .hbm, ⟨43, _⟩ => ⟨S128x8, .i32⟩
  | .hbm, ⟨44, _⟩ => ⟨S128x8, .i32⟩
  | .hbm, ⟨45, _⟩ => ⟨S128x8, .i1⟩
  | .hbm, ⟨46, _⟩ => ⟨S128x8, .bf16⟩
  | .hbm, ⟨47, _⟩ => ⟨S128x8x1, .bf16⟩
  | .hbm, ⟨48, _⟩ => ⟨S128x8x512, .bf16⟩
  | .hbm, ⟨49, _⟩ => ⟨S128x4096, .bf16⟩
  | .hbm, ⟨50, _⟩ => ⟨S1x64, .f32⟩
  | .hbm, ⟨51, _⟩ => ⟨S_, .i32⟩
  | .hbm, ⟨52, _⟩ => ⟨S_, .f32⟩
  | .hbm, ⟨53, _⟩ => ⟨S1x128, .f32⟩
  | .hbm, ⟨54, _⟩ => ⟨S1x64, .f32⟩
  | .hbm, ⟨55, _⟩ => ⟨S_, .i32⟩
  | .hbm, ⟨56, _⟩ => ⟨S_, .f32⟩
  | .hbm, ⟨57, _⟩ => ⟨S1x128, .f32⟩
  | .hbm, ⟨58, _⟩ => ⟨S128x1x4096, .f32⟩
  | .hbm, ⟨59, _⟩ => ⟨S2x128x128x4096, .f32⟩
  | .local _ .vmem, ⟨0, _⟩ => ⟨S1x1x128x4096, .f32⟩
  | .local _ .vmem, ⟨1, _⟩ => ⟨S1x1x128x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x8x128, .f32⟩
  | .local _ .vmem, ⟨5, _⟩ => ⟨S1x8x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128, .f32⟩
  | .local _ .vmem, ⟨11, _⟩ => ⟨S1x128, .f32⟩
  | .local _ .vmem, ⟨12, _⟩ => ⟨S1x4096, .f32⟩
  | .local _ .vmem, ⟨13, _⟩ => ⟨S128x4096, .bf16⟩
  | .local _ .vmem, ⟨14, _⟩ => ⟨S128x4096, .bf16⟩
  | .local _ .vmem, ⟨15, _⟩ => ⟨S1x1x128x4096, .f32⟩
  | .local _ .vmem, ⟨16, _⟩ => ⟨S1x1x128x4096, .f32⟩
  | .local _ .vmem, ⟨17, _⟩ => ⟨S1x1x4096, .f32⟩
  | .local _ .vmem, ⟨18, _⟩ => ⟨S1x1x4096, .f32⟩
  | .local _ .vmem, ⟨19, _⟩ => ⟨S2x1x128x4096, .f32⟩
  | .local _ .vmem, ⟨20, _⟩ => ⟨S2x1x128x4096, .f32⟩
  | _, _ => ⟨S2x128x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_call0_v0 : Ref sig .tc := ⟨.hbm, 18, rfl⟩
abbrev main_v10 : Ref sig .tc := ⟨.hbm, 19, rfl⟩
abbrev main_c_0 : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_call2_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_call3_v0 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_call4_v0 : Ref sig .tc := ⟨.hbm, 56, rfl⟩
abbrev main_v38 : Ref sig .tc := ⟨.hbm, 57, rfl⟩
abbrev main_v39_0 : Ref sig .tc := ⟨.hbm, 58, rfl⟩
abbrev main_v39_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x128x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x128x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== StepRefIdeal.lean ====
abbrev S2x128x64x64x128 : Shape := ⟨5, ![2, 128, 64, 64, 128]⟩
abbrev S1x128x128x4096 : Shape := ⟨4, ![1, 128, 128, 4096]⟩
abbrev S128x6144 : Shape := ⟨2, ![128, 6144]⟩
abbrev S128x64 : Shape := ⟨2, ![128, 64]⟩
abbrev S64 : Shape := ⟨1, ![64]⟩
abbrev S128x4096 : Shape := ⟨2, ![128, 4096]⟩
abbrev S128x64x64 : Shape := ⟨3, ![128, 64, 64]⟩
abbrev S128x1024 : Shape := ⟨2, ![128, 1024]⟩
abbrev S128x8x128 : Shape := ⟨3, ![128, 8, 128]⟩
abbrev S1x64 : Shape := ⟨2, ![1, 64]⟩
abbrev S_ : Shape := ⟨0, ![]⟩
abbrev S128x8x8x128 : Shape := ⟨4, ![128, 8, 8, 128]⟩
abbrev S128x64x128 : Shape := ⟨3, ![128, 64, 128]⟩
abbrev S1x128x64x64x128 : Shape := ⟨5, ![1, 128, 64, 64, 128]⟩
abbrev S128x64x64x128 : Shape := ⟨4, ![128, 64, 64, 128]⟩
abbrev S128x64x1x1 : Shape := ⟨4, ![128, 64, 1, 1]⟩
abbrev S128x64x1 : Shape := ⟨3, ![128, 64, 1]⟩
abbrev S128x64x64x1 : Shape := ⟨4, ![128, 64, 64, 1]⟩
abbrev S128x64x1x128 : Shape := ⟨4, ![128, 64, 1, 128]⟩
abbrev S64x1 : Shape := ⟨2, ![64, 1]⟩
abbrev S1x64x1 : Shape := ⟨3, ![1, 64, 1]⟩
abbrev S128x4096x128 : Shape := ⟨3, ![128, 4096, 128]⟩
abbrev S128x128x4096 : Shape := ⟨3, ![128, 128, 4096]⟩
abbrev S128x1x4096 : Shape := ⟨3, ![128, 1, 4096]⟩
abbrev S2x128x128x4096 : Shape := ⟨4, ![2, 128, 128, 4096]⟩

abbrev nBuf : Space → Nat
  | .hbm => 69
  | .vmem => 0
  | .smem => 0
  | _ => 0

abbrev bufTy : (tb : Table) → Fin (tcTables nBuf tb) → BufTy
  | .hbm, ⟨0, _⟩ => ⟨S2x128x64x64x128, .f32⟩
  | .hbm, ⟨1, _⟩ => ⟨S1x128x128x4096, .f32⟩
  | .hbm, ⟨2, _⟩ => ⟨S128x6144, .f32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128x4096, .f32⟩
  | .hbm, ⟨8, _⟩ => ⟨S128x64x64, .f32⟩
  | .hbm, ⟨9, _⟩ => ⟨S128x1024, .f32⟩
  | .hbm, ⟨10, _⟩ => ⟨S128x8x128, .f32⟩
  | .hbm, ⟨11, _⟩ => ⟨S128x1024, .f32⟩
  | .hbm, ⟨12, _⟩ => ⟨S128x8x128, .f32⟩
  | .hbm, ⟨13, _⟩ => ⟨S1x64, .f32⟩
  | .hbm, ⟨14, _⟩ => ⟨S128x64, .f32⟩
  | .hbm, ⟨15, _⟩ => ⟨S128x64, .f32⟩
  | .hbm, ⟨16, _⟩ => ⟨S_, .f32⟩
  | .hbm, ⟨17, _⟩ => ⟨S128x64, .f32⟩
  | .hbm, ⟨18, _⟩ => ⟨S128x64, .f32⟩
  | .hbm, ⟨19, _⟩ => ⟨S128x64, .f32⟩
  | .hbm, ⟨20, _⟩ => ⟨S128x64, .f32⟩
  | .hbm, ⟨21, _⟩ => ⟨S128x64, .i1⟩
  | .hbm, ⟨22, _⟩ => ⟨S128x64, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S128x64, .f32⟩
  | .hbm, ⟨27, _⟩ => ⟨S128x64, .f32⟩
  | .hbm, ⟨28, _⟩ => ⟨S128x64, .f32⟩
  | .hbm, ⟨29, _⟩ => ⟨S128x64, .f32⟩
  | .hbm, ⟨30, _⟩ => ⟨S64, .f32⟩
  | .hbm, ⟨31, _⟩ => ⟨S64, .f32⟩
  | .hbm, ⟨32, _⟩ => ⟨S1x64, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S128x8x8x128, .f32⟩
  | .hbm, ⟨37, _⟩ => ⟨S128x64x128, .f32⟩
  | .hbm, ⟨38, _⟩ => ⟨S128x8x8x128, .f32⟩
  | .hbm, ⟨39, _⟩ => ⟨S128x64x128, .f32⟩
  | .hbm, ⟨40, _⟩ => ⟨S1x128x64x64x128, .f32⟩
  | .hbm, ⟨41, _⟩ => ⟨S128x64x64x128, .f32⟩
  | .hbm, ⟨42, _⟩ => ⟨S128x64x1x1, .f32⟩
  | .hbm, ⟨43, _⟩ => ⟨S128x64x64x128, .f32⟩
  | .hbm, ⟨44, _⟩ => ⟨S128x64x64x128, .f32⟩
  | .hbm, ⟨45, _⟩ => ⟨S128x64x1, .f32⟩
  | .hbm, ⟨46, _⟩ => ⟨S128x64x64, .f32⟩
  | .hbm, ⟨47, _⟩ => ⟨S128x64x64, .f32⟩
  | .hbm, ⟨48, _⟩ => ⟨S128x64x64x1, .f32⟩
  | .hbm, ⟨49, _⟩ => ⟨S128x64x1x128, .f32⟩
  | .hbm, ⟨50, _⟩ => ⟨S128x64x64x128, .f32⟩
  | .hbm, ⟨51, _⟩ => ⟨S128x64x64x128, .f32⟩
  | .hbm, ⟨52, _⟩ => ⟨S128x64x64x128, .f32⟩
  | .hbm, ⟨53, _⟩ => ⟨S128x64x64x128, .f32⟩
  | .hbm, ⟨54, _⟩ => ⟨S128x64x1x128, .f32⟩
  | .hbm, ⟨55, _⟩ => ⟨S128x64x64x128, .f32⟩
  | .hbm, ⟨56, _⟩ => ⟨S128x64x64x128, .f32⟩
  | .hbm, ⟨57, _⟩ => ⟨S_, .f32⟩
  | .hbm, ⟨58, _⟩ => ⟨S128x64x64, .f32⟩
  | .hbm, ⟨59, _⟩ => ⟨S64x1, .f32⟩
  | .hbm, ⟨60, _⟩ => ⟨S1x64x1, .f32⟩
  | .hbm, ⟨61, _⟩ => ⟨S128x64x64, .f32⟩
  | .hbm, ⟨62, _⟩ => ⟨S128x64x64, .f32⟩
  | .hbm, ⟨63, _⟩ => ⟨S128x64x64, .f32⟩
  | .hbm, ⟨64, _⟩ => ⟨S128x4096x128, .f32⟩
  | .hbm, ⟨65, _⟩ => ⟨S128x128x4096, .f32⟩
  | .hbm, ⟨66, _⟩ => ⟨S128x1x4096, .f32⟩
  | .hbm, ⟨67, _⟩ => ⟨S1x128x128x4096, .f32⟩
  | .hbm, ⟨68, _⟩ => ⟨S2x128x128x4096, .f32⟩
  | _, _ => ⟨S2x128x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Scan.lean ====
abbrev S8192x6144 : Shape := ⟨2, ![8192, 6144]⟩
abbrev S8192x64 : Shape := ⟨2, ![8192, 64]⟩
abbrev S64 : Shape := ⟨1, ![64]⟩
abbrev S8192x1024 : Shape := ⟨2, ![8192, 1024]⟩
abbrev S1024x8192 : Shape := ⟨2, ![1024, 8192]⟩
abbrev S8192x8x8 : Shape := ⟨3, ![8192, 8, 8]⟩
abbrev S8x8192x8 : Shape := ⟨3, ![8, 8192, 8]⟩
abbrev S_ : Shape := ⟨0, ![]⟩
abbrev S8x8192x128 : Shape := ⟨3, ![8, 8192, 128]⟩
abbrev S8x8x8192 : Shape := ⟨3, ![8, 8, 8192]⟩
abbrev S64x64 : Shape := ⟨2, ![64, 64]⟩
abbrev S4096 : Shape := ⟨1, ![4096]⟩
abbrev S1x4096 : Shape := ⟨2, ![1, 4096]⟩
abbrev S128x8 : Shape := ⟨2, ![128, 8]⟩
abbrev S128x8x1 : Shape := ⟨3, ![128, 8, 1]⟩
abbrev S128x8x64 : Shape := ⟨3, ![128, 8, 64]⟩
abbrev S128x512 : Shape := ⟨2, ![128, 512]⟩
abbrev S8x1x8 : Shape := ⟨3, ![8, 1, 8]⟩
abbrev S8x1x128 : Shape := ⟨3, ![8, 1, 128]⟩
abbrev S8x8x1 : Shape := ⟨3, ![8, 8, 1]⟩
abbrev S8192x4096 : Shape := ⟨2, ![8192, 4096]⟩
abbrev S8x128x512 : Shape := ⟨3, ![8, 128, 512]⟩
abbrev S256x512 : Shape := ⟨2, ![256, 512]⟩
abbrev S256x128 : Shape := ⟨2, ![256, 128]⟩
abbrev S128x256 : Shape := ⟨2, ![128, 256]⟩
abbrev S1x256x128 : Shape := ⟨3, ![1, 256, 128]⟩
abbrev S1x8x256 : Shape := ⟨3, ![1, 8, 256]⟩
abbrev S1x1x128 : Shape := ⟨3, ![1, 1, 128]⟩
abbrev S1x8x1 : Shape := ⟨3, ![1, 8, 1]⟩
abbrev S1x512 : Shape := ⟨2, ![1, 512]⟩
abbrev S1x128x512 : Shape := ⟨3, ![1, 128, 512]⟩
abbrev S1x128 : Shape := ⟨2, ![1, 128]⟩
abbrev S8x256 : Shape := ⟨2, ![8, 256]⟩
abbrev S8x1 : Shape := ⟨2, ![8, 1]⟩
abbrev S256x256 : Shape := ⟨2, ![256, 256]⟩
abbrev S8x128 : Shape := ⟨2, ![8, 128]⟩
abbrev S8x512 : Shape := ⟨2, ![8, 512]⟩
abbrev S256x1 : Shape := ⟨2, ![256, 1]⟩
abbrev S1x256 : Shape := ⟨2, ![1, 256]⟩
abbrev S512x128 : Shape := ⟨2, ![512, 128]⟩

abbrev nBuf : Space → Nat
  | .hbm => 39
  | .vmem => 28
  | .smem => 0
  | _ => 0

abbrev bufTy : (tb : Table) → Fin (tcTables nBuf tb) → BufTy
  | .hbm, ⟨0, _⟩ => ⟨S8192x6144, .f32⟩
  | .hbm, ⟨1, _⟩ => ⟨S8192x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S8192x1024, .f32⟩
  | .hbm, ⟨6, _⟩ => ⟨S1024x8192, .f32⟩
  | .hbm, ⟨7, _⟩ => ⟨S1024x8192, .bf16⟩
  | .hbm, ⟨8, _⟩ => ⟨S8192x8x8, .f32⟩
  | .hbm, ⟨9, _⟩ => ⟨S8x8192x8, .f32⟩
  | .hbm, ⟨10, _⟩ => ⟨S_, .i32⟩
  | .hbm, ⟨11, _⟩ => ⟨S_, .f32⟩
  | .hbm, ⟨12, _⟩ => ⟨S8x8192x128, .f32⟩
  | .hbm, ⟨13, _⟩ => ⟨S8x8x8192, .f32⟩
  | .hbm, ⟨14, _⟩ => ⟨S64x64, .f32⟩
  | .hbm, ⟨15, _⟩ => ⟨S4096, .f32⟩
  | .hbm, ⟨16, _⟩ => ⟨S1x4096, .f32⟩
  | .hbm, ⟨17, _⟩ => ⟨S128x8, .i32⟩
  | .hbm, ⟨18, _⟩ => ⟨S128x8, .i32⟩
  | .hbm, ⟨19, _⟩ => ⟨S_, .i32⟩
  | .hbm, ⟨20, _⟩ => ⟨S128x8, .i32⟩
  | .hbm, ⟨21, _⟩ => ⟨S128x8, .i32⟩
  | .hbm, ⟨22, _⟩ => ⟨S128x8, .i1⟩
  | .hbm, ⟨23, _⟩ => ⟨S128x8, .bf16⟩
  | .hbm, ⟨24, _⟩ => ⟨S128x8x1, .bf16⟩
  | .hbm, ⟨25, _⟩ => ⟨S128x8x64, .bf16⟩
  | .hbm, ⟨26, _⟩ => ⟨S128x512, .bf16⟩
  | .hbm, ⟨27, _⟩ => ⟨S8x1x8, .f32⟩
  | .hbm, ⟨28, _⟩ => ⟨S_, .i32⟩
  | .hbm, ⟨29, _⟩ => ⟨S_, .f32⟩
  | .hbm, ⟨30, _⟩ => ⟨S8x1x128, .f32⟩
  | .hbm, ⟨31, _⟩ => ⟨S8x8x1, .f32⟩
  | .hbm, ⟨32, _⟩ => ⟨S8x1x8, .f32⟩
  | .hbm, ⟨33, _⟩ => ⟨S_, .i32⟩
  | .hbm, ⟨34, _⟩ => ⟨S_, .f32⟩
  | .hbm, ⟨35, _⟩ => ⟨S8x1x128, .f32⟩
  | .hbm, ⟨36, _⟩ => ⟨S8x8x1, .f32⟩
  | .hbm, ⟨37, _⟩ => ⟨S8192x4096, .f32⟩
  | .hbm, ⟨38, _⟩ => ⟨S8x128x512, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S128x256, .bf16⟩
  | .local _ .vmem, ⟨7, _⟩ => ⟨S128x256, .bf16⟩
  | .local _ .vmem, ⟨8, _⟩ => ⟨S1x256x128, .f32⟩
  | .local _ .vmem, ⟨9, _⟩ => ⟨S1x256x128, .f32⟩
  | .local _ .vmem, ⟨10, _⟩ => ⟨S1x8x256, .f32⟩
  | .local _ .vmem, ⟨11, _⟩ => ⟨S1x8x256, .f32⟩
  | .local _ .vmem, ⟨12, _⟩ => ⟨S1x1x128, .f32⟩
  | .local _ .vmem, ⟨13, _⟩ => ⟨S1x1x128, .f32⟩
  | .local _ .vmem, ⟨14, _⟩ => ⟨S1x8x1, .f32⟩
  | .local _ .vmem, ⟨15, _⟩ => ⟨S1x8x1, .f32⟩
  | .local _ .vmem, ⟨16, _⟩ => ⟨S1x1x128, .f32⟩
  | .local _ .vmem, ⟨17, _⟩ => ⟨S1x1x128, .f32⟩
  | .local _ .vmem, ⟨18, _⟩ => ⟨S1x8x1, .f32⟩
  | .local _ .vmem, ⟨19, _⟩ => ⟨S1x8x1, .f32⟩
  | .local _ .vmem, ⟨20, _⟩ => ⟨S1x512, .f32⟩
  | .local _ .vmem, ⟨21, _⟩ => ⟨S1x512, .f32⟩
  | .local _ .vmem, ⟨22, _⟩ => ⟨S128x512, .bf16⟩
  | .local _ .vmem, ⟨23, _⟩ => ⟨S256x512, .f32⟩
  | .local _ .vmem, ⟨24, _⟩ => ⟨S256x512, .f32⟩
  | .local _ .vmem, ⟨25, _⟩ => ⟨S1x128x512, .f32⟩
  | .local _ .vmem, ⟨26, _⟩ => ⟨S1x128x512, .f32⟩
  | .local _ .vmem, ⟨27, _⟩ => ⟨S128x512, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_call1_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_call2_v0 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v254 : BitVec 1 := Scalar.cmpi .eq arg1 c31_i32
  let v255 : BitVec 32 := Scalar.extui v254
  let c0_i32_81 : BitVec 32 := 0#32
  let v256 : BitVec 1 := Scalar.cmpi .ne v255 c0_i32_81
  v256

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ScanIdeal.lean ====
variable {F : FTy → Type} [FloatOps F] [Named F]
def κ : String → Option EReal := fun
  | "mask" => some ⊥
  | _ => none
-- ==== ScanRefIdeal.lean ====
abbrev S8192x6144 : Shape := ⟨2, ![8192, 6144]⟩
abbrev S8192x64 : Shape := ⟨2, ![8192, 64]⟩
abbrev S64 : Shape := ⟨1, ![64]⟩
abbrev S8192x4096 : Shape := ⟨2, ![8192, 4096]⟩
abbrev S8192x8x8x64 : Shape := ⟨4, ![8192, 8, 8, 64]⟩
abbrev S8192x1024 : Shape := ⟨2, ![8192, 1024]⟩
abbrev S8192x8x128 : Shape := ⟨3, ![8192, 8, 128]⟩
abbrev S1x64 : Shape := ⟨2, ![1, 64]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x8192x1 : Shape := ⟨3, ![8192, 8192, 1]⟩
abbrev S1x8192x64 : Shape := ⟨3, ![1, 8192, 64]⟩
abbrev S8192x8192x64 : Shape := ⟨3, ![8192, 8192, 64]⟩
abbrev S8192x8x8 : Shape := ⟨3, ![8192, 8, 8]⟩
abbrev S8192x8x8x1 : Shape := ⟨4, ![8192, 8, 8, 1]⟩
abbrev S8x128x8x64 : Shape := ⟨4, ![8, 128, 8, 64]⟩
abbrev S8x128x512 : Shape := ⟨3, ![8, 128, 512]⟩

abbrev nBuf : Space → Nat
  | .hbm => 56
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S8192x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S8192x4096, .f32⟩
  | .hbm, ⟨6, _⟩ => ⟨S8192x8x8x64, .f32⟩
  | .hbm, ⟨7, _⟩ => ⟨S8192x1024, .f32⟩
  | .hbm, ⟨8, _⟩ => ⟨S8192x8x128, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .i1⟩
  | .hbm, ⟨18, _⟩ => ⟨S8192x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S64, .f32⟩
  | .hbm, ⟨27, _⟩ => ⟨S64, .f32⟩
  | .hbm, ⟨28, _⟩ => ⟨S1x64, .f32⟩
  | .hbm, ⟨29, _⟩ => ⟨S8192x64, .f32⟩
  | .hbm, ⟨30, _⟩ => ⟨S8192x64, .f32⟩
  | .hbm, ⟨31, _⟩ => ⟨S8192, .i32⟩
  | .hbm, ⟨32, _⟩ => ⟨S1x8192, .i32⟩
  | .hbm, ⟨33, _⟩ => ⟨S8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S8192x8192x1, .i1⟩
  | .hbm, ⟨39, _⟩ => ⟨S1x8192x64, .f32⟩
  | .hbm, ⟨40, _⟩ => ⟨S_, .f32⟩
  | .hbm, ⟨41, _⟩ => ⟨S_, .f32⟩
  | .hbm, ⟨42, _⟩ => ⟨S8192x8192x64, .i1⟩
  | .hbm, ⟨43, _⟩ => ⟨S8192x8192x64, .f32⟩
  | .hbm, ⟨44, _⟩ => ⟨S8192x8192x64, .f32⟩
  | .hbm, ⟨45, _⟩ => ⟨S8192x8192x64, .f32⟩
  | .hbm, ⟨46, _⟩ => ⟨S_, .f32⟩
  | .hbm, ⟨47, _⟩ => ⟨S8192x64, .f32⟩
  | .hbm, ⟨48, _⟩ => ⟨S8192x64, .f32⟩
  | .hbm, ⟨49, _⟩ => ⟨S8192x64, .f32⟩
  | .hbm, ⟨50, _⟩ => ⟨S8192x8x8, .f32⟩
  | .hbm, ⟨51, _⟩ => ⟨S8192x8x8x1, .f32⟩
  | .hbm, ⟨52, _⟩ => ⟨S8192x8x8x64, .f32⟩
  | .hbm, ⟨53, _⟩ => ⟨S8192x8x8x64, .f32⟩
  | .hbm, ⟨54, _⟩ => ⟨S8x128x8x64, .f32⟩
  | .hbm, ⟨55, _⟩ => ⟨S8x128x512, .f32⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_v22 : Ref sig .tc := ⟨.hbm, 45, rfl⟩
abbrev main_cst_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== Proof.MoeValue.lean ====
/-
  The mixture of experts. The kernel walks the sixteen experts of each row tile, adds every expert's gated
  contribution into a scratch block, and after the last one writes the residual plus that block. Over the extended
  reals this is the residual plus the contraction over the expert and the hidden axis together.
-/
module

public import proofs.«01_k».proof.Defs
public import proofs.«01_k».proof.Proof.Gen.MoeIdeal.Frame
public import proofs.«01_k».proof.Proof.Gen.MoeRefIdeal.Run
public import Idealize.ShloMosaic.Lib.Pipeline.ValueKit
public import Idealize.ShloMosaic.Lib.Claim
public import Idealize.ShloMosaic.Lib.Pipeline.ReadBack
public import Idealize.ShloMosaic.Lib.WordCmp
public import proofs.«01_k».proof.Proof.Gen.MoeRefIdeal.Read

@[expose] public section

set_option maxRecDepth 16384

noncomputable section

open Idealize.ShloMosaic Idealize.ShloMosaic.TcCoe Idealize.SL.Sem

namespace Cert.MoeIdeal.Experts

open Cert.MoeIdeal Cert.MoeIdeal.Gen
open Idealize.ShloMosaic.Pipeline (Dat)

variable (m : (ℓ : Loc nD τ sig) → Buf (Elt Ideal) ℓ)

/-- The windows' blocks at point `t`: row tile `t / 16`, expert `t % 16`. -/
theorem places : ∀ t : Fin cfg0.N, win0_0.index t = ![t.val / 16, 0] ∧ win0_1.index t = ![t.val % 16, 0, 0]
    ∧ win0_2.index t = ![t.val % 16, 0, 0] ∧ win0_3.index t = ![t.val / 16, 0] ∧ win0_4.index t = ![t.val / 16, 0]
    ∧ win0_5.index t = ![t.val / 16, 0] ∧ (grid0.coords t 1).val = t.val % 16 :=
  (by decide +kernel : ∀ t : Fin grid0.N, _)

/-- Summing a row over the lanes that equal `e` leaves the row's entry at `e`. -/
theorem lane_pick (g : Fin 128 → EReal) (e : ℕ) (he : e < 128) :
    ∑ l : Fin 128, Scalar.select (IntOp.cmpi CmpIPredicate.eq (BitVec.ofNat 32 l.val) (BitVec.ofNat 32 e)) (g l) 0
      = g ⟨e, he⟩ := by
  rw [Finset.sum_eq_single (⟨e, he⟩ : Fin 128)]
  · rw [Scalar.select, WordCmp.cmpi_eq_ofNat (by omega) (by omega)]; simp
  · intro l _ hl
    have : ¬ l.val = e := fun h => hl (Fin.ext h)
    rw [Scalar.select, WordCmp.cmpi_eq_ofNat (by omega) (by omega)]; simp [this]
  · intro h; exact absurd (Finset.mem_univ _) h

/-- What one expert adds at a row and a column: the gated hidden row against the expert's output column. -/
abbrev part (e : ℕ) (he : e < 128) (H : FVec Ideal S640x2048 .bf16) (U : FVec Ideal S1x2048x1024 .bf16)
    (G : FVec Ideal S640x128 .f32) (D : FVec Ideal S1x512x2048 .bf16) (j : S640x2048.Idx) : EReal :=
  ∑ f : Fin 512,
    (((∑ k : Fin 2048, H (ix2 (j 0) k) * U (ix3 0 k ⟨f.val, by omega⟩)) *
        Ideal.logistic (∑ k : Fin 2048, H (ix2 (j 0) k) * U (ix3 0 k ⟨f.val, by omega⟩)) *
        ∑ k : Fin 2048, H (ix2 (j 0) k) * U (ix3 0 k ⟨512 + f.val, by omega⟩)) *
      G (ix2 (j 0) ⟨e, he⟩)) * D (ix3 0 f (j 1))

/-- The body's accumulating store at an index: the old scratch entry plus the expert's part. -/
theorem step_apply (i : grid0.Coords) (e : ℕ) (he : e < 128) (hi : (i 1).val = e) (H : FVec Ideal S640x2048 .bf16) (U : FVec Ideal S1x2048x1024 .bf16)
    (G : FVec Ideal S640x128 .f32) (A : FVec Ideal S640x2048 .f32) (D : FVec Ideal S1x512x2048 .bf16) (j) :
    k0_pay3 (F := Ideal) i H U G A D j = A j + part e he H U G D j := by
  pointwise [k0_pay3]
  rw [hi, lane_pick (fun l => G (ix2 (j 0) l)) e he]

/-- The scratch starts at zero. -/
theorem start_apply (j) : k0_pay2 (F := Ideal) j = 0 := by pointwise [k0_pay2]

/-- The scratch after the last expert of a row tile: the sum of the sixteen parts. -/
theorem scratch_sum (c : Dev nD) (t : Fin cfg0.N) (ht : t.val % 16 = 15) (j) :
    (outsAt0 m c t.val t.isLt).2 j = ∑ s : Fin 16,
      (fun (p : Fin cfg0.N) (j : S640x2048.Idx) => part (p.val % 16) (by omega) (iblk m c 0 p) (iblk m c 1 p) (iblk m c 3 p) (iblk m c 2 p) j)
        ⟨16 * (t.val / 16) + s.val, Pipeline.run_point_lt_of_flush t ht s⟩ j := by
  refine (Pipeline.eq_sum_fin_of_reset_step_apply_of_flush (fun n h => (outsAt0 m c n h).2) 16 (fun _ => (0 : EReal))
    (fun (p : Fin cfg0.N) (j : S640x2048.Idx) => part (p.val % 16) (by omega) (iblk m c 0 p) (iblk m c 1 p) (iblk m c 3 p) (iblk m c 2 p) j)
    (fun t h j => ?_) (fun t h j => ?_) t ht j).trans (zero_add _)
  · rw [outsAt0_A m c t h (by omega)]
    frame_out
    rw [step_apply _ (t.val % 16) (by omega) (places t).2.2.2.2.2.2, start_apply]
  · by_cases h1 : t.val % 16 = 15
    · rw [outsAt0_C m c t h h1]
      frame_out
      simp only [read_unread_whole]
      rw [step_apply _ (t.val % 16) (by omega) (places t).2.2.2.2.2.2]
    · rw [outsAt0_B m c t h h1]
      frame_out
      simp only [read_unread_whole]
      rw [step_apply _ (t.val % 16) (by omega) (places t).2.2.2.2.2.2]

/-- What the last expert's point writes back: the residual block plus the scratch. -/
theorem written (c : Dev nD) (t : Fin cfg0.N) (ht : t.val % 16 = 15) (j : S640x2048.Idx) :
    (outsAt0 m c t.val t.isLt).1 j = (show FVec Ideal S640x2048 .f32 from iblk m c 4 t) j + (outsAt0 m c t.val t.isLt).2 j := by
  rw [outsAt0_C m c t (by omega) ht]
  frame_out
  rfl

/-- One expert's contribution at a row and a column, over the argument arrays. -/
def share (H : FVec Ideal S8320x2048 .f32) (G : FVec Ideal S8320x128 .f32) (U : FVec Ideal S16x2048x1024 .f32)
    (D : FVec Ideal S16x512x2048 .f32) (r : Fin 8320) (e : Fin 16) (q : Fin 2048) : EReal :=
  ∑ f : Fin 512,
    (((∑ k : Fin 2048, H (ix2 r k) * U (ix3 e k ⟨f.val, by omega⟩)) *
        Ideal.logistic (∑ k : Fin 2048, H (ix2 r k) * U (ix3 e k ⟨f.val, by omega⟩)) *
        ∑ k : Fin 2048, H (ix2 r k) * U (ix3 e k ⟨512 + f.val, by omega⟩)) *
      G (ix2 r ⟨e.val, by omega⟩)) * D (ix3 e f q)

/-- The row of the whole array at row `r` of the tile of point `p`. -/
abbrev row (p : Fin cfg0.N) (r : Fin 640) : Fin 8320 :=
  ⟨p.val / 16 * 640 + r.val, by have := lt_of_lt_of_eq p.isLt (show cfg0.N = 208 from N_0); omega⟩

/-- The token block at point `p`. -/
theorem read_tokens (c : Dev nD) (p : Fin cfg0.N) (r : Fin 640) (k : Fin 2048) :
    (show FVec Ideal S640x2048 .bf16 from iblk m c 0 p) (ix2 r k)
      = (show FVec Ideal S8320x2048 .f32 from m ((c : Thread nD τ).loc main_arg0)) (ix2 (row p r) k) := by
  blk_ext! [iblk, V, places p]

/-- The expert's input weights at point `p`. -/
theorem read_up (c : Dev nD) (p : Fin cfg0.N) (k : Fin 2048) (f : Fin 1024) :
    (show FVec Ideal S1x2048x1024 .bf16 from iblk m c 1 p) (ix3 0 k f)
      = (show FVec Ideal S16x2048x1024 .f32 from m ((c : Thread nD τ).loc main_arg3)) (ix3 ⟨p.val % 16, by omega⟩ k f) := by
  blk_ext! [iblk, V, places p]

/-- The expert's output weights at point `p`. -/
theorem read_down (c : Dev nD) (p : Fin cfg0.N) (f : Fin 512) (q : Fin 2048) :
    (show FVec Ideal S1x512x2048 .bf16 from iblk m c 2 p) (ix3 0 f q)
      = (show FVec Ideal S16x512x2048 .f32 from m ((c : Thread nD τ).loc main_arg4)) (ix3 ⟨p.val % 16, by omega⟩ f q) := by
  blk_ext! [iblk, V, places p]

/-- The gate block at point `p`. -/
theorem read_gate (c : Dev nD) (p : Fin cfg0.N) (r : Fin 640) (l : Fin 128) :
    (show FVec Ideal S640x128 .f32 from iblk m c 3 p) (ix2 r l)
      = (show FVec Ideal S8320x128 .f32 from m ((c : Thread nD τ).loc main_arg1)) (ix2 (row p r) l) := by
  blk_ext! [iblk, V, places p]

/-- The residual block at point `p`. -/
theorem read_residual (c : Dev nD) (p : Fin cfg0.N) (y : S640x2048.Idx) :
    (show FVec Ideal S640x2048 .f32 from iblk m c 4 p) y
      = (show FVec Ideal S8320x2048 .f32 from m ((c : Thread nD τ).loc main_arg2)) (ix2 (row p (y 0)) (y 1)) := by
  blk_ext! [iblk, V, places p]

/-- The part added at point `p` is the share of expert `p % 16` at that tile's rows. -/
theorem part_eq (c : Dev nD) (p : Fin cfg0.N) (y : S640x2048.Idx) :
    part (p.val % 16) (by omega) (iblk m c 0 p) (iblk m c 1 p) (iblk m c 3 p) (iblk m c 2 p) y
      = share (m ((c : Thread nD τ).loc main_arg0)) (m ((c : Thread nD τ).loc main_arg1)) (m ((c : Thread nD τ).loc main_arg3))
          (m ((c : Thread nD τ).loc main_arg4)) (row p (y 0)) ⟨p.val % 16, by omega⟩ (y 1) := by
  unfold share part
  refine Finset.sum_congr rfl fun f _ => ?_
  have hu : ∀ g : Fin 1024, (∑ k : Fin 2048, (show FVec Ideal S640x2048 .bf16 from iblk m c 0 p) (ix2 (y 0) k) *
      (show FVec Ideal S1x2048x1024 .bf16 from iblk m c 1 p) (ix3 0 k g)) = ∑ k : Fin 2048,
      (show FVec Ideal S8320x2048 .f32 from m ((c : Thread nD τ).loc main_arg0)) (ix2 (row p (y 0)) k) *
      (show FVec Ideal S16x2048x1024 .f32 from m ((c : Thread nD τ).loc main_arg3)) (ix3 ⟨p.val % 16, by omega⟩ k g) :=
    fun g => Finset.sum_congr rfl fun k _ => congrArg₂ (· * ·) (read_tokens m c p (y 0) k) (read_up m c p k g)
  exact congrArg₂ (· * ·) (congrArg₂ (· * ·) (congrArg₂ (· * ·) (congrArg₂ (· * ·) (hu _) (congrArg Ideal.logistic (hu _))) (hu _))
    (read_gate m c p (y 0) _)) (read_down m c p f (y 1))

/-- The residual plus the contraction over experts and hidden lanes, as the reference writes it. -/
abbrev mixture (H : FVec Ideal S8320x2048 .f32) (G : FVec Ideal S8320x128 .f32) (X : FVec Ideal S8320x2048 .f32)
    (U : FVec Ideal S16x2048x1024 .f32) (D : FVec Ideal S16x512x2048 .f32) : FVec Ideal S8320x2048 .f32 :=
  Cert.MoeRefIdeal.Read.val_main_v10 (F := Ideal) H G X U D

/-- The reference at an index: the residual entry plus the sum of the experts' shares. -/
theorem mixture_apply (H : FVec Ideal S8320x2048 .f32) (G : FVec Ideal S8320x128 .f32) (X : FVec Ideal S8320x2048 .f32)
    (U : FVec Ideal S16x2048x1024 .f32) (D : FVec Ideal S16x512x2048 .f32) (j : S8320x2048.Idx) :
    mixture H G X U D j = X j + ∑ e : Fin 16, share H G U D (j 0) e (j 1) := by
  unfold mixture
  rw [← Cert.MoeRefIdeal.Read.val_main_v10_eq]
  pointwise []
  rfl

/-- What the last expert's point writes back, at an index of the whole array. -/
theorem written_eq (c : Dev nD) (t : Fin cfg0.N) (ht : t.val % 16 = 15) (y : S640x2048.Idx) (j : S8320x2048.Idx)
    (h0 : (j 0).val = t.val / 16 * 640 + (y 0).val) (h1 : (j 1).val = (y 1).val) :
    (outsAt0 m c t.val t.isLt).1 y
    = mixture (m ((c : Thread nD τ).loc main_arg0)) (m ((c : Thread nD τ).loc main_arg1)) (m ((c : Thread nD τ).loc main_arg2))
        (m ((c : Thread nD τ).loc main_arg3)) (m ((c : Thread nD τ).loc main_arg4)) j := by
  have e0 : row t (y 0) = j 0 := Fin.ext h0.symm
  have e1 : (y 1 : Fin 2048) = j 1 := Fin.ext h1.symm
  have ej : ix2 (row t (y 0)) (y 1 : Fin 2048) = j := by
    rw [e0, e1]; funext a; match a with
    | ⟨0, _⟩ => rfl
    | ⟨1, _⟩ => rfl
  refine (written m c t ht y).trans (Eq.trans ?_ (mixture_apply _ _ _ _ _ j).symm)
  refine congrArg₂ (· + ·) ((read_residual m c t y).trans (congrArg _ ej)) ((scratch_sum m c t ht y).trans ?_)
  refine Finset.sum_congr rfl fun s _ => (part_eq m c _ y).trans ?_
  have hr : row ⟨16 * (t.val / 16) + s.val, Pipeline.run_point_lt_of_flush t ht s⟩ (y 0) = j 0 :=
    Fin.ext (by show (16 * (t.val / 16) + s.val) / 16 * 640 + (y 0).val = (j 0).val; have := s.isLt; omega)
  have he : (⟨(16 * (t.val / 16) + s.val) % 16, by omega⟩ : Fin 16) = s :=
    Fin.ext (by show (16 * (t.val / 16) + s.val) % 16 = s.val; have := s.isLt; omega)
  show share _ _ _ _ (row ⟨16 * (t.val / 16) + s.val, _⟩ (y 0)) ⟨(16 * (t.val / 16) + s.val) % 16, _⟩ (y 1 : Fin 2048) = _
  rw [hr, he, e1]

/-- The result array after the run is the reference's mixture of the argument arrays. -/
theorem result (c : Dev nD) : (dats m 0 c).arrAt 5 (cfgs 0).N
    = mixture (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have ht : t.val % 16 = 15 := (flush0_5 t).mp hf
  blk_simp
  rw [after0_5]
  exact written_eq m c t ht y _ (by blk_simp [places t]) (by blk_simp [places t])

end Cert.MoeIdeal.Experts

namespace Cert

/-- The expert sweep and the reference's two-axis contraction give equal results over the extended reals. -/
theorem moe_equal : algebraic_MoeIdeal_MoeRefIdeal := by
  pair_intro
  · run_from Cert.MoeIdeal.Gen.run_main m g
  · hlo_run
    exact (Cert.MoeIdeal.Experts.result m c).symm

end Cert
-- ==== Proof.InProjValue.lean ====
/-
  The layer's input projection. The kernel multiplies by the weight columns rearranged into the order its later calls
  read them in, with zero columns filling the last tile; the reference multiplies by the weights as given and
  rearranges the columns of the result. Both leave the same array.
-/
module

public import proofs.«01_k».proof.Defs
public import proofs.«01_k».proof.Proof.Gen.InProjIdeal.Frame
public import proofs.«01_k».proof.Proof.Gen.InProjRefIdeal.Run
public import Idealize.ShloMosaic.Lib.Pipeline.ValueKit
public import Idealize.ShloMosaic.Lib.Claim
public import Idealize.ShloMosaic.Lib.StableHlo.RunRead
public import proofs.«01_k».proof.Proof.Gen.InProjRefIdeal.Read

@[expose] public section

set_option maxRecDepth 16384

noncomputable section

open Idealize.ShloMosaic Idealize.ShloMosaic.TcCoe Idealize.SL.Sem

namespace Cert.InProjIdeal.Prod

open Cert.InProjIdeal Cert.InProjIdeal.Gen
open Idealize.ShloMosaic.Pipeline (Dat)

variable (m : (ℓ : Loc nD τ sig) → Buf (Elt Ideal) ℓ)

/-- Where each window stands at point `t`. -/
theorem places : ∀ t : Fin cfg0.N, win0_0.index t = ![t.val % 13, 0] ∧ win0_1.index t = ![0, t.val / 13]
    ∧ win0_2.index t = ![t.val % 13, t.val / 13] :=
  (by decide +kernel : ∀ t : Fin grid0.N, _)

/-- The rearranged product, as the reference writes it. -/
abbrev projected (X : FVec Ideal S8320x2048 .f32) (W : FVec Ideal S2048x19568 .f32) : FVec Ideal S8320x19712 .f32 :=
  Cert.InProjRefIdeal.Read.val_main_v11 (F := Ideal) X W

/-- The last 256 columns of the rearranged weight: the step-size and gate columns, then zeros. -/
abbrev filling (W : FVec Ideal S2048x19568 .f32) : FVec Ideal S2048x256 .f32 :=
  concatenate S2048x256 1 [⟨S2048x64, (extractStridedSlice S2048x64 ![0, 10240] W slices_S2048x19568_S2048x64_0_10240 : FVec Ideal S2048x64 .f32)⟩,
      ⟨S2048x48, (extractStridedSlice S2048x48 ![0, 15424] W slices_S2048x19568_S2048x48_0_15424 : FVec Ideal S2048x48 .f32)⟩,
      ⟨S2048x144, (broadcastInDim S2048x144 ![] bcast_S_S2048x144 (constant (F := Ideal) S_ .f32 0x00000000#32) : FVec Ideal S2048x144 .f32)⟩] concatenates_S2048x64_S2048x48_S2048x144_S2048x256_d1

/-- The weight with its columns rearranged, zero columns filling the last tile. -/
def arranged (W : FVec Ideal S2048x19568 .f32) : FVec Ideal S2048x19712 .bf16 :=
  truncf .bf16 (concatenate S2048x19712 1 [⟨S2048x4096, (extractStridedSlice S2048x4096 ![0, 0] W slices_S2048x19568_S2048x4096_0_0 : FVec Ideal S2048x4096 .f32)⟩,
      ⟨S2048x6144, (extractStridedSlice S2048x6144 ![0, 4096] W slices_S2048x19568_S2048x6144_0_4096 : FVec Ideal S2048x6144 .f32)⟩,
      ⟨S2048x2048, (extractStridedSlice S2048x2048 ![0, 10304] W slices_S2048x19568_S2048x2048_0_10304 : FVec Ideal S2048x2048 .f32)⟩,
      ⟨S2048x1024, (extractStridedSlice S2048x1024 ![0, 12352] W slices_S2048x19568_S2048x1024_0_12352 : FVec Ideal S2048x1024 .f32)⟩,
      ⟨S2048x1024, (extractStridedSlice S2048x1024 ![0, 13376] W slices_S2048x19568_S2048x1024_0_13376 : FVec Ideal S2048x1024 .f32)⟩,
      ⟨S2048x1024, (extractStridedSlice S2048x1024 ![0, 14400] W slices_S2048x19568_S2048x1024_0_14400 : FVec Ideal S2048x1024 .f32)⟩,
      ⟨S2048x4096, (extractStridedSlice S2048x4096 ![0, 15472] W slices_S2048x19568_S2048x4096_0_15472 : FVec Ideal S2048x4096 .f32)⟩,
      ⟨S2048x256, ((filling W) : FVec Ideal S2048x256 .f32)⟩] concatenates_S2048x4096_S2048x6144_S2048x2048_S2048x1024_S2048x1024_S2048x1024_S2048x4096_S2048x256_S2048x19712_d1 : FVec Ideal S2048x19712 .f32) bitsLt_bf16_f32

set_option maxHeartbeats 2000000 in
/-- What the weight buffer holds when the grid starts. -/
theorem entry_weight (c : Dev nD) : V m c main_v13 = arranged (m ((c : Thread nD τ).loc main_arg1)) := by
  unfold arranged
  show StableHlo.after (hostOps0 (F := Ideal)) (fun b => m (c, b)) (Proc.devRef .tc main_v13) = _
  unfold hostOps0
  after_reads_simp
  rfl

set_option maxHeartbeats 1000000 in
/-- The product with the rearranged weight at an index is the reference's entry there. -/
theorem product_apply (X : FVec Ideal S8320x2048 .f32) (W : FVec Ideal S2048x19568 .f32) (j : S8320x19712.Idx) :
    (∑ k : Fin 2048, X (ix2 (j 0) k) * arranged W (ix2 k (j 1))) = projected X W j := by
  unfold projected
  rw [← Cert.InProjRefIdeal.Read.val_main_v11_eq]
  pointwise [arranged]
  by_cases h0 : (j 1).val < 4096
  · simp only [dif_pos h0]
  simp only [dif_neg h0]
  by_cases h1 : (j 1).val - 4096 < 6144
  · simp only [dif_pos h1]
  simp only [dif_neg h1]
  by_cases h2 : (j 1).val - 4096 - 6144 < 2048
  · simp only [dif_pos h2]
  simp only [dif_neg h2]
  by_cases h3 : (j 1).val - 4096 - 6144 - 2048 < 1024
  · simp only [dif_pos h3]
  simp only [dif_neg h3]
  by_cases h4 : (j 1).val - 4096 - 6144 - 2048 - 1024 < 1024
  · simp only [dif_pos h4]
  simp only [dif_neg h4]
  by_cases h5 : (j 1).val - 4096 - 6144 - 2048 - 1024 - 1024 < 1024
  · simp only [dif_pos h5]
  simp only [dif_neg h5]
  by_cases h6 : (j 1).val - 4096 - 6144 - 2048 - 1024 - 1024 - 1024 < 4096
  · simp only [dif_pos h6]
  simp only [dif_neg h6]
  by_cases h7 : (j 1).val - 4096 - 6144 - 2048 - 1024 - 1024 - 1024 - 4096 < 64
  · simp only [dif_pos h7]
  simp only [dif_neg h7]
  by_cases h8 : (j 1).val - 4096 - 6144 - 2048 - 1024 - 1024 - 1024 - 4096 - 64 < 48
  · simp only [dif_pos h8]
  simp only [dif_neg h8, mul_zero, Finset.sum_const_zero]

/-- The block the product leaves at point `t` is the reference's there. -/
theorem point (c : Dev nD) (t : Fin cfg0.N) (y : S640x1792.Idx) (j : S8320x19712.Idx)
    (h0 : (j 0).val = t.val % 13 * 640 + (y 0).val) (h1 : (j 1).val = t.val / 13 * 1792 + (y 1).val) :
    (k0_pay1 (F := Ideal) (iblk m c 0 t) (iblk m c 1 t) : FVec Ideal S640x1792 .f32) y
      = projected (m ((c : Thread nD τ).loc main_arg0)) (m ((c : Thread nD τ).loc main_arg1)) j := by
  refine Eq.trans ?_ (product_apply _ _ j)
  pointwise [k0_pay1]
  refine Finset.sum_congr rfl fun k _ => congrArg₂ (· * ·) ?_ ?_
  · blk_ext [iblk, V, places t]
  · show (show FVec Ideal S2048x1792 .bf16 from iblk m c 1 t) _ = _
    blk_simp [iblk, places t]
    rw [entry_weight m c]
    refine congrArg _ (funext fun a => Fin.ext ?_)
    match a with
    | ⟨0, _⟩ => blk_simp [places t]
    | ⟨1, _⟩ => blk_simp [places t]; exact h1.symm

/-- The result array after the run is the reference's projection of the argument arrays. -/
theorem result (c : Dev nD) : (dats m 0 c).arrAt 2 (cfgs 0).N
    = projected (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y _ (by blk_simp [places t]) (by blk_simp [places t])

end Cert.InProjIdeal.Prod

namespace Cert

/-- The input projection and its reference leave equal arrays from equal arguments. -/
theorem inProj_equal : algebraic_InProjIdeal_InProjRefIdeal := by
  pair_intro
  · run_from Cert.InProjIdeal.Gen.run_main m g
  · refine θ_run_mono (Cert.InProjRefIdeal.Value.run m' g') fun r hr c => ⟨(hr c).1.trans ?_, (hr c).2.1, (hr c).2.2⟩
    refine (Cert.InProjRefIdeal.Read.val_main_v11_eq _ _).trans ?_
    exact (congrArg₂ Cert.InProjIdeal.Prod.projected (hagree c).1 (hagree c).2).trans (Cert.InProjIdeal.Prod.result m c).symm

end Cert
-- ==== Proof.SsdOutValue.lean ====
/-
  The output projection of the state-space branch: after the run, the array the tiled product writes is the plain
  matrix product of the two argument arrays.
-/
module

public import proofs.«01_k».proof.Defs
public import proofs.«01_k».proof.Proof.Gen.SsdOutIdeal.Frame
public import proofs.«01_k».proof.Proof.Gen.SsdOutRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.SsdOutIdeal.Prod

open Cert.SsdOutIdeal Cert.SsdOutIdeal.Gen
open Idealize.ShloMosaic.Pipeline (Dat)

variable (m : (ℓ : Loc nD τ sig) → Buf (Elt Ideal) ℓ)

/-- The plain product of the two arrays, as the reference writes it. -/
abbrev product (X : FVec Ideal S8320x4096 .f32) (W : FVec Ideal S4096x2048 .f32) : FVec Ideal S8320x2048 .f32 :=
  Host.dotGeneral Cert.SsdOutRefIdeal.dot_S8320x4096_S4096x2048_S8320x2048_1_0_0_1_n_n none X W

/-- Where each window stands at point `t`: rows by `t % 13`, columns by `t / 13`. -/
theorem places : ∀ t : Fin cfg0.N, win0_0.index t = ![t.val % 13, 0] ∧ win0_1.index t = ![0, t.val / 13]
    ∧ win0_2.index t = ![t.val % 13, t.val / 13] :=
  (by decide +kernel : ∀ t : Fin grid0.N, _)

/-- One block of the product: the product of the row block and the column block is the block of the product. -/
theorem block_product (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  pointwise [k0_pay1, product]
  blk_point [iblk, V, places t]

/-- The result array after the run is the product of the argument arrays. -/
theorem result (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact block_product m c t y

end Cert.SsdOutIdeal.Prod

namespace Cert

/-- The tiled product and the plain product give equal results over the extended reals. -/
theorem ssdOut_equal : algebraic_SsdOutIdeal_SsdOutRefIdeal := by
  pair_intro
  · run_from Cert.SsdOutIdeal.Gen.run_main m g
  · hlo_run
    exact (Cert.SsdOutIdeal.Prod.result m c).symm

end Cert
-- ==== Proof.MergeValue.lean ====
/-
  The projection of the attention output fused with the gated merge. The kernel multiplies row block by column block and
  merges the two branches by the logistic of two column ranges of the projected array; the reference does the same with
  whole arrays. Both leave the same array.
-/
module

public import proofs.«01_k».proof.Defs
public import proofs.«01_k».proof.Proof.Gen.MergeIdeal.Frame
public import proofs.«01_k».proof.Proof.Gen.MergeRefIdeal.Run
public import Idealize.ShloMosaic.Lib.Pipeline.ValueKit
public import Idealize.ShloMosaic.Lib.Claim
public import Idealize.ShloMosaic.Lib.StableHlo.RunRead
public import proofs.«01_k».proof.Proof.Gen.MergeRefIdeal.Read

@[expose] public section

set_option maxRecDepth 16384

noncomputable section

open Idealize.ShloMosaic Idealize.ShloMosaic.TcCoe Idealize.SL.Sem

namespace Cert.MergeIdeal.Prod

open Cert.MergeIdeal Cert.MergeIdeal.Gen
open Idealize.ShloMosaic.Pipeline (Dat)

variable (m : (ℓ : Loc nD τ sig) → Buf (Elt Ideal) ℓ)

/-- Where each window stands at point `t`. -/
theorem places : ∀ t : Fin cfg0.N, win0_0.index t = ![t.val % 13, 0] ∧ win0_1.index t = ![0, t.val / 13]
    ∧ win0_2.index t = ![t.val % 13, t.val / 13] ∧ win0_3.index t = ![t.val % 13, 15 + t.val / 13]
    ∧ win0_4.index t = ![t.val % 13, 17 + t.val / 13] ∧ win0_5.index t = ![t.val % 13, t.val / 13] :=
  (by decide +kernel : ∀ t : Fin grid0.N, _)

/-- The merge of the two branches, as the reference writes it. -/
abbrev merged (H : FVec Ideal S8320x2048 .f32) (W : FVec Ideal S2048x2048 .f32) (Y : FVec Ideal S8320x2048 .f32)
    (P : FVec Ideal S8320x19712 .f32) : FVec Ideal S8320x2048 .bf16 :=
  Cert.MergeRefIdeal.Read.val_main_v16 (F := Ideal) H W Y P

/-- A gate column lies inside the projected array. -/
theorem col_lt (j : S8320x2048.Idx) (o : ℕ) (ho : o + 2048 ≤ 19712) : o + (j 1).val < 19712 := by
  have h : (j 1).val < 2048 := (j 1).isLt
  omega

/-- The reference at an index. -/
theorem merged_apply (H : FVec Ideal S8320x2048 .f32) (W : FVec Ideal S2048x2048 .f32) (Y : FVec Ideal S8320x2048 .f32)
    (P : FVec Ideal S8320x19712 .f32) (j : S8320x2048.Idx) :
    merged H W Y P j = Ideal.logistic (P (ix2 (j 0) ⟨15360 + (j 1).val, col_lt j _ (by norm_num)⟩)) * Y j
      + Ideal.logistic (P (ix2 (j 0) ⟨17408 + (j 1).val, col_lt j _ (by norm_num)⟩)) * ∑ k : Fin 2048, H (ix2 (j 0) k) * W (ix2 k (j 1)) := by
  unfold merged
  rw [← Cert.MergeRefIdeal.Read.val_main_v16_eq]
  pointwise []
  have e : (⟨15360 + (2048 + (j 1).val), by have h : (j 1).val < 2048 := (j 1).isLt; omega⟩ : Fin 19712)
      = ⟨17408 + (j 1).val, col_lt j _ (by norm_num)⟩ := Fin.ext (by show 15360 + (2048 + (j 1).val) = 17408 + (j 1).val; omega)
  exact congrArg₂ (· + ·) rfl (congrArg (fun q => Ideal.logistic (P (ix2 (j 0) q)) * ∑ k : Fin 2048, H (ix2 (j 0) k) * W (ix2 k (j 1))) e)

/-- The block of gate columns window 3 stages at point `t`. -/
theorem read3 (c : Dev nD) (t : Fin cfg0.N) (y : S640x1024.Idx) (j : S8320x19712.Idx)
    (h0 : (j 0).val = t.val % 13 * 640 + (y 0).val) (h1 : (j 1).val = 15360 + t.val / 13 * 1024 + (y 1).val) :
    (show FVec Ideal S640x1024 .f32 from X0_3 m c t) y = (show FVec Ideal S8320x19712 .f32 from m ((c : Thread nD τ).loc main_arg3)) j := by
  show X0_3 m c t y = _
  unfold X0_3 Pipeline.Window.fill
  rw [dif_pos (moved0_3 t y)]
  blk_simp [iblk, places t]
  rw [V_main_arg3]
  refine congrArg _ (funext fun a => Fin.ext ?_)
  match a with
  | ⟨0, _⟩ => blk_simp [places t]; exact h0.symm
  | ⟨1, _⟩ =>
    blk_simp [places t]
    refine Eq.trans ?_ h1.symm
    show (15 + t.val / 13) * 1024 + (y 1).val = 15360 + t.val / 13 * 1024 + (y 1).val
    omega

/-- The block of gate columns window 4 stages at point `t`. -/
theorem read4 (c : Dev nD) (t : Fin cfg0.N) (y : S640x1024.Idx) (j : S8320x19712.Idx)
    (h0 : (j 0).val = t.val % 13 * 640 + (y 0).val) (h1 : (j 1).val = 17408 + t.val / 13 * 1024 + (y 1).val) :
    (show FVec Ideal S640x1024 .f32 from X0_4 m c t) y = (show FVec Ideal S8320x19712 .f32 from m ((c : Thread nD τ).loc main_arg3)) j := by
  show X0_4 m c t y = _
  unfold X0_4 Pipeline.Window.fill
  rw [dif_pos (moved0_4 t y)]
  blk_simp [iblk, places t]
  rw [V_main_arg3]
  refine congrArg _ (funext fun a => Fin.ext ?_)
  match a with
  | ⟨0, _⟩ => blk_simp [places t]; exact h0.symm
  | ⟨1, _⟩ =>
    blk_simp [places t]
    refine Eq.trans ?_ h1.symm
    show (17 + t.val / 13) * 1024 + (y 1).val = 17408 + t.val / 13 * 1024 + (y 1).val
    omega

/-- The block the merge leaves at point `t` is the reference's there. -/
theorem point (c : Dev nD) (t : Fin cfg0.N) (y : S640x1024.Idx) (j : S8320x2048.Idx)
    (h0 : (j 0).val = t.val % 13 * 640 + (y 0).val) (h1 : (j 1).val = t.val / 13 * 1024 + (y 1).val) :
    (show FVec Ideal S640x1024 .bf16 from outsAt0 m c t) y
      = merged (m ((c : Thread nD τ).loc main_arg0)) (m ((c : Thread nD τ).loc main_arg1)) (m ((c : Thread nD τ).loc main_arg2))
          (m ((c : Thread nD τ).loc main_arg3)) j := by
  refine Eq.trans ?_ (merged_apply _ _ _ _ j).symm
  show outsAt0 m c t y = _
  unfold outsAt0
  frame_out
  pointwise [k0_pay1]
  refine congrArg₂ (· + ·) (congrArg₂ (· * ·) (congrArg Ideal.logistic ?_) ?_) (congrArg₂ (· * ·) (congrArg Ideal.logistic ?_)
    (Finset.sum_congr rfl fun k _ => congrArg₂ (· * ·) ?_ ?_))
  · exact read3 m c t y _ h0 (by show 15360 + (j 1).val = _; omega)
  · blk_ext [iblk, V, places t]
  · exact read4 m c t y _ h0 (by show 17408 + (j 1).val = _; omega)
  · blk_ext [iblk, V, places t]
  · blk_ext [iblk, V, places t]

/-- The result array after the run is the reference's merge of the argument arrays. -/
theorem result (c : Dev nD) : (dats m 0 c).arrAt 5 (cfgs 0).N
    = merged (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  exact point m c t y _ (by blk_simp [places t]) (by blk_simp [places t])

end Cert.MergeIdeal.Prod

namespace Cert

/-- The fused projection and merge and its reference leave equal arrays from equal arguments. -/
theorem merge_equal : algebraic_MergeIdeal_MergeRefIdeal := by
  pair_intro
  · run_from Cert.MergeIdeal.Gen.run_main m g
  · hlo_run
    exact (Cert.MergeIdeal.Prod.result m c).symm

end Cert
-- ==== Proof.OutProjValue.lean ====
/-
  The layer's output projection: after the run, the array the tiled product with its added residual writes is the
  residual plus the plain matrix product of the two argument arrays.
-/
module

public import proofs.«01_k».proof.Defs
public import proofs.«01_k».proof.Proof.Gen.OutProjIdeal.Frame
public import proofs.«01_k».proof.Proof.Gen.OutProjRefIdeal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.OutProjIdeal.Prod

open Cert.OutProjIdeal Cert.OutProjIdeal.Gen
open Idealize.ShloMosaic.Pipeline (Dat)

variable (m : (ℓ : Loc nD τ sig) → Buf (Elt Ideal) ℓ)

/-- The residual plus the plain product of the two arrays, as the reference writes it. -/
abbrev outRes (X : FVec Ideal S8320x2048 .f32) (W : FVec Ideal S2048x2048 .f32) (R : FVec Ideal S8320x2048 .f32) :
    FVec Ideal S8320x2048 .f32 :=
  addf R (Host.dotGeneral Cert.OutProjRefIdeal.dot_S8320x2048_S2048x2048_S8320x2048_1_0_0_1_n_n none X W)

/-- Where each window stands at point `t`: rows by `t % 13`, columns by `t / 13`. -/
theorem places : ∀ t : Fin cfg0.N, win0_0.index t = ![t.val % 13, 0] ∧ win0_1.index t = ![0, t.val / 13]
    ∧ win0_2.index t = ![t.val % 13, t.val / 13] ∧ win0_3.index t = ![t.val % 13, t.val / 13] :=
  (by decide +kernel : ∀ t : Fin grid0.N, _)

/-- One block: the residual block plus the product of the row block and the column block is the block of the whole. -/
theorem block_outRes (c : Dev nD) (t : Fin cfg0.N) (y) : k0_pay1 (iblk m c 0 t) (iblk m c 1 t) (iblk m c 2 t) y
    = outRes (m ((c : Thread nD τ).loc main_arg0)) (m ((c : Thread nD τ).loc main_arg1)) (m ((c : Thread nD τ).loc main_arg2)) (((cfg0.win 3).blk t).view.emb y) := by
  pointwise [k0_pay1, outRes]
  blk_point [iblk, V, places t]

/-- The result array after the run is the residual plus the product of the argument arrays. -/
theorem result (c : Dev nD) : (dats m 0 c).arrAt 3 (cfgs 0).N
    = outRes (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact block_outRes m c t y

end Cert.OutProjIdeal.Prod

namespace Cert

/-- The tiled projection and the plain one give equal results over the extended reals. -/
theorem outProj_equal : algebraic_OutProjIdeal_OutProjRefIdeal := by
  pair_intro
  · run_from Cert.OutProjIdeal.Gen.run_main m g
  · hlo_run
    exact (Cert.OutProjIdeal.Prod.result m c).symm

end Cert
-- ==== Proof.RmsNormValue.lean ====
/-
  The root-mean-square normalisation of every row: after the run, the array the tiled call writes is the plain
  normalisation of the argument array, row by row, scaled by the weight.
-/
module

public import proofs.«01_k».proof.Defs
public import proofs.«01_k».proof.Proof.Gen.RmsNormIdeal.Frame
public import proofs.«01_k».proof.Proof.Gen.RmsNormRefIdeal.Run
public import proofs.«01_k».proof.Proof.Gen.RmsNormRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.RmsNormIdeal.Rows

open Cert.RmsNormIdeal Cert.RmsNormIdeal.Gen
open Idealize.ShloMosaic.Pipeline (Dat)

variable (m : (ℓ : Loc nD τ sig) → Buf (Elt Ideal) ℓ)

/-- The normalised rows, as the reference writes them. -/
abbrev normed (X : FVec Ideal S8320x2048 .f32) (W : FVec Ideal S2048 .f32) : FVec Ideal S8320x2048 .f32 :=
  Cert.RmsNormRefIdeal.Read.val_main_v12 (F := Ideal) X W

/-- Where each window stands at point `t`: the rows' windows at the `t`-th block, the weight's at its only one. -/
theorem places : ∀ t : Fin cfg0.N, win0_0.index t = ![t.val, 0] ∧ win0_1.index t = ![0, 0] ∧ win0_2.index t = ![t.val, 0] :=
  (by decide +kernel : ∀ t : Fin grid0.N, _)

/-- The normalised row in closed form. -/
theorem normed_at (X : FVec Ideal S8320x2048 .f32) (W : FVec Ideal S2048 .f32) (i : S8320x2048.Idx) :
    normed X W i = X i * Ideal.rsqrt (Ideal.div (∑ k : Fin 2048, X (ix2 (i 0) k) * X (ix2 (i 0) k))
      (Ideal.ofBits FTy.f32 1157627904#32) + Ideal.ofBits FTy.f32 897988541#32) * W (ix1 (i 1)) := by
  unfold normed
  rw [← Cert.RmsNormRefIdeal.Read.val_main_v12_eq]
  pointwise []

/-- One block of the result is the block of the normalised rows. -/
theorem point (c : Dev nD) (t : Fin cfg0.N) (y : S640x2048.Idx) (j : S8320x2048.Idx)
    (h0 : (j 0).val = t.val * 640 + (y 0).val) (h1 : (j 1).val = (y 1).val) : k0_pay1 (iblk m c 0 t) (iblk m c 1 t) y
    = normed (m ((c : Thread nD τ).loc main_arg0)) (m ((c : Thread nD τ).loc main_arg1)) j := by
  rw [normed_at]
  pointwise [k0_pay1]
  blk_point [iblk, V, places t]

/-- The result array after the run is the normalised argument array. -/
theorem result (c : Dev nD) : (dats m 0 c).arrAt 2 (cfgs 0).N
    = normed (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y _ (by blk_simp [places t]) (by blk_simp [places t])

end Cert.RmsNormIdeal.Rows

namespace Cert

/-- The tiled normalisation and the plain one give equal results over the extended reals. -/
theorem rmsNorm_equal : algebraic_RmsNormIdeal_RmsNormRefIdeal := by
  pair_intro
  · run_from Cert.RmsNormIdeal.Gen.run_main m g
  · hlo_run
    exact (Cert.RmsNormIdeal.Rows.result m c).symm

end Cert
end
-- ==== Proof.GatedNormValue.lean ====
/-
  The gated normalisation of the state-space branch: after the run, every row is the scan's (or, in the last block, the
  step's) row times the silu of its gate, divided by its root mean square and scaled by the weight.
-/
module

public import proofs.«01_k».proof.Defs
public import proofs.«01_k».proof.Proof.Gen.GatedNormIdeal.Frame
public import proofs.«01_k».proof.Proof.Gen.GatedNormRefIdeal.Run
public import proofs.«01_k».proof.Proof.Gen.GatedNormRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.GatedNormIdeal.Rows

open Cert.GatedNormIdeal Cert.GatedNormIdeal.Gen
open Idealize.ShloMosaic.Pipeline (Dat)

variable (m : (ℓ : Loc nD τ sig) → Buf (Elt Ideal) ℓ)

/-- Where each window stands at point `t`. -/
theorem places : ∀ t : Fin cfg0.N, win0_0.index t = ![min t.val 63, 0] ∧ win0_1.index t = ![0, 0] ∧ win0_2.index t = ![t.val, 0]
    ∧ win0_3.index t = ![0, 0] ∧ win0_4.index t = ![t.val, 0] ∧ (grid0.coords t 0).val = t.val :=
  (by decide +kernel : ∀ t : Fin grid0.N, _)

/-- The gated, normalised rows, as the reference writes them. -/
abbrev normed (P : FVec Ideal S8192x4096 .f32) (S : FVec Ideal S128x4096 .f32) (Z : FVec Ideal S8320x19712 .f32) (W : FVec Ideal S4096 .f32) :
    FVec Ideal S8320x4096 .bf16 :=
  Cert.GatedNormRefIdeal.Read.val_main_v17 (F := Ideal) P S Z W

/-- A gate's column. -/
abbrev wide (k : Fin 4096) : Fin 19712 := ⟨k.val, by omega⟩

/-- The row the normalisation reads: the scan's, and past its end the step's. -/
abbrev row (P : FVec Ideal S8192x4096 .f32) (S : FVec Ideal S128x4096 .f32) (r : Fin 8320) (k : Fin 4096) : EReal :=
  if h : r.val < 8192 then P (ix2 ⟨r.val, h⟩ k) else S (ix2 ⟨r.val - 8192, by omega⟩ k)

/-- A gated entry. -/
abbrev gated (P : FVec Ideal S8192x4096 .f32) (S : FVec Ideal S128x4096 .f32) (Z : FVec Ideal S8320x19712 .f32) (r : Fin 8320) (k : Fin 4096) : EReal :=
  row P S r k * (Z (ix2 r (wide k)) * Ideal.logistic (Z (ix2 r (wide k))))

/-- The reference at an index. -/
theorem normed_at (P : FVec Ideal S8192x4096 .f32) (S : FVec Ideal S128x4096 .f32) (Z : FVec Ideal S8320x19712 .f32) (W : FVec Ideal S4096 .f32)
    (i : S8320x4096.Idx) :
    normed P S Z W i = gated P S Z (i 0) (i 1) * Ideal.rsqrt (Ideal.div (∑ k : Fin 4096, gated P S Z (i 0) k * gated P S Z (i 0) k)
      (Ideal.ofBits FTy.f32 0x45800000#32) + Ideal.ofBits FTy.f32 0x358637BD#32) * W (ix1 (i 1)) := by
  unfold normed
  pointwise [Cert.GatedNormRefIdeal.Read.val_main_v0, Cert.GatedNormRefIdeal.Read.val_main_v1, Cert.GatedNormRefIdeal.Read.val_main_call0_v0, Cert.GatedNormRefIdeal.Read.val_main_call0_v1, Cert.GatedNormRefIdeal.Read.val_main_call0_cst, Cert.GatedNormRefIdeal.Read.val_main_call0_v2,
    Cert.GatedNormRefIdeal.Read.val_main_call0_v3, Cert.GatedNormRefIdeal.Read.val_main_call0_cst_0, Cert.GatedNormRefIdeal.Read.val_main_call0_v4, Cert.GatedNormRefIdeal.Read.val_main_call0_v5, Cert.GatedNormRefIdeal.Read.val_main_v2, Cert.GatedNormRefIdeal.Read.val_main_v3,
    Cert.GatedNormRefIdeal.Read.val_main_v4, Cert.GatedNormRefIdeal.Read.val_main_cst, Cert.GatedNormRefIdeal.Read.val_main_v5, Cert.GatedNormRefIdeal.Read.val_main_v6, Cert.GatedNormRefIdeal.Read.val_main_cst_0, Cert.GatedNormRefIdeal.Read.val_main_v7, Cert.GatedNormRefIdeal.Read.val_main_v8,
    Cert.GatedNormRefIdeal.Read.val_main_cst_1, Cert.GatedNormRefIdeal.Read.val_main_v9, Cert.GatedNormRefIdeal.Read.val_main_v10, Cert.GatedNormRefIdeal.Read.val_main_v11, Cert.GatedNormRefIdeal.Read.val_main_v12, Cert.GatedNormRefIdeal.Read.val_main_v13, Cert.GatedNormRefIdeal.Read.val_main_v14,
    Cert.GatedNormRefIdeal.Read.val_main_v15, Cert.GatedNormRefIdeal.Read.val_main_v16, Cert.GatedNormRefIdeal.Read.val_main_v17]
  rfl

/-- The choice between the two sources, by the point. -/
theorem choice (t : Fin cfg0.N) (a b : EReal) :
    Scalar.select (Scalar.cmpi CmpIPredicate.slt (BitVec.ofNat 32 (grid0.coords t 0).val) 64#32) a b = if t.val < 64 then a else b := by
  have ht : (grid0.coords t 0).val = t.val := (places t).2.2.2.2.2
  have hN : t.val < 65 := t.isLt
  rw [ht, Scalar.select]
  have e : Scalar.cmpi CmpIPredicate.slt (BitVec.ofNat 32 t.val) 64#32 = BitVec.ofBool (decide (t.val < 64)) :=
    WordCmp.cmpi_slt_ofNat (w := 32) (a := t.val) (b := 64) (by omega) (by omega)
  rw [e]
  by_cases h : t.val < 64 <;> simp [h]

/-- The chosen source read at a point of its block. -/
theorem row_read (c : Dev nD) (t : Fin cfg0.N) (r : Fin 128) (k : Fin 4096) (j : Fin 8320) (h : j.val = t.val * 128 + r.val) :
    (if t.val < 64 then (show FVec Ideal S128x4096 .f32 from iblk m c 0 t) (ix2 r k) else (show FVec Ideal S128x4096 .f32 from iblk m c 1 t) (ix2 r k))
      = row (m ((c : Thread nD τ).loc main_arg0)) (m ((c : Thread nD τ).loc main_arg1)) j k := by
  have hN : t.val < 65 := t.isLt
  unfold row
  by_cases ht : t.val < 64
  · have hj : j.val < 8192 := by omega
    simp only [if_pos ht, dif_pos hj]
    have hm : min t.val 63 = t.val := by omega
    show iblk m c 0 t (ix2 r k) = _
    blk_ext [iblk, V, places t]
  · have hj : ¬ j.val < 8192 := by omega
    simp only [if_neg ht, dif_neg hj]
    show iblk m c 1 t (ix2 r k) = _
    blk_ext [iblk, V, places t]

/-- The block of gate columns staged at a point. -/
theorem gate_read (c : Dev nD) (t : Fin cfg0.N) (y : S128x4096.Idx) (j : Fin 8320) (k : Fin 4096)
    (h0 : j.val = t.val * 128 + (y 0).val) (h1 : k.val = (y 1).val) :
    (show FVec Ideal S128x4096 .f32 from X0_2 m c t) y = (show FVec Ideal S8320x19712 .f32 from m ((c : Thread nD τ).loc main_arg2)) (ix2 j (wide k)) := by
  show X0_2 m c t y = _
  unfold X0_2 Pipeline.Window.fill
  rw [dif_pos (moved0_2 t y)]
  blk_simp [iblk, places t]
  rw [V_main_arg2]
  refine congrArg _ (funext fun a => Fin.ext ?_)
  match a with
  | ⟨0, _⟩ => blk_simp [places t]; exact h0.symm
  | ⟨1, _⟩ => blk_simp [places t]; exact h1.symm

/-- A gated entry of the block is the array's. -/
theorem gated_read (c : Dev nD) (t : Fin cfg0.N) (r : Fin 128) (k : Fin 4096) (j : Fin 8320) (h : j.val = t.val * 128 + r.val) :
    Scalar.select (Scalar.cmpi CmpIPredicate.slt (BitVec.ofNat 32 (grid0.coords t 0).val) 64#32)
      ((show FVec Ideal S128x4096 .f32 from iblk m c 0 t) (ix2 r k)) ((show FVec Ideal S128x4096 .f32 from iblk m c 1 t) (ix2 r k))
      * ((show FVec Ideal S128x4096 .f32 from X0_2 m c t) (ix2 r k) * Ideal.logistic ((show FVec Ideal S128x4096 .f32 from X0_2 m c t) (ix2 r k)))
      = gated (m ((c : Thread nD τ).loc main_arg0)) (m ((c : Thread nD τ).loc main_arg1)) (m ((c : Thread nD τ).loc main_arg2)) j k := by
  unfold gated
  exact congrArg₂ (· * ·) ((choice t _ _).trans (row_read m c t r k j h))
    (congrArg₂ (· * ·) (gate_read m c t (ix2 r k) j k h rfl) (congrArg Ideal.logistic (gate_read m c t (ix2 r k) j k h rfl)))

/-- The weight read at a lane. -/
theorem weight_read (c : Dev nD) (t : Fin cfg0.N) (k : Fin 4096) (i : Fin 4096) (h : i.val = k.val) :
    (show FVec Ideal S1x4096 .f32 from iblk m c 3 t) (ix2 0 k) * (1 : EReal) = (show FVec Ideal S4096 .f32 from m ((c : Thread nD τ).loc main_arg3)) (ix1 i) * (1 : EReal) := by
  show HMul.hMul (α := EReal) (β := EReal) (iblk m c 3 t (ix2 0 k)) 1 = _
  blk_point [iblk, V, places t]

/-- One block of the result. -/
theorem point (c : Dev nD) (t : Fin cfg0.N) (y : S128x4096.Idx) (j : S8320x4096.Idx)
    (h0 : (j 0).val = t.val * 128 + (y 0).val) (h1 : (j 1).val = (y 1).val) :
    (show FVec Ideal S128x4096 .bf16 from outsAt0 m c t) y
    = normed (m ((c : Thread nD τ).loc main_arg0)) (m ((c : Thread nD τ).loc main_arg1)) (m ((c : Thread nD τ).loc main_arg2))
      (m ((c : Thread nD τ).loc main_arg3)) j := by
  rw [normed_at]
  show outsAt0 m c t y = _
  unfold outsAt0
  frame_out
  pointwise [k0_pay1]
  have hy : (y : S128x4096.Idx) = ix2 (y 0) (y 1) := by funext a; match a with | ⟨0, _⟩ => rfl | ⟨1, _⟩ => rfl
  have hj : (j 1) = (y 1) := Fin.ext h1
  have hw := weight_read m c t (y 1) (j 1) h1
  simp only [mul_one] at hw
  refine congrArg₂ (· * ·) (congrArg₂ (· * ·) ?_ (congrArg Ideal.rsqrt (congrArg₂ (· + ·) (congrArg₂ Ideal.div
    (Finset.sum_congr rfl fun k _ => ?_) rfl) rfl))) hw
  · rw [hj, hy]; exact gated_read m c t (y 0) (y 1) (j 0) h0
  · exact congrArg₂ (· * ·) (gated_read m c t (y 0) k (j 0) h0) (gated_read m c t (y 0) k (j 0) h0)

/-- The result array after the run is the reference's. -/
theorem result (c : Dev nD) : (dats m 0 c).arrAt 4 (cfgs 0).N
    = normed (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  exact point m c t y _ (by blk_simp [places t]) (by blk_simp [places t])

end Cert.GatedNormIdeal.Rows

namespace Cert

/-- The tiled gated normalisation and its reference give equal results over the extended reals. -/
theorem gatedNorm_equal : algebraic_GatedNormIdeal_GatedNormRefIdeal := by
  pair_intro
  · run_from Cert.GatedNormIdeal.Gen.run_main m g
  · hlo_run
    exact (Cert.GatedNormIdeal.Rows.result m c).symm

end Cert
end
-- ==== Proof.ConvPromptValue.lean ====
/-
  The causal convolution over the prompt: after the run, every entry is the silu of the bias plus the four weighted rows
  that end at it, rows before the first counting as zero.
-/
module

public import proofs.«01_k».proof.Defs
public import proofs.«01_k».proof.Proof.Gen.ConvPromptIdeal.Frame
public import proofs.«01_k».proof.Proof.Gen.ConvPromptRefIdeal.Run
public import proofs.«01_k».proof.Proof.Gen.ConvPromptRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ConvPromptIdeal.Conv

open Cert.ConvPromptIdeal Cert.ConvPromptIdeal.Gen
open Idealize.ShloMosaic.Pipeline (Dat)

variable (m : (ℓ : Loc nD τ sig) → Buf (Elt Ideal) ℓ)

/-- Where each window stands at point `t`. -/
theorem places : ∀ t : Fin cfg0.N, win0_0.index t = ![t.val % 16, 8 + t.val / 16] ∧ win0_1.index t = ![t.val % 16 * 64 - 1, 8 + t.val / 16]
    ∧ win0_2.index t = ![0, t.val / 16] ∧ win0_3.index t = ![0, t.val / 16] ∧ win0_4.index t = ![t.val % 16, t.val / 16]
    ∧ (grid0.coords t 1).val = t.val % 16 :=
  (by decide +kernel : ∀ t : Fin grid0.N, _)

/-- The convolution, as the reference writes it. -/
abbrev conv (P : FVec Ideal S8320x19712 .f32) (W : FVec Ideal S4x6144 .f32) (B : FVec Ideal S6144 .f32) : FVec Ideal S8192x6144 .f32 :=
  Cert.ConvPromptRefIdeal.Read.val_main_v35 (F := Ideal) P W B

/-- The entry `s` rows before the one at `i`, zero before the first row. -/
abbrev past (P : FVec Ideal S8320x19712 .f32) (i : S8192x6144.Idx) (s : ℕ) : EReal :=
  if h : (i 0).val < s then 0 else P (ix2 ⟨(i 0).val - s, by have h : (i 0).val < 8192 := (i 0).isLt; omega⟩
    ⟨4096 + (i 1).val, by have h : (i 1).val < 6144 := (i 1).isLt; omega⟩)

/-- The bias plus the four weighted entries, in the order the reference adds them. -/
abbrev total (P : FVec Ideal S8320x19712 .f32) (W : FVec Ideal S4x6144 .f32) (B : FVec Ideal S6144 .f32) (i : S8192x6144.Idx) : EReal :=
  B (ix1 (i 1)) + (past P i 3 * W (ix2 0 (i 1)) + past P i 2 * W (ix2 1 (i 1)) + past P i 1 * W (ix2 2 (i 1)) + past P i 0 * W (ix2 3 (i 1)))

/-- An entry of the padded rows, `q` rows after the padded index. -/
theorem past_eq (P : FVec Ideal S8320x19712 .f32) (i : S8192x6144.Idx) (q s : ℕ) (h : q + s = 3) :
    (if h : q + (i 0).val < 3 then (0 : EReal) else P (ix2 ⟨q + (i 0).val - 3, by have h : (i 0).val < 8192 := (i 0).isLt; omega⟩
      ⟨4096 + (i 1).val, by have h : (i 1).val < 6144 := (i 1).isLt; omega⟩)) = past P i s := by
  unfold past
  by_cases hi : (i 0).val < s
  · rw [dif_pos hi, dif_pos (by omega)]
  · rw [dif_neg hi, dif_neg (by omega)]
    exact congrArg (fun r => P (ix2 r _)) (Fin.ext (by show q + (i 0).val - 3 = (i 0).val - s; omega))

/-- The two orders of adding the five terms agree. -/
theorem sums (b p q r s : EReal) : b + p + q + r + s = b + (q + r + s + p) := by
  ac_rfl

/-- The reference at an index. -/
theorem conv_at (P : FVec Ideal S8320x19712 .f32) (W : FVec Ideal S4x6144 .f32) (B : FVec Ideal S6144 .f32) (i : S8192x6144.Idx) :
    conv P W B i = total P W B i * Ideal.logistic (total P W B i) := by
  unfold conv
  pointwise [Cert.ConvPromptRefIdeal.Read.val_main_v0, Cert.ConvPromptRefIdeal.Read.val_main_cst, Cert.ConvPromptRefIdeal.Read.val_main_v1, Cert.ConvPromptRefIdeal.Read.val_main_v2, Cert.ConvPromptRefIdeal.Read.val_main_v3, Cert.ConvPromptRefIdeal.Read.val_main_v4, Cert.ConvPromptRefIdeal.Read.val_main_v5, Cert.ConvPromptRefIdeal.Read.val_main_v6,
    Cert.ConvPromptRefIdeal.Read.val_main_v7, Cert.ConvPromptRefIdeal.Read.val_main_v8, Cert.ConvPromptRefIdeal.Read.val_main_cst_0, Cert.ConvPromptRefIdeal.Read.val_main_v9, Cert.ConvPromptRefIdeal.Read.val_main_v10, Cert.ConvPromptRefIdeal.Read.val_main_v11, Cert.ConvPromptRefIdeal.Read.val_main_v12,
    Cert.ConvPromptRefIdeal.Read.val_main_v13, Cert.ConvPromptRefIdeal.Read.val_main_v14, Cert.ConvPromptRefIdeal.Read.val_main_v15, Cert.ConvPromptRefIdeal.Read.val_main_v16, Cert.ConvPromptRefIdeal.Read.val_main_v17, Cert.ConvPromptRefIdeal.Read.val_main_v18, Cert.ConvPromptRefIdeal.Read.val_main_v19,
    Cert.ConvPromptRefIdeal.Read.val_main_v20, Cert.ConvPromptRefIdeal.Read.val_main_v21, Cert.ConvPromptRefIdeal.Read.val_main_v22, Cert.ConvPromptRefIdeal.Read.val_main_v23, Cert.ConvPromptRefIdeal.Read.val_main_v24, Cert.ConvPromptRefIdeal.Read.val_main_v25, Cert.ConvPromptRefIdeal.Read.val_main_v26,
    Cert.ConvPromptRefIdeal.Read.val_main_v27, Cert.ConvPromptRefIdeal.Read.val_main_v28, Cert.ConvPromptRefIdeal.Read.val_main_v29, Cert.ConvPromptRefIdeal.Read.val_main_v30, Cert.ConvPromptRefIdeal.Read.val_main_v31, Cert.ConvPromptRefIdeal.Read.val_main_v32, Cert.ConvPromptRefIdeal.Read.val_main_v33,
    Cert.ConvPromptRefIdeal.Read.val_main_v34, Cert.ConvPromptRefIdeal.Read.val_main_call0_v0, Cert.ConvPromptRefIdeal.Read.val_main_call0_v1, Cert.ConvPromptRefIdeal.Read.val_main_call0_cst, Cert.ConvPromptRefIdeal.Read.val_main_call0_v2, Cert.ConvPromptRefIdeal.Read.val_main_call0_v3,
    Cert.ConvPromptRefIdeal.Read.val_main_call0_cst_0, Cert.ConvPromptRefIdeal.Read.val_main_call0_v4, Cert.ConvPromptRefIdeal.Read.val_main_call0_v5, Cert.ConvPromptRefIdeal.Read.val_main_v35]
  rw [past_eq P i 1 2 rfl, past_eq P i 2 1 rfl]
  rfl

/-- The row block of the tile's own rows read at a point. -/
theorem own_read (c : Dev nD) (t : Fin cfg0.N) (y : S512x512.Idx) (j : S8320x19712.Idx)
    (h0 : (j 0).val = t.val % 16 * 512 + (y 0).val) (h1 : (j 1).val = 4096 + t.val / 16 * 512 + (y 1).val) :
    (show FVec Ideal S512x512 .f32 from X0_0 m c t) y = (show FVec Ideal S8320x19712 .f32 from m ((c : Thread nD τ).loc main_arg0)) j := by
  show X0_0 m c t y = _
  unfold X0_0 Pipeline.Window.fill
  rw [dif_pos (moved0_0 t y)]
  blk_simp [iblk, places t]
  rw [V_main_arg0]
  refine congrArg _ (funext fun a => Fin.ext ?_)
  match a with
  | ⟨0, _⟩ => blk_simp [places t]; exact h0.symm
  | ⟨1, _⟩ =>
    blk_simp [places t]
    refine Eq.trans ?_ h1.symm
    show (8 + t.val / 16) * 512 + (y 1).val = 4096 + t.val / 16 * 512 + (y 1).val
    omega

/-- The eight rows before the tile read at a point. -/
theorem halo_read (c : Dev nD) (t : Fin cfg0.N) (y : S8x512.Idx) (j : S8320x19712.Idx)
    (h0 : (j 0).val = (t.val % 16 * 64 - 1) * 8 + (y 0).val) (h1 : (j 1).val = 4096 + t.val / 16 * 512 + (y 1).val) :
    (show FVec Ideal S8x512 .f32 from X0_1 m c t) y = (show FVec Ideal S8320x19712 .f32 from m ((c : Thread nD τ).loc main_arg0)) j := by
  show X0_1 m c t y = _
  unfold X0_1 Pipeline.Window.fill
  rw [dif_pos (moved0_1 t y)]
  blk_simp [iblk, places t]
  rw [V_main_arg0]
  refine congrArg _ (funext fun a => Fin.ext ?_)
  match a with
  | ⟨0, _⟩ => blk_simp [places t]; exact h0.symm
  | ⟨1, _⟩ =>
    blk_simp [places t]
    refine Eq.trans ?_ h1.symm
    show (8 + t.val / 16) * 512 + (y 1).val = 4096 + t.val / 16 * 512 + (y 1).val
    omega

/-- Before the first tile there are no rows: the choice between the rows before and zero. -/
theorem choice (t : Fin cfg0.N) (a b : EReal) :
    Scalar.select (Scalar.cmpi CmpIPredicate.sgt (BitVec.ofNat 32 (grid0.coords t 1).val) 0#32) a b = if 0 < t.val % 16 then a else b := by
  have ht : (grid0.coords t 1).val = t.val % 16 := (places t).2.2.2.2.2
  rw [ht, Scalar.select]
  have e : Scalar.cmpi CmpIPredicate.sgt (BitVec.ofNat 32 (t.val % 16)) 0#32 = BitVec.ofBool (decide (0 < t.val % 16)) :=
    WordCmp.cmpi_sgt_ofNat (w := 32) (a := t.val % 16) (b := 0) (by omega) (by omega)
  rw [e]
  by_cases h : 0 < t.val % 16 <;> simp [h]

/-- A rotated row of the tile under its eight rows before it is the entry `s` rows back. -/
theorem tap (c : Dev nD) (t : Fin cfg0.N) (y : S512x512.Idx) (j : S8192x6144.Idx) (s : ℕ) (hs : 0 < s) (hs' : s ≤ 3)
    (h0 : (j 0).val = t.val % 16 * 512 + (y 0).val) (h1 : (j 1).val = t.val / 16 * 512 + (y 1).val) :
    (if h : (8 + (y 0).val + 520 - s) % 520 < 8 then
        Scalar.select (Scalar.cmpi CmpIPredicate.sgt (BitVec.ofNat 32 (grid0.coords t 1).val) 0#32)
          ((show FVec Ideal S8x512 .f32 from X0_1 m c t) (ix2 ⟨(8 + (y 0).val + 520 - s) % 520, h⟩ (y 1))) 0
      else (show FVec Ideal S512x512 .f32 from X0_0 m c t) (ix2 ⟨(8 + (y 0).val + 520 - s) % 520 - 8, by omega⟩ (y 1)))
      = past (m ((c : Thread nD τ).loc main_arg0)) j s := by
  have hy : (y 0).val < 512 := (y 0).isLt
  unfold past
  by_cases h : (y 0).val < s
  · have hk : (8 + (y 0).val + 520 - s) % 520 = 8 + (y 0).val - s := by omega
    have hlt : (8 + (y 0).val + 520 - s) % 520 < 8 := by omega
    rw [dif_pos hlt, choice]
    by_cases ht : 0 < t.val % 16
    · rw [if_pos ht, dif_neg (by omega)]
      exact halo_read m c t _ _ (by show (j 0).val - s = (t.val % 16 * 64 - 1) * 8 + (8 + (y 0).val + 520 - s) % 520; omega)
        (by show 4096 + (j 1).val = _ + (y 1).val; omega)
    · rw [if_neg ht, dif_pos (by omega)]
  · have hk : (8 + (y 0).val + 520 - s) % 520 = 8 + (y 0).val - s := by omega
    have hlt : ¬ (8 + (y 0).val + 520 - s) % 520 < 8 := by omega
    rw [dif_neg hlt, dif_neg (by omega)]
    exact own_read m c t _ _ (by show (j 0).val - s = t.val % 16 * 512 + ((8 + (y 0).val + 520 - s) % 520 - 8); omega)
      (by show 4096 + (j 1).val = _ + (y 1).val; omega)

/-- The tile's own entry is the entry no rows back. -/
theorem tap_own (c : Dev nD) (t : Fin cfg0.N) (y : S512x512.Idx) (j : S8192x6144.Idx)
    (h0 : (j 0).val = t.val % 16 * 512 + (y 0).val) (h1 : (j 1).val = t.val / 16 * 512 + (y 1).val) :
    (show FVec Ideal S512x512 .f32 from X0_0 m c t) y = past (m ((c : Thread nD τ).loc main_arg0)) j 0 := by
  unfold past
  rw [dif_neg (by omega)]
  exact own_read m c t _ _ (by show (j 0).val - 0 = _; omega) (by show 4096 + (j 1).val = _ + (y 1).val; omega)

/-- The weights read at a lane. -/
theorem weight_read (c : Dev nD) (t : Fin cfg0.N) (k : Fin 4) (y : S512x512.Idx) (j : S8192x6144.Idx) (h1 : (j 1).val = t.val / 16 * 512 + (y 1).val) :
    (show FVec Ideal S4x512 .f32 from iblk m c 2 t) (ix2 k (y 1)) = (show FVec Ideal S4x6144 .f32 from m ((c : Thread nD τ).loc main_arg1)) (ix2 k (j 1)) := by
  show iblk m c 2 t (ix2 k (y 1)) = _
  blk_ext [iblk, V, places t]

/-- The bias read at a lane. -/
theorem bias_read (c : Dev nD) (t : Fin cfg0.N) (y : S512x512.Idx) (j : S8192x6144.Idx) (h1 : (j 1).val = t.val / 16 * 512 + (y 1).val) :
    (show FVec Ideal S1x512 .f32 from iblk m c 3 t) (ix2 0 (y 1)) * (1 : EReal) = (show FVec Ideal S6144 .f32 from m ((c : Thread nD τ).loc main_arg2)) (ix1 (j 1)) * (1 : EReal) := by
  show HMul.hMul (α := EReal) (β := EReal) (iblk m c 3 t (ix2 0 (y 1))) 1 = _
  blk_point [iblk, V, places t]

/-- One block of the result. -/
theorem point (c : Dev nD) (t : Fin cfg0.N) (y : S512x512.Idx) (j : S8192x6144.Idx)
    (h0 : (j 0).val = t.val % 16 * 512 + (y 0).val) (h1 : (j 1).val = t.val / 16 * 512 + (y 1).val) :
    (show FVec Ideal S512x512 .f32 from outsAt0 m c t) y
    = conv (m ((c : Thread nD τ).loc main_arg0)) (m ((c : Thread nD τ).loc main_arg1)) (m ((c : Thread nD τ).loc main_arg2)) j := by
  show outsAt0 m c t y = _
  unfold outsAt0
  frame_out
  pointwise [k0_pay1]
  refine Eq.trans ?_ (conv_at _ _ _ j).symm
  have hb := bias_read m c t y j h1
  simp only [mul_one] at hb
  refine congrArg₂ (· * ·) ?_ (congrArg Ideal.logistic ?_) <;> refine Eq.trans (sums _ _ _ _ _) ?_ <;> unfold total
  all_goals
    exact congrArg₂ (· + ·) hb (congrArg₂ (· + ·) (congrArg₂ (· + ·) (congrArg₂ (· + ·)
      (congrArg₂ (· * ·) (tap m c t y j 3 (by norm_num) (by norm_num) h0 h1) (weight_read m c t 0 y j h1))
      (congrArg₂ (· * ·) (tap m c t y j 2 (by norm_num) (by norm_num) h0 h1) (weight_read m c t 1 y j h1)))
      (congrArg₂ (· * ·) (tap m c t y j 1 (by norm_num) (by norm_num) h0 h1) (weight_read m c t 2 y j h1)))
      (congrArg₂ (· * ·) (tap_own m c t y j h0 h1) (weight_read m c t 3 y j h1)))

/-- The result array after the run is the reference's. -/
theorem result (c : Dev nD) : (dats m 0 c).arrAt 4 (cfgs 0).N
    = conv (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  exact point m c t y _ (by blk_simp [places t]) (by blk_simp [places t])

end Cert.ConvPromptIdeal.Conv

namespace Cert

/-- The tiled convolution and its reference give equal results over the extended reals. -/
theorem convPrompt_equal : algebraic_ConvPromptIdeal_ConvPromptRefIdeal := by
  pair_intro
  · run_from Cert.ConvPromptIdeal.Gen.run_main m g
  · hlo_run
    exact (Cert.ConvPromptIdeal.Conv.result m c).symm

end Cert
end
-- ==== Proof.ConvSampleValue.lean ====
/-
  One step of the causal convolution: after the run, the array the tiled call writes is the silu of the bias plus the four
  weighted rows, three from the state and the new one.
-/
module

public import proofs.«01_k».proof.Defs
public import proofs.«01_k».proof.Proof.Gen.ConvSampleIdeal.Frame
public import proofs.«01_k».proof.Proof.Gen.ConvSampleRefIdeal.Run
public import proofs.«01_k».proof.Proof.Gen.ConvSampleRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ConvSampleIdeal.Step

open Cert.ConvSampleIdeal Cert.ConvSampleIdeal.Gen
open Idealize.ShloMosaic.Pipeline (Dat)

variable (m : (ℓ : Loc nD τ sig) → Buf (Elt Ideal) ℓ)

/-- Where each window stands at point `t`. -/
theorem places : ∀ t : Fin cfg0.N, win0_0.index t = ![0, 0, t.val] ∧ win0_1.index t = ![0, t.val] ∧ win0_2.index t = ![0, t.val]
    ∧ win0_3.index t = ![0, t.val] ∧ win0_4.index t = ![0, t.val] :=
  (by decide +kernel : ∀ t : Fin grid0.N, _)

/-- The step, as the reference writes it. -/
abbrev stepped (S : FVec Ideal S128x3x6144 .f32) (X : FVec Ideal S128x6144 .f32) (W : FVec Ideal S4x6144 .f32)
    (B : FVec Ideal S6144 .f32) : FVec Ideal S128x6144 .f32 :=
  Cert.ConvSampleRefIdeal.Read.val_main_v35 (F := Ideal) S X W B

/-- The weighted sum of a column, in the order the reference adds it. -/
abbrev total (S : FVec Ideal S128x3x6144 .f32) (X : FVec Ideal S128x6144 .f32) (W : FVec Ideal S4x6144 .f32)
    (B : FVec Ideal S6144 .f32) (i : S128x6144.Idx) : EReal :=
  B (ix1 (i 1)) + (S (ix3 (i 0) 0 (i 1)) * W (ix2 0 (i 1)) + S (ix3 (i 0) 1 (i 1)) * W (ix2 1 (i 1)) + S (ix3 (i 0) 2 (i 1)) * W (ix2 2 (i 1))
    + X i * W (ix2 3 (i 1)))

/-- The two orders of adding the five terms agree. -/
theorem sums (b p q r s : EReal) : b + p + q + r + s = b + (q + r + s + p) := by
  ac_rfl

/-- The reference at an index. -/
theorem stepped_at (S : FVec Ideal S128x3x6144 .f32) (X : FVec Ideal S128x6144 .f32) (W : FVec Ideal S4x6144 .f32)
    (B : FVec Ideal S6144 .f32) (i : S128x6144.Idx) :
    stepped S X W B i = total S X W B i * Ideal.logistic (total S X W B i) := by
  unfold stepped
  pointwise [Cert.ConvSampleRefIdeal.Read.val_main_v0, Cert.ConvSampleRefIdeal.Read.val_main_v1, Cert.ConvSampleRefIdeal.Read.val_main_v2, Cert.ConvSampleRefIdeal.Read.val_main_v3, Cert.ConvSampleRefIdeal.Read.val_main_v4, Cert.ConvSampleRefIdeal.Read.val_main_v5, Cert.ConvSampleRefIdeal.Read.val_main_v6, Cert.ConvSampleRefIdeal.Read.val_main_v7,
    Cert.ConvSampleRefIdeal.Read.val_main_cst, Cert.ConvSampleRefIdeal.Read.val_main_v8, Cert.ConvSampleRefIdeal.Read.val_main_v9, Cert.ConvSampleRefIdeal.Read.val_main_v10, Cert.ConvSampleRefIdeal.Read.val_main_v11, Cert.ConvSampleRefIdeal.Read.val_main_v12, Cert.ConvSampleRefIdeal.Read.val_main_v13,
    Cert.ConvSampleRefIdeal.Read.val_main_v14, Cert.ConvSampleRefIdeal.Read.val_main_v15, Cert.ConvSampleRefIdeal.Read.val_main_v16, Cert.ConvSampleRefIdeal.Read.val_main_v17, Cert.ConvSampleRefIdeal.Read.val_main_v18, Cert.ConvSampleRefIdeal.Read.val_main_v19, Cert.ConvSampleRefIdeal.Read.val_main_v20,
    Cert.ConvSampleRefIdeal.Read.val_main_v21, Cert.ConvSampleRefIdeal.Read.val_main_v22, Cert.ConvSampleRefIdeal.Read.val_main_v23, Cert.ConvSampleRefIdeal.Read.val_main_v24, Cert.ConvSampleRefIdeal.Read.val_main_v25, Cert.ConvSampleRefIdeal.Read.val_main_v26, Cert.ConvSampleRefIdeal.Read.val_main_v27,
    Cert.ConvSampleRefIdeal.Read.val_main_v28, Cert.ConvSampleRefIdeal.Read.val_main_v29, Cert.ConvSampleRefIdeal.Read.val_main_v30, Cert.ConvSampleRefIdeal.Read.val_main_v31, Cert.ConvSampleRefIdeal.Read.val_main_v32, Cert.ConvSampleRefIdeal.Read.val_main_v33, Cert.ConvSampleRefIdeal.Read.val_main_call0_v0,
    Cert.ConvSampleRefIdeal.Read.val_main_call0_v1, Cert.ConvSampleRefIdeal.Read.val_main_call0_cst, Cert.ConvSampleRefIdeal.Read.val_main_call0_v2, Cert.ConvSampleRefIdeal.Read.val_main_call0_v3, Cert.ConvSampleRefIdeal.Read.val_main_call0_cst_0,
    Cert.ConvSampleRefIdeal.Read.val_main_call0_v4, Cert.ConvSampleRefIdeal.Read.val_main_call0_v5, Cert.ConvSampleRefIdeal.Read.val_main_v34, Cert.ConvSampleRefIdeal.Read.val_main_v35]
  rfl

/-- One block of the result is the block of the reference's. -/
theorem point (c : Dev nD) (t : Fin cfg0.N) (y : S128x1024.Idx) (j : S128x6144.Idx)
    (h0 : (j 0).val = (y 0).val) (h1 : (j 1).val = t.val * 1024 + (y 1).val) :
    out0_4 (iblk m c 0 t) (iblk m c 1 t) (iblk m c 2 t) (iblk m c 3 t) y
    = stepped (m ((c : Thread nD τ).loc main_arg0)) (m ((c : Thread nD τ).loc main_arg1)) (m ((c : Thread nD τ).loc main_arg2))
      (m ((c : Thread nD τ).loc main_arg3)) j := by
  rw [stepped_at]
  frame_out
  pointwise [k0_pay1]
  refine congrArg₂ (· * ·) ?_ (congrArg Ideal.logistic ?_) <;> refine Eq.trans (sums _ _ _ _ _) ?_ <;> unfold total <;> blk_point [iblk, V, places t]

/-- The result array after the run is the reference's. -/
theorem result (c : Dev nD) : (dats m 0 c).arrAt 4 (cfgs 0).N
    = stepped (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  exact point m c t y _ (by blk_simp [places t]) (by blk_simp [places t])

end Cert.ConvSampleIdeal.Step

namespace Cert

/-- The tiled step of the convolution and its reference give equal results over the extended reals. -/
theorem convSample_equal : algebraic_ConvSampleIdeal_ConvSampleRefIdeal := by
  pair_intro
  · run_from Cert.ConvSampleIdeal.Gen.run_main m g
  · hlo_run
    exact (Cert.ConvSampleIdeal.Step.result m c).symm

end Cert
end
-- ==== Proof.CmpBiasValue.lean ====
/-
  The bias of the compression: after the run, every one of the eight rows the call writes is the bias plus the position
  embedding times the first layer.
-/
module

public import proofs.«01_k».proof.Defs
public import proofs.«01_k».proof.Proof.Gen.CmpBiasIdeal.Frame
public import proofs.«01_k».proof.Proof.Gen.CmpBiasRefIdeal.Run
public import proofs.«01_k».proof.Proof.Gen.CmpBiasRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.CmpBiasIdeal.Rows

open Cert.CmpBiasIdeal Cert.CmpBiasIdeal.Gen
open Idealize.ShloMosaic.Pipeline (Dat)

variable (m : (ℓ : Loc nD τ sig) → Buf (Elt Ideal) ℓ)

/-- Where each window stands at point `t`. -/
theorem places : ∀ t : Fin cfg0.N, win0_0.index t = ![t.val, 0, 0] ∧ win0_1.index t = ![t.val, 0, 0]
    ∧ win0_2.index t = ![t.val, 0, 0] ∧ win0_3.index t = ![t.val, 0, 0] :=
  (by decide +kernel : ∀ t : Fin grid0.N, _)

/-- The bias rows, as the reference writes them. -/
abbrev biased (P : FVec Ideal S2x32x128 .f32) (W : FVec Ideal S2x32x128x128 .f32) (B : FVec Ideal S2x128 .f32) : FVec Ideal S2x8x128 .f32 :=
  Cert.CmpBiasRefIdeal.Read.val_main_v3 (F := Ideal) P W B

/-- A sum over the flattened rows is the sum over lanes and rows. -/
theorem flat (f : Fin 4096 → EReal) : ∑ x, f x = ∑ d : Fin 128, ∑ r : Fin 32, f ⟨r.val * 128 + d.val, by omega⟩ := by
  rw [Finset.sum_comm, ← (finProdFinEquiv (m := 32) (n := 128)).sum_comp f, Fintype.sum_prod_type]
  refine Finset.sum_congr rfl fun r _ => Finset.sum_congr rfl fun d _ => congrArg f (Fin.ext ?_)
  show d.val + 128 * r.val = r.val * 128 + d.val
  omega

/-- The reference at an index. -/
theorem biased_at (P : FVec Ideal S2x32x128 .f32) (W : FVec Ideal S2x32x128x128 .f32) (B : FVec Ideal S2x128 .f32) (i : S2x8x128.Idx) :
    biased P W B i = B (ix2 (i 0) (i 2)) + ∑ d : Fin 128, ∑ r : Fin 32, P (ix3 (i 0) r d) * W (ix4 (i 0) r d (i 2)) := by
  unfold biased
  pointwise [Cert.CmpBiasRefIdeal.Read.val_main_v0, Cert.CmpBiasRefIdeal.Read.val_main_v1, Cert.CmpBiasRefIdeal.Read.val_main_v2, Cert.CmpBiasRefIdeal.Read.val_main_v3]

/-- One block of the result. -/
theorem point (c : Dev nD) (t : Fin cfg0.N) (y : S1x8x128.Idx) (j : S2x8x128.Idx)
    (h0 : (j 0).val = t.val) (h1 : (j 1).val = (y 1).val) (h2 : (j 2).val = (y 2).val) :
    out0_3 (iblk m c 0 t) (iblk m c 1 t) (iblk m c 2 t) y
    = biased (m ((c : Thread nD τ).loc main_arg0)) (m ((c : Thread nD τ).loc main_arg1)) (m ((c : Thread nD τ).loc main_arg2)) j := by
  rw [biased_at]
  frame_out
  pointwise [k0_pay1]
  rw [flat]
  blk_point [iblk, V, places t]

/-- The result array after the run is the reference's. -/
theorem result (c : Dev nD) : (dats m 0 c).arrAt 3 (cfgs 0).N
    = biased (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact point m c t y _ (by blk_simp [places t]) (by blk_simp [places t]) (by blk_simp [places t])

end Cert.CmpBiasIdeal.Rows

namespace Cert

/-- The call's bias rows and the reference's are equal over the extended reals. -/
theorem cmpBias_equal : algebraic_CmpBiasIdeal_CmpBiasRefIdeal := by
  pair_intro
  · run_from Cert.CmpBiasIdeal.Gen.run_main m g
  · hlo_run
    exact (Cert.CmpBiasIdeal.Rows.result m c).symm

end Cert
end
-- ==== Proof.WinOutValue.lean ====
/-
  The shifted window: after the run, every sequence's cache holds its rows from the second on, then the new row.
-/
module

public import proofs.«01_k».proof.Defs
public import proofs.«01_k».proof.Proof.Gen.WinOutIdeal.Frame
public import proofs.«01_k».proof.Proof.Gen.WinOutRefIdeal.Run
public import proofs.«01_k».proof.Proof.Gen.WinOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.WinOutIdeal.Shift

open Cert.WinOutIdeal Cert.WinOutIdeal.Gen
open Idealize.ShloMosaic.Pipeline (Dat)

variable (m : (ℓ : Loc nD τ sig) → Buf (Elt Ideal) ℓ)

/-- Where each window stands at point `t`. -/
theorem places : ∀ t : Fin cfg0.N, win0_0.index t = ![t.val / 128, t.val % 128, 0, 0, 0, 0] ∧ win0_1.index t = ![t.val / 128, t.val % 128, 0, 0, 0, 0]
    ∧ win0_2.index t = ![t.val / 128, t.val % 128, 0, 0, 0, 0] :=
  (by decide +kernel : ∀ t : Fin grid0.N, _)

/-- The shifted window, as the reference writes it. -/
abbrev shifted (C : FVec Ideal S2x128x512x4x2x128 .f32) (N : FVec Ideal S2x128x1x4x2x128 .f32) : FVec Ideal S2x128x512x4x2x128 .f32 :=
  Cert.WinOutRefIdeal.Read.val_main_v1 (F := Ideal) C N

/-- The reference at an index: the next row of the cache, and at the last row the new one. -/
theorem shifted_at (C : FVec Ideal S2x128x512x4x2x128 .f32) (N : FVec Ideal S2x128x1x4x2x128 .f32) (i : S2x128x512x4x2x128.Idx) :
    shifted C N i = if h : (i 2).val < 511 then C (ix6 (i 0) (i 1) ⟨(i 2).val + 1, by omega⟩ (i 3) (i 4) (i 5)) else N (ix6 (i 0) (i 1) 0 (i 3) (i 4) (i 5)) := by
  unfold shifted
  rw [← Cert.WinOutRefIdeal.Read.val_main_v1_eq]
  pointwise []
  have hi : (i 2).val < 512 := (i 2).isLt
  by_cases h : (i 2).val < 511
  · simp only [dif_pos h]
    exact congrArg C (congrArg (fun q => ix6 (i 0) (i 1) q (i 3) (i 4) (i 5)) (Fin.ext (by show 1 + (i 2).val = (i 2).val + 1; omega)))
  · simp only [dif_neg h]
    exact congrArg N (congrArg (fun q => ix6 (i 0) (i 1) q (i 3) (i 4) (i 5)) (Fin.ext (by show (i 2).val - 511 = 0; omega)))

/-- One block of the result. -/
theorem point (c : Dev nD) (t : Fin cfg0.N) (y : S1x1x512x4x2x128.Idx) (j : S2x128x512x4x2x128.Idx)
    (h0 : (j 0).val = t.val / 128) (h1 : (j 1).val = t.val % 128) (h2 : (j 2).val = (y 2).val) (h3 : (j 3).val = (y 3).val)
    (h4 : (j 4).val = (y 4).val) (h5 : (j 5).val = (y 5).val) :
    out0_2 (iblk m c 0 t) (iblk m c 1 t) y
    = shifted (m ((c : Thread nD τ).loc main_arg0)) (m ((c : Thread nD τ).loc main_arg1)) j := by
  rw [shifted_at]
  frame_out
  pointwise [k0_pay1]
  have h2' : (y 2).val < 512 := (y 2).isLt
  have h3' : (y 3).val < 4 := (y 3).isLt
  have h4' : (y 4).val < 2 := (y 4).isLt
  by_cases h : (j 2).val < 511
  · have hy : (y 2).val * 8 + (y 3).val * 2 + (y 4).val < 4088 := by omega
    simp only [dif_pos h, dif_pos hy]
    blk_ext [iblk, V, places t]
  · have hy : ¬ (y 2).val * 8 + (y 3).val * 2 + (y 4).val < 4088 := by omega
    simp only [dif_neg h, dif_neg hy]
    blk_ext [iblk, V, places t]

/-- The result array after the run is the reference's. -/
theorem result (c : Dev nD) : (dats m 0 c).arrAt 2 (cfgs 0).N
    = shifted (m ((c : Thread nD τ).loc main_arg0)) (m ((c : Thread nD τ).loc main_arg1)) := by
  refine (dats m 0 c).arrAt_eq_of_covers 2 _ (by decide +kernel) fun t hf y => ?_
  blk_simp
  rw [after0_2]
  exact point m c t y _ (by blk_simp [places t]) (by blk_simp [places t]) (by blk_simp [places t]) (by blk_simp [places t]) (by blk_simp [places t]) (by blk_simp [places t])

end Cert.WinOutIdeal.Shift

namespace Cert

/-- The call that shifts the window and its reference give equal results. -/
theorem winOut_equal : algebraic_WinOutIdeal_WinOutRefIdeal := by
  pair_intro
  · run_from Cert.WinOutIdeal.Gen.run_main m g
  · hlo_run
    exact (Cert.WinOutIdeal.Shift.result m c).symm

end Cert
end
-- ==== Proof.StepValue.lean ====
/-
  One token's state step: after the run, the state written for the second layer is the recurrence's step of the state
  read, the state of the first layer is copied in front of it, and the token's result is the new state read out.
-/
module

public import proofs.«01_k».proof.Defs
public import proofs.«01_k».proof.Proof.Gen.StepIdeal.Frame
public import proofs.«01_k».proof.Proof.Gen.StepRefIdeal.Run
public import proofs.«01_k».proof.Proof.Gen.StepRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.StepIdeal.Row
open Cert.StepIdeal Cert.StepIdeal.Gen
open Idealize.ShloMosaic.Pipeline (Dat)
variable (m : (ℓ : Loc nD τ sig) → Buf (Elt Ideal) ℓ)
/-- Where each window stands at point `t`. -/
theorem places : ∀ t : Fin cfg0.N, win0_0.index t = ![1, t.val, 0, 0] ∧ win0_1.index t = ![t.val, 0, 0] ∧ win0_2.index t = ![t.val, 0, 0]
    ∧ win0_3.index t = ![t.val, 0, 0] ∧ win0_4.index t = ![t.val, 0, 0] ∧ win0_5.index t = ![0, 0] ∧ win0_6.index t = ![0, 0] ∧ win0_7.index t = ![0, 0]
    ∧ win0_8.index t = ![0, 0] ∧ win0_9.index t = ![0, 0] ∧ win0_10.index t = ![0, t.val, 0, 0] ∧ win0_11.index t = ![t.val, 0, 0] ∧ win0_12.index t = ![0, t.val, 0, 0] :=
  (by decide +kernel : ∀ t : Fin grid0.N, _)

/-- A comparison's bit of two small words as a number: one where they are equal, else zero. -/
theorem one_word (a b : ℕ) (ha : a < 4096) (hb : b < 4096) :
    (FloatOps.uitofp (F := Ideal) FTy.bf16 (IntOp.cmpi CmpIPredicate.eq (IntOp.addi (BitVec.ofNat 32 a) 0#32) (BitVec.ofNat 32 b)) : EReal) = if a = b then 1 else 0 := by
  have h : (BitVec.ofNat 32 a = BitVec.ofNat 32 b) ↔ a = b := by
    constructor
    · intro h
      have := congrArg BitVec.toNat h
      simp only [BitVec.toNat_ofNat] at this
      omega
    · rintro rfl; rfl
  by_cases e : a = b
  · simp [IntOp.cmpi, IntOp.addi, FloatOps.uitofp, e]
  · simp [IntOp.cmpi, IntOp.addi, FloatOps.uitofp, e, h]

/-- The zero word as a number is zero. -/
theorem zero_word : (FloatOps.sitofp (F := Ideal) FTy.f32 0#32 : EReal) = 0 := by
  simp [FloatOps.sitofp]

/-- The state the call reads: lanes over the heads' columns. -/
theorem e0 (c : Dev nD) (t x : Fin 128) (d : Fin 4096) : ((V m c main_v1) (ix4 1 t x d) : EReal) = (m ((c : Thread nD τ).loc main_arg0) (ix5 1 t ⟨d.val / 64, by omega⟩ ⟨d.val % 64, by omega⟩ x) : EReal) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  pointwise []

/-- The token's inner columns. -/
theorem e1 (c : Dev nD) (t : Fin 128) (d : Fin 4096) : ((V m c main_v3) (ix3 t 0 d) : EReal) = (m ((c : Thread nD τ).loc main_arg2) (ix2 t ⟨d.val, by omega⟩) : EReal) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  pointwise []

/-- The raw steps, sixty-four heads padded to a register. -/
theorem e2 (c : Dev nD) (t x : Fin 128) : ((V m c main_v13) (ix3 t 0 x) : EReal) = (if h : x.val < 64 then m ((c : Thread nD τ).loc main_arg3) (ix2 t ⟨x.val, h⟩) else 0 : EReal) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  simp only [StableHlo.TRef.toBuf, StableHlo.TRef.ofBuf, cast_eq]
  pointwise []
  exact dite_congr rfl (fun _ => rfl) (fun _ => zero_word)

/-- The token's input vectors, one column per group. -/
theorem e3 (c : Dev nD) (t x g : Fin 128) : ((V m c main_v10) (ix3 t x g) : EReal) = (if h : g.val < 8 then m ((c : Thread nD τ).loc main_arg2) (ix2 t ⟨4096 + (g.val * 128 + x.val), by omega⟩) else 0 : EReal) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  simp only [StableHlo.TRef.toBuf, StableHlo.TRef.ofBuf, cast_eq]
  pointwise []
  exact dite_congr rfl (fun _ => rfl) (fun _ => zero_word)

/-- The token's output vectors, one column per group. -/
theorem e4 (c : Dev nD) (t x g : Fin 128) : ((V m c main_v11) (ix3 t x g) : EReal) = (if h : g.val < 8 then m ((c : Thread nD τ).loc main_arg2) (ix2 t ⟨5120 + (g.val * 128 + x.val), by omega⟩) else 0 : EReal) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  simp only [StableHlo.TRef.toBuf, StableHlo.TRef.ofBuf, cast_eq]
  pointwise []
  exact dite_congr rfl (fun _ => rfl) (fun _ => zero_word)

/-- The step bias padded to a register. -/
theorem e5 (c : Dev nD) (x : Fin 128) : ((V m c main_v36) (ix2 0 x) : EReal) = (if h : x.val < 64 then m ((c : Thread nD τ).loc main_arg4) (ix1 ⟨x.val, h⟩) else 0 : EReal) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  simp only [StableHlo.TRef.toBuf, StableHlo.TRef.ofBuf, cast_eq]
  pointwise []
  exact dite_congr rfl (fun _ => rfl) (fun _ => zero_word)

/-- The decay rates padded to a register. -/
theorem e6 (c : Dev nD) (x : Fin 128) : ((V m c main_v38) (ix2 0 x) : EReal) = (if h : x.val < 64 then m ((c : Thread nD τ).loc main_arg5) (ix1 ⟨x.val, h⟩) else 0 : EReal) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  simp only [StableHlo.TRef.toBuf, StableHlo.TRef.ofBuf, cast_eq]
  pointwise []
  exact dite_congr rfl (fun _ => rfl) (fun _ => zero_word)

/-- The skip weight of each column's head. -/
theorem e7 (c : Dev nD) (d : Fin 4096) : ((V m c main_v16) (ix2 0 d) : EReal) = (m ((c : Thread nD τ).loc main_arg6) (ix1 ⟨d.val / 64, by omega⟩) : EReal) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  pointwise []

/-- The matrix that spreads a head over its columns. -/
theorem e8 (c : Dev nD) (x : Fin 128) (d : Fin 4096) : ((V m c main_v25) (ix2 x d) : EReal) = (if x.val = d.val / 64 then 1 else 0 : EReal) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  pointwise []
  exact one_word _ _ (by omega) (by omega)

/-- The matrix that spreads a group over its columns. -/
theorem e9 (c : Dev nD) (x : Fin 128) (d : Fin 4096) : ((V m c main_v34) (ix2 x d) : EReal) = (if x.val = d.val / 512 then 1 else 0 : EReal) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append]
  entry_read
  pointwise []
  exact one_word _ _ (by omega) (by omega)

/-- Operand 0's block at point `t`. -/
theorem w0 (c : Dev nD) (t : Fin cfg0.N) (x : Fin 128) (d : Fin 4096) : (iblk m c 0 t (ix4 0 0 x d) : EReal) = (m ((c : Thread nD τ).loc main_arg0) (ix5 1 ⟨t.val, t.isLt⟩ ⟨d.val / 64, by omega⟩ ⟨d.val % 64, by omega⟩ x) : EReal) := by
  refine Eq.trans (b := ((V m c main_v1) (ix4 1 ⟨t.val, t.isLt⟩ x d) : EReal)) (by blk_ext [iblk, places t]) (e0 m c ⟨t.val, t.isLt⟩ x d)

/-- Operand 1's block at point `t`. -/
theorem w1 (c : Dev nD) (t : Fin cfg0.N) (d : Fin 4096) : (iblk m c 1 t (ix3 0 0 d) : EReal) = (m ((c : Thread nD τ).loc main_arg2) (ix2 ⟨t.val, t.isLt⟩ ⟨d.val, by omega⟩) : EReal) := by
  refine Eq.trans (b := ((V m c main_v3) (ix3 ⟨t.val, t.isLt⟩ 0 d) : EReal)) (by blk_ext [iblk, places t]) (e1 m c ⟨t.val, t.isLt⟩ d)

/-- Operand 2's block at point `t`. -/
theorem w2 (c : Dev nD) (t : Fin cfg0.N) (x : Fin 128) : (iblk m c 2 t (ix3 0 0 x) : EReal) = (if h : x.val < 64 then m ((c : Thread nD τ).loc main_arg3) (ix2 ⟨t.val, t.isLt⟩ ⟨x.val, h⟩) else 0 : EReal) := by
  refine Eq.trans (b := ((V m c main_v13) (ix3 ⟨t.val, t.isLt⟩ 0 x) : EReal)) (by blk_ext [iblk, places t]) (e2 m c ⟨t.val, t.isLt⟩ x)

/-- Operand 3's block at point `t`. -/
theorem w3 (c : Dev nD) (t : Fin cfg0.N) (x g : Fin 128) : (iblk m c 3 t (ix3 0 x g) : EReal) = (if h : g.val < 8 then m ((c : Thread nD τ).loc main_arg2) (ix2 ⟨t.val, t.isLt⟩ ⟨4096 + (g.val * 128 + x.val), by omega⟩) else 0 : EReal) := by
  refine Eq.trans (b := ((V m c main_v10) (ix3 ⟨t.val, t.isLt⟩ x g) : EReal)) (by blk_ext [iblk, places t]) (e3 m c ⟨t.val, t.isLt⟩ x g)

/-- Operand 4's block at point `t`. -/
theorem w4 (c : Dev nD) (t : Fin cfg0.N) (x g : Fin 128) : (iblk m c 4 t (ix3 0 x g) : EReal) = (if h : g.val < 8 then m ((c : Thread nD τ).loc main_arg2) (ix2 ⟨t.val, t.isLt⟩ ⟨5120 + (g.val * 128 + x.val), by omega⟩) else 0 : EReal) := by
  refine Eq.trans (b := ((V m c main_v11) (ix3 ⟨t.val, t.isLt⟩ x g) : EReal)) (by blk_ext [iblk, places t]) (e4 m c ⟨t.val, t.isLt⟩ x g)

/-- Operand 5's block at point `t`. -/
theorem w5 (c : Dev nD) (t : Fin cfg0.N) (x : Fin 128) : (iblk m c 5 t (ix2 0 x) : EReal) = (if h : x.val < 64 then m ((c : Thread nD τ).loc main_arg4) (ix1 ⟨x.val, h⟩) else 0 : EReal) := by
  refine Eq.trans (b := ((V m c main_v36) (ix2 0 x) : EReal)) (by blk_ext [iblk, places t]) (e5 m c x)

/-- Operand 6's block at point `t`. -/
theorem w6 (c : Dev nD) (t : Fin cfg0.N) (x : Fin 128) : (iblk m c 6 t (ix2 0 x) : EReal) = (if h : x.val < 64 then m ((c : Thread nD τ).loc main_arg5) (ix1 ⟨x.val, h⟩) else 0 : EReal) := by
  refine Eq.trans (b := ((V m c main_v38) (ix2 0 x) : EReal)) (by blk_ext [iblk, places t]) (e6 m c x)

/-- Operand 7's block at point `t`. -/
theorem w7 (c : Dev nD) (t : Fin cfg0.N) (d : Fin 4096) : (iblk m c 7 t (ix2 0 d) : EReal) = (m ((c : Thread nD τ).loc main_arg6) (ix1 ⟨d.val / 64, by omega⟩) : EReal) := by
  refine Eq.trans (b := ((V m c main_v16) (ix2 0 d) : EReal)) (by blk_ext [iblk, places t]) (e7 m c d)

/-- Operand 8's block at point `t`. -/
theorem w8 (c : Dev nD) (t : Fin cfg0.N) (x : Fin 128) (d : Fin 4096) : (iblk m c 8 t (ix2 x d) : EReal) = (if x.val = d.val / 64 then 1 else 0 : EReal) := by
  refine Eq.trans (b := ((V m c main_v25) (ix2 x d) : EReal)) (by blk_ext [iblk, places t]) (e8 m c x d)

/-- Operand 9's block at point `t`. -/
theorem w9 (c : Dev nD) (t : Fin cfg0.N) (x : Fin 128) (d : Fin 4096) : (iblk m c 9 t (ix2 x d) : EReal) = (if x.val = d.val / 512 then 1 else 0 : EReal) := by
  refine Eq.trans (b := ((V m c main_v34) (ix2 x d) : EReal)) (by blk_ext [iblk, places t]) (e9 m c x d)

/-- Operand 10's block at point `t`. -/
theorem w10 (c : Dev nD) (t : Fin cfg0.N) (x : Fin 128) (d : Fin 4096) : (iblk m c 10 t (ix4 0 0 x d) : EReal) = (m ((c : Thread nD τ).loc main_arg1) (ix4 0 ⟨t.val, t.isLt⟩ x d) : EReal) := by
  blk_ext [iblk, V, places t]

/-- The step of a raw value: the softplus, as the kernel writes it. -/
abbrev stp (u : EReal) : EReal := max u 0 + Ideal.log1p (Ideal.exp (0 - FloatOps.absf (F := Ideal) (φ := FTy.f32) u))

/-- The larger of two reals among the extended reals. -/
theorem coe_max' (a b : ℝ) : max (a : EReal) (b : EReal) = ((max a b : ℝ) : EReal) := (EReal.coe_strictMono.monotone.map_max).symm

/-- The step of a finite raw value is a real number not below zero. -/
theorem stp_real (u : EReal) (h : (FloatOps.absf (F := Ideal) (φ := FTy.f32) u : EReal) < ⊤) : ∃ r : ℝ, 0 ≤ r ∧ stp u = (r : EReal) := by
  rw [Ideal.absf_def] at h
  induction u with
  | bot => exact absurd h (by simp)
  | top => exact absurd h (by simp)
  | coe a =>
    have e : (FloatOps.absf (F := Ideal) (φ := FTy.f32) (a : EReal) : EReal) = ((max a (-a) : ℝ) : EReal) := by
      rw [Ideal.absf_def]
      exact coe_max' a (-a)
    have hp : 0 < Real.exp (0 - max a (-a)) := Real.exp_pos _
    refine ⟨max a 0 + Real.log (1 + Real.exp (0 - max a (-a))), ?_, ?_⟩
    · exact add_nonneg (le_max_right _ _) (Real.log_nonneg (by linarith))
    · unfold stp
      rw [e, ← EReal.coe_zero, ← EReal.coe_sub, Ideal.exp_coe, coe_max']
      have hl : Ideal.log1p ((Real.exp (0 - max a (-a)) : ℝ) : EReal) = ((Real.log (1 + Real.exp (0 - max a (-a))) : ℝ) : EReal) := by
        unfold Ideal.log1p
        rw [← EReal.coe_one, ← EReal.coe_add]
        show (if 1 + Real.exp (0 - max a (-a)) ≤ 0 then (⊥ : EReal) else _) = _
        rw [if_neg (by linarith)]
      rw [hl, EReal.coe_add]

/-- The decay over a real step not below zero is a real number. -/
theorem decay_real (r : ℝ) (hr : 0 ≤ r) (A : EReal) : ∃ q : ℝ, Ideal.exp ((r : EReal) * (0 - Ideal.exp A)) = (q : EReal) := by
  have fin : ∀ E : EReal, E ≠ ⊤ → ∃ q : ℝ, Ideal.exp E = (q : EReal) := by
    intro E hE
    induction E with
    | bot => exact ⟨0, rfl⟩
    | top => exact absurd rfl hE
    | coe a => exact ⟨Real.exp a, rfl⟩
  apply fin
  induction A with
  | bot => simp
  | coe a =>
    rw [Ideal.exp_coe, ← EReal.coe_zero, ← EReal.coe_sub, ← EReal.coe_mul]
    exact EReal.coe_ne_top _
  | top =>
    rw [Ideal.exp_top]
    rcases hr.eq_or_lt with h | h
    · rw [← h]; simp
    · have : (0 : EReal) - ⊤ = ⊥ := by simp
      rw [this, EReal.coe_mul_bot_of_pos h]
      exact bot_ne_top

/-- A real number less itself is zero. -/
theorem sub_self_of_real {f : EReal} (h : ∃ q : ℝ, f = (q : EReal)) : f - f = 0 := by
  obtain ⟨q, rfl⟩ := h
  rw [← EReal.coe_sub, sub_self, EReal.coe_zero]

/-- A product with a one-entry column picks that entry, and the rests add nothing. -/
theorem spread (f e : Fin 128 → EReal) (k : Fin 128) (hf : ∀ x, f x - f x = 0) (he : ∀ x, e x = if x.val = k.val then 1 else 0) :
    ∑ x, f x * e x + ∑ x, (f x - f x) * e x = f k := by
  rw [Finset.sum_eq_zero (s := Finset.univ) (f := fun x => (f x - f x) * e x) fun x _ => by rw [hf x, zero_mul], add_zero,
    Finset.sum_eq_single k]
  · rw [he k, if_pos rfl, mul_one]
  · intro b _ hb
    rw [he b, if_neg fun h => hb (Fin.ext h), mul_zero]
  · intro h; exact absurd (Finset.mem_univ _) h

/-- A group's vector is picked out of the padded columns. -/
theorem pick (f e : Fin 128 → EReal) (k : Fin 128) (he : ∀ x, e x = if x.val = k.val then 1 else 0) :
    ∑ x, f x * e x = f k := by
  rw [Finset.sum_eq_single k]
  · rw [he k, if_pos rfl, mul_one]
  · intro b _ hb
    rw [he b, if_neg fun h => hb (Fin.ext h), mul_zero]
  · intro h; exact absurd (Finset.mem_univ _) h

section Blocks
variable (x0 : Vec Ideal S1x1x128x4096 .f32) (x1 : Vec Ideal S1x1x4096 .f32) (x2 : Vec Ideal S1x8x128 .f32) (x3 x4 : Vec Ideal S1x128x128 .f32)
  (x5 x6 : Vec Ideal S1x128 .f32) (x7 : Vec Ideal S1x4096 .f32) (x8 x9 : Vec Ideal S128x4096 .bf16) (x10 : Vec Ideal S1x1x128x4096 .f32)

/-- The new state the kernel computes from its blocks. -/
abbrev newState : FVec Ideal S128x4096 .f32 :=
  k0_pay9 (k0_pay12 x0 x1 x2 x3 x4 x5 x6 x7 x8 x9 x10) (k0_pay13 x0 x1 x2 x3 x4 x5 x6 x7 x8 x9 x10) (k0_pay14 x0 x1 x2 x3 x4 x5 x6 x7 x8 x9 x10) x1 x9 x3 x0

/-- The new state at a row and a column. -/
theorem newState_at (x : Fin 128) (d : Fin 4096) : newState x0 x1 x2 x3 x4 x5 x6 x7 x8 x9 x10 (ix2 x d)
    = HMul.hMul (α := EReal) (β := EReal) (γ := EReal) (x0 (ix4 0 0 x d)) (∑ z : Fin 128, (Ideal.exp (stp (HAdd.hAdd (α := EReal) (β := EReal) (γ := EReal) (x2 (ix3 0 0 z)) (x5 (ix2 0 z))) * (0 - Ideal.exp (x6 (ix2 0 z)))) : EReal) * x8 (ix2 z d)
        + ∑ z : Fin 128, ((Ideal.exp (stp (HAdd.hAdd (α := EReal) (β := EReal) (γ := EReal) (x2 (ix3 0 0 z)) (x5 (ix2 0 z))) * (0 - Ideal.exp (x6 (ix2 0 z)))) : EReal) - (Ideal.exp (stp (HAdd.hAdd (α := EReal) (β := EReal) (γ := EReal) (x2 (ix3 0 0 z)) (x5 (ix2 0 z))) * (0 - Ideal.exp (x6 (ix2 0 z)))) : EReal)) * x8 (ix2 z d))
      + (∑ g : Fin 128, HMul.hMul (α := EReal) (β := EReal) (γ := EReal) (x3 (ix3 0 x g)) (x9 (ix2 g d))) * (HMul.hMul (α := EReal) (β := EReal) (γ := EReal) (x1 (ix3 0 0 d)) (∑ z : Fin 128, (stp (HAdd.hAdd (α := EReal) (β := EReal) (γ := EReal) (x2 (ix3 0 0 z)) (x5 (ix2 0 z))) : EReal) * x8 (ix2 z d)
        + ∑ z : Fin 128, ((stp (HAdd.hAdd (α := EReal) (β := EReal) (γ := EReal) (x2 (ix3 0 0 z)) (x5 (ix2 0 z))) : EReal) - (stp (HAdd.hAdd (α := EReal) (β := EReal) (γ := EReal) (x2 (ix3 0 0 z)) (x5 (ix2 0 z))) : EReal)) * x8 (ix2 z d))) := by
  unfold newState k0_pay9 k0_pay12 k0_pay13 k0_pay14
  pointwise [k0_pay8, k0_pay7, k0_pay6, k0_pay5, k0_pay4, k0_pay3]

/-- The token's result from the blocks. -/
theorem read_at (d : Fin 4096) : out0_11 x0 x1 x2 x3 x4 x5 x6 x7 x8 x9 x10 (ix3 0 0 d)
    = HAdd.hAdd (α := EReal) (β := EReal) (γ := EReal) (∑ x : Fin 128, HMul.hMul (α := EReal) (β := EReal) (γ := EReal) (newState x0 x1 x2 x3 x4 x5 x6 x7 x8 x9 x10 (ix2 x d)) (∑ g : Fin 128, HMul.hMul (α := EReal) (β := EReal) (γ := EReal) (x4 (ix3 0 x g)) (x9 (ix2 g d))))
      (HMul.hMul (α := EReal) (β := EReal) (γ := EReal) (x7 (ix2 0 d)) (x1 (ix3 0 0 d))) := by
  frame_out
  pointwise [k0_pay1, k0_pay11, k0_pay8, k0_pay7]
  try rfl

/-- The states written: the first layer's copied, then the new one. -/
theorem states_at (y : S2x1x128x4096.Idx) : out0_12 x0 x1 x2 x3 x4 x5 x6 x7 x8 x9 x10 y
    = if (y 0).val < 1 then x10 (ix4 0 0 (y 2) (y 3)) else newState x0 x1 x2 x3 x4 x5 x6 x7 x8 x9 x10 (ix2 (y 2) (y 3)) := by
  canon_tiles x h using cover0_12 ..
  · rw [if_neg (by omega)]
    have e1 : View.ld x1 r0_5 = x1 := View.ld_unit_lit _ _ (by decide)
    have e9 : View.ld x9 r0_4 = x9 := View.ld_unit_lit _ _ (by decide)
    have e3 : View.ld x3 r0_6 = x3 := View.ld_unit_lit _ _ (by decide)
    have e0 : View.ld x0 r0_0 = x0 := View.ld_unit_lit _ _ (by decide)
    rw [e1, e9, e3, e0]
    have k2 : y 2 = x 2 := Fin.ext h2
    have k3 : y 3 = x 3 := Fin.ext h3
    rw [k2, k3]
    pointwise [k0_pay10]
  · rw [if_pos (by omega)]
    have e10 : View.ld x10 r0_0 = x10 := View.ld_unit_lit _ _ (by decide)
    rw [e10]
    have k2 : y 2 = x 2 := Fin.ext h2
    have k3 : y 3 = x 3 := Fin.ext h3
    rw [k2, k3]
    pointwise [k0_pay2]
    refine congrArg x10 (funext fun a => ?_)
    match a with
    | 0 => exact Fin.ext (by show (x 0).val = 0; omega)
    | 1 => exact Fin.ext (by show (x 1).val = 0; omega)
    | 2 => rfl
    | 3 => rfl

end Blocks

section Reference
variable (S : FVec Ideal S2x128x64x64x128 .f32) (H : FVec Ideal S1x128x128x4096 .f32) (A : FVec Ideal S128x6144 .f32) (R : FVec Ideal S128x64 .f32) (B L D : FVec Ideal S64 .f32)

/-- The reference's new state. -/
abbrev refState : FVec Ideal Cert.StepRefIdeal.S128x64x64x128 .f32 := Cert.StepRefIdeal.Read.val_main_v33 (F := Ideal) S A R B L
/-- The reference's result of the tokens. -/
abbrev refRead : FVec Ideal S128x1x4096 .f32 := Cert.StepRefIdeal.Read.val_main_v45 (F := Ideal) S A R B L D
/-- The reference's states of both layers. -/
abbrev refStates : FVec Ideal S2x128x128x4096 .f32 := Cert.StepRefIdeal.Read.val_main_v47 (F := Ideal) S H A R B L

/-- The reference's new state at a token, a head, a head's column and a lane. -/
theorem refState_at (t : Fin 128) (d : Fin 4096) (x : Fin 128) : refState S A R B L (ix4 t ⟨d.val / 64, by omega⟩ ⟨d.val % 64, by omega⟩ x)
    = HAdd.hAdd (α := EReal) (β := EReal) (γ := EReal) (HMul.hMul (α := EReal) (β := EReal) (γ := EReal) (S (ix5 1 t ⟨d.val / 64, by omega⟩ ⟨d.val % 64, by omega⟩ x))
        (Ideal.exp (stp (HAdd.hAdd (α := EReal) (β := EReal) (γ := EReal) (R (ix2 t ⟨d.val / 64, by omega⟩)) (B (ix1 ⟨d.val / 64, by omega⟩))) * (0 - Ideal.exp (L (ix1 ⟨d.val / 64, by omega⟩))))))
      (HMul.hMul (α := EReal) (β := EReal) (γ := EReal) (HMul.hMul (α := EReal) (β := EReal) (γ := EReal) (A (ix2 t ⟨d.val, by omega⟩)) (stp (HAdd.hAdd (α := EReal) (β := EReal) (γ := EReal) (R (ix2 t ⟨d.val / 64, by omega⟩)) (B (ix1 ⟨d.val / 64, by omega⟩)))))
        (A (ix2 t ⟨4096 + (d.val / 512 * 128 + x.val), by omega⟩))) := by
  have hd : d.val / 64 / 8 = d.val / 512 := by omega
  have hm : d.val / 64 * 64 + d.val % 64 = d.val := by omega
  unfold refState
  pointwise [Cert.StepRefIdeal.Read.val_main_v0, Cert.StepRefIdeal.Read.val_main_v1, Cert.StepRefIdeal.Read.val_main_v2, Cert.StepRefIdeal.Read.val_main_v3, Cert.StepRefIdeal.Read.val_main_v4, Cert.StepRefIdeal.Read.val_main_v5, Cert.StepRefIdeal.Read.val_main_v6, Cert.StepRefIdeal.Read.val_main_v7,
    Cert.StepRefIdeal.Read.val_main_v8, Cert.StepRefIdeal.Read.val_main_call0_cst, Cert.StepRefIdeal.Read.val_main_call0_v0, Cert.StepRefIdeal.Read.val_main_call0_v1, Cert.StepRefIdeal.Read.val_main_call0_v2, Cert.StepRefIdeal.Read.val_main_call0_v3,
    Cert.StepRefIdeal.Read.val_main_call0_v4, Cert.StepRefIdeal.Read.val_main_call0_v5, Cert.StepRefIdeal.Read.val_main_call0_v6, Cert.StepRefIdeal.Read.val_main_call0_v7, Cert.StepRefIdeal.Read.val_main_call0_v8, Cert.StepRefIdeal.Read.val_main_call0_v9,
    Cert.StepRefIdeal.Read.val_main_call0_v10, Cert.StepRefIdeal.Read.val_main_call0_v11, Cert.StepRefIdeal.Read.val_main_v9, Cert.StepRefIdeal.Read.val_main_v10, Cert.StepRefIdeal.Read.val_main_v11, Cert.StepRefIdeal.Read.val_main_v12, Cert.StepRefIdeal.Read.val_main_v13,
    Cert.StepRefIdeal.Read.val_main_v14, Cert.StepRefIdeal.Read.val_main_v15, Cert.StepRefIdeal.Read.val_main_v16, Cert.StepRefIdeal.Read.val_main_v17, Cert.StepRefIdeal.Read.val_main_v18, Cert.StepRefIdeal.Read.val_main_v19, Cert.StepRefIdeal.Read.val_main_v20,
    Cert.StepRefIdeal.Read.val_main_v21, Cert.StepRefIdeal.Read.val_main_v22, Cert.StepRefIdeal.Read.val_main_v23, Cert.StepRefIdeal.Read.val_main_v24, Cert.StepRefIdeal.Read.val_main_v25, Cert.StepRefIdeal.Read.val_main_v26, Cert.StepRefIdeal.Read.val_main_v27,
    Cert.StepRefIdeal.Read.val_main_v28, Cert.StepRefIdeal.Read.val_main_v29, Cert.StepRefIdeal.Read.val_main_v30, Cert.StepRefIdeal.Read.val_main_v31, Cert.StepRefIdeal.Read.val_main_v32, Cert.StepRefIdeal.Read.val_main_v33]
  simp only [ne_eq, not_true_eq_false, if_false, hd, hm, stp, zero_sub]

/-- The reference's result at a token and a column. -/
theorem refRead_at (t : Fin 128) (d : Fin 4096) : refRead S A R B L D (ix3 t 0 d)
    = HAdd.hAdd (α := EReal) (β := EReal) (γ := EReal) (∑ x : Fin 128, HMul.hMul (α := EReal) (β := EReal) (γ := EReal) (refState S A R B L (ix4 t ⟨d.val / 64, by omega⟩ ⟨d.val % 64, by omega⟩ x)) (A (ix2 t ⟨5120 + (d.val / 512 * 128 + x.val), by omega⟩)))
      (HMul.hMul (α := EReal) (β := EReal) (γ := EReal) (D (ix1 ⟨d.val / 64, by omega⟩)) (A (ix2 t ⟨d.val, by omega⟩))) := by
  have hd : d.val / 64 / 8 = d.val / 512 := by omega
  unfold refRead
  pointwise [Cert.StepRefIdeal.Read.val_main_v45, Cert.StepRefIdeal.Read.val_main_v42, Cert.StepRefIdeal.Read.val_main_v41, Cert.StepRefIdeal.Read.val_main_v40, Cert.StepRefIdeal.Read.val_main_v39, Cert.StepRefIdeal.Read.val_main_v38, Cert.StepRefIdeal.Read.val_main_v37, Cert.StepRefIdeal.Read.val_main_v36, Cert.StepRefIdeal.Read.val_main_v35, Cert.StepRefIdeal.Read.val_main_v34, Cert.StepRefIdeal.Read.val_main_v19, Cert.StepRefIdeal.Read.val_main_v18, Cert.StepRefIdeal.Read.val_main_v5, Cert.StepRefIdeal.Read.val_main_v4, Cert.StepRefIdeal.Read.val_main_v1, Cert.StepRefIdeal.Read.val_main_v0, Cert.StepRefIdeal.Read.val_main_cst]
  simp only [hd]

/-- The reference's states: the first layer's, then the new one. -/
theorem refStates_at (i : S2x128x128x4096.Idx) : refStates S H A R B L i
    = if (i 0).val < 1 then H (ix4 0 (i 1) (i 2) (i 3)) else refState S A R B L (ix4 (i 1) ⟨(i 3).val / 64, by have : (i 3).val < 4096 := (i 3).isLt; omega⟩ ⟨(i 3).val % 64, by omega⟩ (i 2)) := by
  unfold refStates
  pointwise [Cert.StepRefIdeal.Read.val_main_v47, Cert.StepRefIdeal.Read.val_main_v46, Cert.StepRefIdeal.Read.val_main_v44, Cert.StepRefIdeal.Read.val_main_v43]
  by_cases h : (i 0).val < 1
  · rw [dif_pos h, if_pos h]
    exact congrArg H (congrArg (fun q => ix4 q (i 1) (i 2) (i 3)) (Fin.ext (by show (i 0).val = 0; omega)))
  · rw [dif_neg h, if_neg h]

/-- What the precondition says at a token and a head. -/
theorem finite_at [Cert.Pre_finite_steps.Facts] (t : Fin 128) (z : Fin 64)
    (h : Cert.Pre_finite_steps.fn (F := Ideal) S H A R B L D (ix2 t z) = 1#1) :
    (FloatOps.absf (F := Ideal) (φ := FTy.f32) (HAdd.hAdd (α := EReal) (β := EReal) (γ := EReal) (R (ix2 t z)) (B (ix1 z))) : EReal) < ⊤ := by
  have top : Ideal.ofBits FTy.f32 2139095040#32 = ⊤ := by
    simp [Ideal.ofBits, Ideal.ieee]
  have e : Cert.Pre_finite_steps.fn (F := Ideal) S H A R B L D (ix2 t z)
      = BitVec.ofBool (decide ((FloatOps.absf (F := Ideal) (φ := FTy.f32) (HAdd.hAdd (α := EReal) (β := EReal) (γ := EReal) (R (ix2 t z)) (B (ix1 z))) : EReal) < Ideal.ofBits FTy.f32 2139095040#32)) := by
    unfold Cert.Pre_finite_steps.fn
    pointwise []
  rw [e, top] at h
  by_contra hn
  rw [decide_eq_false hn] at h
  exact absurd h (by decide)

end Reference

/-- The parts of the new state put together. -/
theorem assemble {a s1 s2 s3 p q r b : EReal} (h1 : s1 = p) (h2 : s2 = q) (h3 : s3 = r) : a * s1 + s3 * (b * s2) = a * p + r * (b * q) := by
  rw [h1, h2, h3]

/-- The two spellings of the step of the state. -/
theorem spell {a a' x x' v v' r r' b b' l l' : EReal} (ha : a = a') (hx : x = x') (hv : v = v') (hr : r = r') (hb : b = b') (hl : l = l') :
    a * Ideal.exp (stp (r + b) * (0 - Ideal.exp l)) + v * (x * stp (r + b)) = a' * Ideal.exp (stp (r' + b') * (0 - Ideal.exp l')) + (x' * stp (r' + b')) * v' := by
  subst ha hx hv hr hb hl
  rw [mul_comm v]

/-- The kernel's new state at point `t` is the reference's at token `t`. -/
theorem state_eq (c : Dev nD) (t : Fin cfg0.N) (x : Fin 128) (d : Fin 4096)
    (hf : ∀ z : Fin 64, (FloatOps.absf (F := Ideal) (φ := FTy.f32) (HAdd.hAdd (α := EReal) (β := EReal) (γ := EReal) (m ((c : Thread nD τ).loc main_arg3) (ix2 ⟨t.val, t.isLt⟩ z)) (m ((c : Thread nD τ).loc main_arg4) (ix1 z))) : EReal) < ⊤) :
    newState (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 x d)
    = refState (m ((c : Thread nD τ).loc main_arg0)) (m ((c : Thread nD τ).loc main_arg2)) (m ((c : Thread nD τ).loc main_arg3)) (m ((c : Thread nD τ).loc main_arg4)) (m ((c : Thread nD τ).loc main_arg5))
      (ix4 ⟨t.val, t.isLt⟩ ⟨d.val / 64, by omega⟩ ⟨d.val % 64, by omega⟩ x) := by
  have hz : ∀ z : Fin 128, ∃ r : ℝ, 0 ≤ r ∧ stp (HAdd.hAdd (α := EReal) (β := EReal) (γ := EReal) (iblk m c 2 t (ix3 0 0 z)) (iblk m c 5 t (ix2 0 z))) = (r : EReal) := by
    intro z
    rw [w2 m c t z, w5 m c t z]
    by_cases h : z.val < 64
    · rw [dif_pos h, dif_pos h]
      exact stp_real _ (hf ⟨z.val, h⟩)
    · rw [dif_neg h, dif_neg h]
      exact stp_real _ (by rw [Ideal.absf_def]; simp)
  have a2 := spread (fun z => stp (HAdd.hAdd (α := EReal) (β := EReal) (γ := EReal) (iblk m c 2 t (ix3 0 0 z)) (iblk m c 5 t (ix2 0 z)))) (fun z => iblk m c 8 t (ix2 z d)) ⟨d.val / 64, by omega⟩
    (fun z => sub_self_of_real (by obtain ⟨r, _, e⟩ := hz z; exact ⟨r, e⟩)) (fun z => w8 m c t z d)
  have a1 := spread (fun z => Ideal.exp (stp (HAdd.hAdd (α := EReal) (β := EReal) (γ := EReal) (iblk m c 2 t (ix3 0 0 z)) (iblk m c 5 t (ix2 0 z))) * (0 - Ideal.exp (iblk m c 6 t (ix2 0 z))))) (fun z => iblk m c 8 t (ix2 z d)) ⟨d.val / 64, by omega⟩
    (fun z => sub_self_of_real (by obtain ⟨r, hr, e⟩ := hz z; simp only [e]; exact decay_real r hr _)) (fun z => w8 m c t z d)
  have a3 := pick (fun g => iblk m c 3 t (ix3 0 x g)) (fun g => iblk m c 9 t (ix2 g d)) ⟨d.val / 512, by omega⟩ (fun z => w9 m c t z d)
  refine (newState_at (iblk m c 0 t) (iblk m c 1 t) (iblk m c 2 t) (iblk m c 3 t) (iblk m c 4 t) (iblk m c 5 t) (iblk m c 6 t) (iblk m c 7 t) (iblk m c 8 t) (iblk m c 9 t) (iblk m c 10 t) x d).trans ((assemble a1 a2 a3).trans ?_)
  refine (spell (w0 m c t x d) (w1 m c t d) ((w3 m c t x _).trans (dif_pos (by show d.val / 512 < 8; omega))) ((w2 m c t _).trans (dif_pos (by show d.val / 64 < 64; omega)))
    ((w5 m c t _).trans (dif_pos (by show d.val / 64 < 64; omega))) ((w6 m c t _).trans (dif_pos (by show d.val / 64 < 64; omega)))).trans (refState_at _ _ _ _ _ _ _ _).symm

/-- A sum of products and one more product, term by term. -/
theorem terms {f g f' g' : Fin 128 → EReal} {a b a' b' : EReal} (hf : ∀ x, f x = f' x) (hg : ∀ x, g x = g' x) (ha : a = a') (hb : b = b') :
    ∑ x, f x * g x + a * b = ∑ x, f' x * g' x + a' * b' := by
  rw [show f = f' from funext hf, show g = g' from funext hg, ha, hb]

section Points
variable (c : Dev nD) (t : Fin cfg0.N)
    (hf : ∀ z : Fin 64, (FloatOps.absf (F := Ideal) (φ := FTy.f32) (HAdd.hAdd (α := EReal) (β := EReal) (γ := EReal) (m ((c : Thread nD τ).loc main_arg3) (ix2 ⟨t.val, t.isLt⟩ z)) (m ((c : Thread nD τ).loc main_arg4) (ix1 z))) : EReal) < ⊤)
include hf

/-- One token's result. -/
theorem point11 (y : S1x1x4096.Idx) (j : S128x1x4096.Idx) (h0 : (j 0).val = t.val) (h2 : (j 2).val = (y 2).val) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = refRead (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) j := by
  have hy : y = ix3 0 0 (y 2) := funext fun a => match a with
    | 0 => Fin.ext (by have : (y 0).val < 1 := (y 0).isLt; show (y 0).val = 0; omega)
    | 1 => Fin.ext (by have : (y 1).val < 1 := (y 1).isLt; show (y 1).val = 0; omega)
    | 2 => rfl
  have hj : j = ix3 ⟨t.val, t.isLt⟩ 0 (y 2) := funext fun a => match a with
    | 0 => Fin.ext h0
    | 1 => Fin.ext (by have : (j 1).val < 1 := (j 1).isLt; show (j 1).val = 0; omega)
    | 2 => Fin.ext h2
  rw [hj]
  refine (congrArg _ hy).trans ?_
  refine (read_at (iblk m c 0 t) (iblk m c 1 t) (iblk m c 2 t) (iblk m c 3 t) (iblk m c 4 t) (iblk m c 5 t) (iblk m c 6 t) (iblk m c 7 t) (iblk m c 8 t) (iblk m c 9 t) (iblk m c 10 t) (y 2)).trans ?_
  refine Eq.trans ?_ (refRead_at _ _ _ _ _ _ _ _).symm
  have hlt : (y 2).val < 4096 := (y 2).isLt
  exact terms (fun x => state_eq m c t x (y 2) hf)
    (fun x => (pick (fun g => iblk m c 4 t (ix3 0 x g)) (fun g => iblk m c 9 t (ix2 g (y 2))) ⟨(y 2).val / 512, by omega⟩ (fun z => w9 m c t z (y 2))).trans
      ((w4 m c t x _).trans (dif_pos (by show (y 2).val / 512 < 8; omega))))
    (w7 m c t (y 2)) (w1 m c t (y 2))

/-- One token's states. -/
theorem point12 (y : S2x1x128x4096.Idx) (j : S2x128x128x4096.Idx) (h0 : (j 0).val = (y 0).val) (h1 : (j 1).val = t.val) (h2 : (j 2).val = (y 2).val) (h3 : (j 3).val = (y 3).val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = refStates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  have hj : j = ix4 (y 0) ⟨t.val, t.isLt⟩ (y 2) (y 3) := funext fun a => match a with
    | 0 => Fin.ext h0
    | 1 => Fin.ext h1
    | 2 => Fin.ext h2
    | 3 => Fin.ext h3
  rw [hj]
  refine (states_at (iblk m c 0 t) (iblk m c 1 t) (iblk m c 2 t) (iblk m c 3 t) (iblk m c 4 t) (iblk m c 5 t) (iblk m c 6 t) (iblk m c 7 t) (iblk m c 8 t) (iblk m c 9 t) (iblk m c 10 t) y).trans (Eq.trans ?_ (refStates_at _ _ _ _ _ _ _).symm)
  by_cases h : (y 0).val < 1
  · refine (if_pos h).trans (Eq.trans ?_ (if_pos h).symm)
    exact w10 m c t (y 2) (y 3)
  · refine (if_neg h).trans (Eq.trans ?_ (if_neg h).symm)
    exact state_eq m c t (y 2) (y 3) hf

end Points

/-- The array of the tokens' results after the run is the reference's. -/
theorem result11 [Cert.Pre_finite_steps.Facts] (c : Dev nD) (hp : Cert.Pre_StepIdeal_finite_steps m) : (dats m 0 c).arrAt 11 (cfgs 0).N
    = refRead (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  blk_simp
  rw [after0_11]
  exact point11 m c t (fun z => finite_at _ _ _ _ _ _ _ _ z (congrFun (hp c) (ix2 ⟨t.val, t.isLt⟩ z))) y _ (by blk_simp [places t]) (by blk_simp [places t])

/-- The array of the states after the run is the reference's. -/
theorem result12 [Cert.Pre_finite_steps.Facts] (c : Dev nD) (hp : Cert.Pre_StepIdeal_finite_steps m) : (dats m 0 c).arrAt 12 (cfgs 0).N
    = refStates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t hf y => ?_
  blk_simp
  rw [after0_12]
  exact point12 m c t (fun z => finite_at _ _ _ _ _ _ _ _ z (congrFun (hp c) (ix2 ⟨t.val, t.isLt⟩ z))) y _ (by blk_simp [places t]) (by blk_simp [places t]) (by blk_simp [places t]) (by blk_simp [places t])

end Cert.StepIdeal.Row

namespace Cert

set_option maxHeartbeats 2000000 in
/-- Where every raw step plus its bias is finite, the call's results and states and the reference's are equal over the
    extended reals. -/
theorem step_equal [Cert.Pre_finite_steps.Facts] : algebraic_StepIdeal_StepRefIdeal_pre_finite_steps := by
  pair_intro
  · run_from Cert.StepIdeal.Gen.run_main m g
    · exact Cert.StepIdeal.Gen.V_main_arg0 m c
    · exact Cert.StepIdeal.Gen.V_main_arg2 m c
    · exact Cert.StepIdeal.Gen.V_main_arg3 m c
    · exact Cert.StepIdeal.Gen.V_main_arg4 m c
    · exact Cert.StepIdeal.Gen.V_main_arg5 m c
    · exact Cert.StepIdeal.Gen.V_main_arg6 m c
  · refine (θ_run Cert.StepRefIdeal.defs _ _).mono (fun r h c => ?_) (Cert.StepRefIdeal.Value.run (F := Ideal) m' g')
    obtain ⟨a0, a1, a2, a3, a4, a5, a6⟩ := hagree c
    obtain ⟨r11, r12, rest⟩ := h c
    refine ⟨r11.trans ?_, r12.trans ?_, rest⟩
    · rw [Cert.StepRefIdeal.Read.val_main_v45_eq, a0, a2, a3, a4, a5, a6]
      exact (Cert.StepIdeal.Row.result11 m c hpre).symm
    · rw [Cert.StepRefIdeal.Read.val_main_v47_eq, a0, a1, a2, a3, a4, a5]
      exact (Cert.StepIdeal.Row.result12 m c hpre).symm

end Cert
end
-- ==== Proof.ScanSums.lean ====
/-
  The sums of the state recurrence: a state is a sum of the tokens' terms, each times the exponential of the later
  tokens' decays, and a chunk of tokens takes that sum over one range to the sum over the next.
-/
module

public import proofs.«01_k».proof.Defs
public import Idealize.ShloMosaic.Lib.Pipeline.ValueKit
public import Idealize.ShloMosaic.Lib.Claim

@[expose] public section

noncomputable section

open Idealize.ShloMosaic

namespace Cert.ScanSums

/-- The state after the first `n` tokens: each token's term times the exponential of the later tokens' decays. -/
def left (w : ℕ → EReal) (a : ℕ → ℝ) (n : ℕ) : EReal := ∑ s ∈ Finset.range n, w s * ((Real.exp (∑ t ∈ Finset.Ico (s + 1) n, a t) : ℝ) : EReal)

/-- A sum times a real not below zero, term by term. -/
theorem sum_mul_real (f : ℕ → EReal) (r : ℝ) (hr : 0 ≤ r) (n : ℕ) : (∑ s ∈ Finset.range n, f s) * (r : EReal) = ∑ s ∈ Finset.range n, f s * (r : EReal) := by
  induction n with
  | zero => simp
  | succ n ih => rw [Finset.sum_range_succ, Finset.sum_range_succ, EReal.right_distrib_of_nonneg_of_ne_top (EReal.coe_nonneg.mpr hr) (EReal.coe_ne_top r), ih]

/-- A sum of reals among the extended reals. -/
theorem sum_coe {ι : Type} (f : ι → ℝ) (s : Finset ι) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- One chunk of `q` tokens: the state so far times the chunk's whole decay, and the chunk's own terms. -/
theorem left_add (w : ℕ → EReal) (a : ℕ → ℝ) (n q : ℕ) :
    left w a n * ((Real.exp (∑ t ∈ Finset.range q, a (n + t)) : ℝ) : EReal)
      + ∑ s ∈ Finset.range q, w (n + s) * ((Real.exp (∑ t ∈ Finset.range q, a (n + t) - ∑ t ∈ Finset.range (s + 1), a (n + t)) : ℝ) : EReal)
    = left w a (n + q) := by
  unfold left
  rw [sum_mul_real _ _ (Real.exp_pos _).le, Finset.sum_range_add]
  congr 1
  · refine Finset.sum_congr rfl fun s hs => ?_
    have hs' := Finset.mem_range.mp hs
    rw [mul_assoc, ← EReal.coe_mul, ← Real.exp_add, ← Finset.sum_Ico_consecutive a (show s + 1 ≤ n by omega) (show n ≤ n + q by omega),
      Finset.sum_Ico_eq_sum_range a n (n + q), Nat.add_sub_cancel_left]
  · refine Finset.sum_congr rfl fun s hs => ?_
    have hs' := Finset.mem_range.mp hs
    congr 3
    have h1 := Finset.sum_Ico_consecutive a (show n ≤ n + s + 1 by omega) (show n + s + 1 ≤ n + q by omega)
    rw [Finset.sum_Ico_eq_sum_range a n (n + q), Finset.sum_Ico_eq_sum_range a n (n + s + 1), Nat.add_sub_cancel_left, show n + s + 1 - n = s + 1 by omega] at h1
    rw [← h1]
    ring

/-- The empty state. -/
theorem left_zero (w : ℕ → EReal) (a : ℕ → ℝ) : left w a 0 = 0 := by simp [left]

/-- The running sum of a triangular row. -/
theorem tri_sum (a : ℕ → ℝ) (q : ℕ) (s : Fin q) : ∑ t : Fin q, (if t.val ≤ s.val then (1 : EReal) else 0) * ((a t.val : ℝ) : EReal) = ((∑ t ∈ Finset.range (s.val + 1), a t : ℝ) : EReal) := by
  rw [Finset.sum_fin_eq_sum_range, ← sum_coe]
  have hs := s.isLt
  rw [← Finset.sum_subset (Finset.range_subset_range.mpr (show s.val + 1 ≤ q by omega))]
  · refine Finset.sum_congr rfl fun t ht => ?_
    have := Finset.mem_range.mp ht
    rw [dif_pos (by omega), if_pos (by show t ≤ s.val; omega), one_mul]
  · intro t ht hn
    have h1 := Finset.mem_range.mp ht
    have h2 : ¬ t < s.val + 1 := fun h => hn (Finset.mem_range.mpr h)
    rw [dif_pos h1, if_neg (by show ¬ t ≤ s.val; omega), zero_mul]

/-- The sum of the later tokens' decays. -/
theorem later_sum (a : ℕ → ℝ) (q : ℕ) (s : Fin q) : ∑ t : Fin q, (if s.val < t.val then ((a t.val : ℝ) : EReal) else 0) = ((∑ t ∈ Finset.Ico (s.val + 1) q, a t : ℝ) : EReal) := by
  rw [Finset.sum_fin_eq_sum_range, ← sum_coe, Finset.range_eq_Ico, ← Finset.sum_subset (Finset.Ico_subset_Ico_left (Nat.zero_le (s.val + 1)))]
  · refine Finset.sum_congr rfl fun t ht => ?_
    have := Finset.mem_Ico.mp ht
    rw [dif_pos (by omega), if_pos (by show s.val < t; omega)]
  · intro t ht hn
    have h1 := Finset.mem_Ico.mp ht
    have h2 : ¬ (s.val + 1 ≤ t) := fun h => hn (Finset.mem_Ico.mpr ⟨h, h1.2⟩)
    rw [dif_pos h1.2, if_neg (by show ¬ s.val < t; omega)]

end Cert.ScanSums
end
-- ==== Proof.ScanParts.lean ====
/-
  The state scan over the prompt's tokens, its parts: the blocks a chunk reads, and the values its computation takes at an
  entry.
-/
module

public import proofs.«01_k».proof.Defs
public import proofs.«01_k».proof.Proof.Gen.ScanIdeal.Frame.Runs
public import proofs.«01_k».proof.Proof.StepValue
public import proofs.«01_k».proof.Proof.ScanSums
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ScanIdeal.Row
open Cert.ScanIdeal Cert.ScanIdeal.Gen
open Idealize.ShloMosaic.Pipeline (Dat)
open Cert.StepIdeal.Row (stp stp_real spread sub_self_of_real zero_word one_word coe_max')
variable (m : (ℓ : Loc nD τ sig) → Buf (Elt Ideal) ℓ)

/-- Where each window stands at point `t`. -/
theorem places : ∀ t : Fin cfg0.N, win0_0.index t = ![t.val % 32, t.val / 32] ∧ win0_3.index t = ![t.val / 32, t.val % 32] ∧ win0_4.index t = ![t.val / 32, t.val % 32, 0]
    ∧ win0_6.index t = ![t.val / 32, 0, 0] ∧ win0_8.index t = ![t.val / 32, 0, 0] ∧ win0_11.index t = ![0, 0] ∧ win0_13.index t = ![t.val / 32, 0, 0] :=
  (by decide +kernel : ∀ t : Fin grid0.N, _)

/-- The tokens' input vectors, one row per group and lane. -/
theorem e3 (c : Dev nD) (r : Fin 1024) (s : Fin 8192) : ((V m c main_v2) (ix2 r s) : EReal) = (m ((c : Thread nD τ).loc main_arg0) (ix2 s ⟨4096 + r.val, by omega⟩) : EReal) := by
  simp only [V, hostOps0, hostOps0_1, hostOps0_2, hostOps0_3, hostOps0_4, hostOps0_5, hostOps0_6, List.flatten_cons, List.flatten_nil, List.append_nil, List.cons_append, List.nil_append]
  entry_read
  pointwise []

/-- The raw steps, a group's eight heads padded to a register. -/
theorem e4 (c : Dev nD) (g : Fin 8) (s : Fin 8192) (z : Fin 128) : ((V m c main_v5) (ix3 g s z) : EReal) = (if h : z.val < 8 then m ((c : Thread nD τ).loc main_arg1) (ix2 s ⟨g.val * 8 + z.val, by omega⟩) else 0 : EReal) := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise []
  exact dite_congr rfl (fun _ => rfl) (fun _ => zero_word)

/-- The step bias, a group's eight heads padded to a register. -/
theorem e6 (c : Dev nD) (g : Fin 8) (z : Fin 128) : ((V m c main_v20) (ix3 g 0 z) : EReal) = (if h : z.val < 8 then m ((c : Thread nD τ).loc main_arg2) (ix1 ⟨g.val * 8 + z.val, by omega⟩) else 0 : EReal) := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise []
  exact dite_congr rfl (fun _ => rfl) (fun _ => zero_word)

/-- The decay rates, a group's eight heads padded to a register. -/
theorem e8 (c : Dev nD) (g : Fin 8) (z : Fin 128) : ((V m c main_v23) (ix3 g 0 z) : EReal) = (if h : z.val < 8 then m ((c : Thread nD τ).loc main_arg3) (ix1 ⟨g.val * 8 + z.val, by omega⟩) else 0 : EReal) := by
  simp only [V, hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf, cast_eq]
  pointwise []
  exact dite_congr rfl (fun _ => rfl) (fun _ => zero_word)

/-- The matrix that spreads a head over its columns. -/
theorem e11 (c : Dev nD) (z : Fin 128) (d : Fin 512) : ((V m c main_v18) (ix2 z d) : EReal) = (if z.val = d.val / 64 then 1 else 0 : EReal) := by
  simp only [V, hostOps0, hostOps0_1, hostOps0_2, hostOps0_3, hostOps0_4, hostOps0_5, hostOps0_6, List.flatten_cons, List.flatten_nil, List.append_nil, List.cons_append, List.nil_append]
  entry_read
  pointwise []
  exact one_word _ _ (by omega) (by omega)

section At
variable (c : Dev nD) (t : Fin cfg0.N) (g : Fin 8) (q : Fin 32) (hg : t.val / 32 = g.val) (hq : t.val % 32 = q.val)
include hg hq

/-- The inner columns at point `t`. -/
theorem w0 (s : Fin 256) (d : Fin 512) : (iblk m c 0 t (ix2 s d) : EReal) = (m ((c : Thread nD τ).loc main_arg0) (ix2 ⟨q.val * 256 + s.val, by omega⟩ ⟨g.val * 512 + d.val, by omega⟩) : EReal) := by
  blk_ext [iblk, V, places t]

/-- The input vectors at point `t`. -/
theorem w3 (n : Fin 128) (s : Fin 256) : (iblk m c 3 t (ix2 n s) : EReal) = (m ((c : Thread nD τ).loc main_arg0) (ix2 ⟨q.val * 256 + s.val, by omega⟩ ⟨4096 + (g.val * 128 + n.val), by omega⟩) : EReal) := by
  refine Eq.trans (b := ((V m c main_v2) (ix2 ⟨g.val * 128 + n.val, by omega⟩ ⟨q.val * 256 + s.val, by omega⟩) : EReal)) (by blk_ext [iblk, places t]) (e3 m c _ _)

/-- The raw steps at point `t`. -/
theorem w4 (s : Fin 256) (z : Fin 128) : (iblk m c 4 t (ix3 0 s z) : EReal) = (if h : z.val < 8 then m ((c : Thread nD τ).loc main_arg1) (ix2 ⟨q.val * 256 + s.val, by omega⟩ ⟨g.val * 8 + z.val, by omega⟩) else 0 : EReal) := by
  refine Eq.trans (b := ((V m c main_v5) (ix3 g ⟨q.val * 256 + s.val, by omega⟩ z) : EReal)) (by blk_ext [iblk, places t]) (e4 m c _ _ _)

/-- The step bias at point `t`. -/
theorem w6 (z : Fin 128) : (iblk m c 6 t (ix3 0 0 z) : EReal) = (if h : z.val < 8 then m ((c : Thread nD τ).loc main_arg2) (ix1 ⟨g.val * 8 + z.val, by omega⟩) else 0 : EReal) := by
  refine Eq.trans (b := ((V m c main_v20) (ix3 g 0 z) : EReal)) (by blk_ext [iblk, places t]) (e6 m c _ _)

/-- The decay rates at point `t`. -/
theorem w8 (z : Fin 128) : (iblk m c 8 t (ix3 0 0 z) : EReal) = (if h : z.val < 8 then m ((c : Thread nD τ).loc main_arg3) (ix1 ⟨g.val * 8 + z.val, by omega⟩) else 0 : EReal) := by
  refine Eq.trans (b := ((V m c main_v23) (ix3 g 0 z) : EReal)) (by blk_ext [iblk, places t]) (e8 m c _ _)

/-- The spreading matrix at point `t`. -/
theorem w11 (z : Fin 128) (d : Fin 512) : (iblk m c 11 t (ix2 z d) : EReal) = (if z.val = d.val / 64 then 1 else 0 : EReal) := by
  refine Eq.trans (b := ((V m c main_v18) (ix2 z d) : EReal)) (by blk_ext [iblk, places t]) (e11 m c z d)

end At

/-- The triangle's word as a number: one on and under the diagonal, else zero. -/
theorem tri_word (a b : ℕ) (ha : a < 256) (hb : b < 256) :
    (FloatOps.sitofp (F := Ideal) FTy.f32 (BitVec.setWidth 32 (IntOp.cmpi CmpIPredicate.sge (BitVec.ofNat 32 a) (BitVec.ofNat 32 b))) : EReal) = if b ≤ a then 1 else 0 := by
  have h1 : (BitVec.ofNat 32 a).toInt = a := by rw [BitVec.toInt_eq_toNat_of_lt (by simp only [BitVec.toNat_ofNat]; omega)]; simp only [BitVec.toNat_ofNat]; omega
  have h2 : (BitVec.ofNat 32 b).toInt = b := by rw [BitVec.toInt_eq_toNat_of_lt (by simp only [BitVec.toNat_ofNat]; omega)]; simp only [BitVec.toNat_ofNat]; omega
  by_cases h : b ≤ a
  · have e : IntOp.cmpi CmpIPredicate.sge (BitVec.ofNat 32 a) (BitVec.ofNat 32 b) = 1#1 := by simp [IntOp.cmpi, BitVec.sle, h1, h2, h]
    rw [e, if_pos h]; simp [FloatOps.sitofp]
  · have e : IntOp.cmpi CmpIPredicate.sge (BitVec.ofNat 32 a) (BitVec.ofNat 32 b) = 0#1 := by simp [IntOp.cmpi, BitVec.sle, h1, h2, h]
    rw [e, if_neg h]; simp [FloatOps.sitofp]

/-- The running sums of the chunk's decays. -/
theorem cum_at (A : FVec Ideal S256x128 .f32) (s : Fin 256) (z : Fin 128) : k0_pay12 A (ix2 s z)
    = ∑ t : Fin 256, (if t.val ≤ s.val then (1 : EReal) else 0) * (A (ix2 t z) : EReal) := by
  pointwise [k0_pay12, k0_pay11]
  refine Finset.sum_congr rfl fun t _ => ?_
  exact congrArg (· * (A (ix2 t z) : EReal)) (tri_word _ _ (by omega) (by omega))

section Parts
variable (x0 : Vec Ideal S256x512 .f32) (x3 : Vec Ideal S128x256 .bf16) (x4 : Vec Ideal S1x256x128 .f32) (x6 x8 : Vec Ideal S1x1x128 .f32)
  (x11 : Vec Ideal S128x512 .bf16) (h : Vec Ideal S128x512 .f32) (S A : FVec Ideal S256x128 .f32)

/-- The chunk's steps. -/
theorem step_at (s : Fin 256) (z : Fin 128) : k0_pay6 x4 x6 (ix2 s z) = stp (HAdd.hAdd (α := EReal) (β := EReal) (γ := EReal) (x4 (ix3 0 s z)) (x6 (ix3 0 0 z))) := by
  pointwise [k0_pay6]

/-- The chunk's decays. -/
theorem decay_at (s : Fin 256) (z : Fin 128) : k0_pay7 x4 x6 x8 (ix2 s z) = (stp (HAdd.hAdd (α := EReal) (β := EReal) (γ := EReal) (x4 (ix3 0 s z)) (x6 (ix3 0 0 z))) : EReal) * (0 - Ideal.exp (x8 (ix3 0 0 z))) := by
  pointwise [k0_pay7, k0_pay6]

/-- The whole decay of the chunk. -/
theorem last_at (z : Fin 128) : k0_pay14 A (ix2 0 z) = k0_pay12 A (ix2 255 z) := by
  pointwise [k0_pay14]

/-- What of a token's term the chunk's later tokens leave. -/
theorem tail_at (s : Fin 256) (z : Fin 128) : k0_pay18 A (ix2 s z) = Ideal.exp ((k0_pay12 A (ix2 255 z) : EReal) - (k0_pay12 A (ix2 s z) : EReal)) := by
  pointwise [k0_pay18, k0_pay14]

/-- The steps spread over the columns. -/
theorem stepCols_at (s : Fin 256) (d : Fin 512) : k0_pay16 S x11 (ix2 s d) = ∑ z : Fin 128, (S (ix2 s z) : EReal) * (x11 (ix2 z d) : EReal) + ∑ z : Fin 128, ((S (ix2 s z) : EReal) - (S (ix2 s z) : EReal)) * (x11 (ix2 z d) : EReal) := by
  pointwise [k0_pay16, k0_pay15]

/-- The terms of the chunk's tokens. -/
theorem term_at (D : FVec Ideal S256x512 .f32) (s : Fin 256) (d : Fin 512) : k0_pay25 (k0_pay15 x11) D (k0_pay20 A) (k0_pay21 A x11) (constant S256x512 .f32 0x00000000#32) x0 (ix2 s d)
    = ((x0 (ix2 s d) : EReal) * (D (ix2 s d) : EReal)) * (∑ z : Fin 128, (k0_pay18 A (ix2 s z) : EReal) * (x11 (ix2 z d) : EReal) + ∑ z : Fin 128, ((k0_pay18 A (ix2 s z) : EReal) - (k0_pay18 A (ix2 s z) : EReal)) * (x11 (ix2 z d) : EReal)) := by
  pointwise [k0_pay25, k0_pay15, k0_pay20, k0_pay21, k0_pay19, k0_pay23]

/-- The chunk's whole decay spread over the columns. -/
theorem lastCols_at (L : FVec Ideal S1x128 .f32) (d : Fin 512) : k0_pay22 L (k0_pay15 x11) (ix2 0 d)
    = ∑ z : Fin 128, (Ideal.exp (L (ix2 0 z)) : EReal) * (x11 (ix2 z d) : EReal) + ∑ z : Fin 128, ((Ideal.exp (L (ix2 0 z)) : EReal) - (Ideal.exp (L (ix2 0 z)) : EReal)) * (x11 (ix2 z d) : EReal) := by
  pointwise [k0_pay22, k0_pay15]

/-- The state after the chunk. -/
theorem next_at (E : FVec Ideal S1x512 .f32) (U : FVec Ideal S256x512 .bf16) (n : Fin 128) (d : Fin 512) : k0_pay2 E U h x3 (ix2 n d)
    = (h (ix2 n d) : EReal) * (E (ix2 0 d) : EReal) + ∑ s : Fin 256, (x3 (ix2 n s) : EReal) * (U (ix2 s d) : EReal) := by
  pointwise [k0_pay2]

end Parts

end Cert.ScanIdeal.Row
end
-- ==== Proof.ScanRefParts.lean ====
/-
  The state scan's reference at an entry: the sum of the tokens' terms, each times what the later tokens' decays leave.
-/
module

public import proofs.«01_k».proof.Defs
public import proofs.«01_k».proof.Proof.Gen.ScanRefIdeal.Read
public import proofs.«01_k».proof.Proof.Gen.Pre_finite_decays
public import proofs.«01_k».proof.Proof.StepValue
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ScanRefIdeal.Row
open Cert.ScanRefIdeal
open Cert.StepIdeal.Row (stp stp_real coe_max')
variable (A : FVec Ideal S8192x6144 .f32) (R : FVec Ideal S8192x64 .f32) (B L D : FVec Ideal S64 .f32)

/-- A later token's number among the words. -/
theorem later_word (a b : ℕ) (ha : a < 8192) (hb : b < 8192) :
    (IntOp.cmpi CmpIPredicate.sgt (BitVec.ofNat 32 a) (BitVec.ofNat 32 b)) = if b < a then 1#1 else 0#1 := by
  have h1 : (BitVec.ofNat 32 a).toInt = a := by rw [BitVec.toInt_eq_toNat_of_lt (by simp only [BitVec.toNat_ofNat]; omega)]; simp only [BitVec.toNat_ofNat]; omega
  have h2 : (BitVec.ofNat 32 b).toInt = b := by rw [BitVec.toInt_eq_toNat_of_lt (by simp only [BitVec.toNat_ofNat]; omega)]; simp only [BitVec.toNat_ofNat]; omega
  by_cases h : b < a
  · simp [IntOp.cmpi, BitVec.slt, h1, h2, h]
  · simp [IntOp.cmpi, BitVec.slt, h1, h2, h]

/-- The step of a token and a head. -/
theorem step_at (s : Fin 8192) (j : Fin 64) : Read.val_main_v7 (F := Ideal) R B (ix2 s j) = stp (HAdd.hAdd (α := EReal) (β := EReal) (γ := EReal) (R (ix2 s j)) (B (ix1 j))) := by
  pointwise [Read.val_main_v4, Read.val_main_v5, Read.val_main_v6, Read.val_main_v7, Read.val_main_call0_cst, Read.val_main_call0_v0, Read.val_main_call0_v1, Read.val_main_call0_v2, Read.val_main_call0_v3,
    Read.val_main_call0_v4, Read.val_main_call0_v5, Read.val_main_call0_v6, Read.val_main_call0_v7, Read.val_main_call0_v8, Read.val_main_call0_v9, Read.val_main_call0_v10, Read.val_main_call0_v11]
  simp only [ne_eq, not_true_eq_false, if_false, stp, zero_sub]

/-- The decay of a token and a head. -/
theorem decay_at (s : Fin 8192) (j : Fin 64) : Read.val_main_v12 (F := Ideal) R B L (ix2 s j) = (Read.val_main_v7 (F := Ideal) R B (ix2 s j) : EReal) * (0 - Ideal.exp (L (ix1 j))) := by
  pointwise [Read.val_main_v12, Read.val_main_v11, Read.val_main_v10, Read.val_main_v9, Read.val_main_v8]
  rw [zero_sub]

/-- What the later tokens' decays leave of a token's term. -/
theorem left_at (s : Fin 8192) (j : Fin 64) : Read.val_main_v24 (F := Ideal) R B L (ix2 s j)
    = Ideal.exp (∑ t : Fin 8192, if s.val < t.val then (Read.val_main_v12 (F := Ideal) R B L (ix2 t j) : EReal) else 0) := by
  pointwise [Read.val_main_v24, Read.val_main_v23, Read.val_main_v22, Read.val_main_cst_0, Read.val_main_call1_v0, Read.val_main_call1_v1, Read.val_main_call1_v2, Read.val_main_call1_v3, Read.val_main_cst,
    Read.val_main_v21, Read.val_main_v20, Read.val_main_v19, Read.val_main_v18, Read.val_main_v17, Read.val_main_v16, Read.val_main_v15, Read.val_main_v14, Read.val_main_v13]
  refine congrArg Ideal.exp (Finset.sum_congr rfl fun t _ => ?_)
  have hz : (id (constant (F := Ideal) S_ FTy.f32 0#32) ix0 : EReal) = 0 := by
    first
    | (simp only [id_eq]; pointwise [constant]; done)
    | (show (FloatOps.ofBits (F := Ideal) FTy.f32 0#32 : EReal) = 0; simp)
    | (show (Ideal.ofBits FTy.f32 0#32 : EReal) = 0; simp [Ideal.ofBits, Ideal.ieee])
  rw [later_word _ _ t.isLt s.isLt, hz]
  by_cases h : s.val < t.val
  · rw [if_pos h, if_pos h]; rfl
  · rw [if_neg h, if_neg h]; rfl

/-- The last state at a group, a lane and a column. -/
theorem state_at (g : Fin 8) (n : Fin 128) (d : Fin 512) : Read.val_main_v31 (F := Ideal) A R B L (ix3 g n d)
    = ∑ s : Fin 8192, (A (ix2 s ⟨4096 + (g.val * 128 + n.val), by omega⟩) : EReal) * ((A (ix2 s ⟨g.val * 512 + d.val, by omega⟩) : EReal)
        * ((Read.val_main_v7 (F := Ideal) R B (ix2 s ⟨g.val * 8 + d.val / 64, by omega⟩) : EReal) * (Read.val_main_v24 (F := Ideal) R B L (ix2 s ⟨g.val * 8 + d.val / 64, by omega⟩) : EReal))) := by
  pointwise [Read.val_main_v31, Read.val_main_v30, Read.val_main_v29, Read.val_main_v28, Read.val_main_v27, Read.val_main_v26, Read.val_main_v25, Read.val_main_v3, Read.val_main_v2, Read.val_main_v1, Read.val_main_v0]
  have hm : g.val * 512 + d.val / 64 * 64 + d.val % 64 = g.val * 512 + d.val := by omega
  simp only [hm]

/-- What the precondition says at a token and a head. -/
theorem finite_at [Cert.Pre_finite_decays.Facts] (s : Fin 8192) (j : Fin 64)
    (h : Cert.Pre_finite_decays.fn (F := Ideal) A R B L D (ix2 s j) = 1#1) :
    (FloatOps.absf (F := Ideal) (φ := FTy.f32) (HAdd.hAdd (α := EReal) (β := EReal) (γ := EReal) (R (ix2 s j)) (B (ix1 j))) : EReal) < ⊤
      ∧ (FloatOps.absf (F := Ideal) (φ := FTy.f32) (L (ix1 j)) : EReal) < ⊤ := by
  have top : Ideal.ofBits FTy.f32 2139095040#32 = ⊤ := by
    simp [Ideal.ofBits, Ideal.ieee]
  have e : Cert.Pre_finite_decays.fn (F := Ideal) A R B L D (ix2 s j)
      = BitVec.ofBool (decide (max (FloatOps.absf (F := Ideal) (φ := FTy.f32) (HAdd.hAdd (α := EReal) (β := EReal) (γ := EReal) (R (ix2 s j)) (B (ix1 j))) : EReal) (FloatOps.absf (F := Ideal) (φ := FTy.f32) (L (ix1 j)) : EReal) < Ideal.ofBits FTy.f32 2139095040#32)) := by
    unfold Cert.Pre_finite_decays.fn
    pointwise []
  rw [e, top] at h
  by_contra hn
  rw [decide_eq_false (fun hm => hn (max_lt_iff.mp hm))] at h
  exact absurd h (by decide)

end Cert.ScanRefIdeal.Row
end
-- ==== Proof.ScanValue.lean ====
/-
  The state scan over the prompt's tokens: after the run, the array of the last states is the recurrence's, each token's
  term times the exponential of the later tokens' decays.
-/
module

public import proofs.«01_k».proof.Defs
public import proofs.«01_k».proof.Proof.Gen.ScanIdeal.Frame
public import proofs.«01_k».proof.Proof.Gen.ScanRefIdeal.Run
public import proofs.«01_k».proof.Proof.ScanParts
public import proofs.«01_k».proof.Proof.ScanRefParts
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.ScanIdeal.Row
open Cert.ScanIdeal Cert.ScanIdeal.Gen
open Idealize.ShloMosaic.Pipeline (Dat)
open Cert.StepIdeal.Row (stp stp_real spread sub_self_of_real coe_max')
open Cert.ScanSums
variable (m : (ℓ : Loc nD τ sig) → Buf (Elt Ideal) ℓ)

section Chunk
variable (x0 : Vec Ideal S256x512 .f32) (x3 : Vec Ideal S128x256 .bf16) (x4 : Vec Ideal S1x256x128 .f32) (x6 x8 : Vec Ideal S1x1x128 .f32)
  (x11 : Vec Ideal S128x512 .bf16) (h : Vec Ideal S128x512 .f32) (S A : FVec Ideal S256x128 .f32)

/-- The state after a chunk, from the steps, the decays and the state before. -/
abbrev nextOf : FVec Ideal S128x512 .f32 :=
  k0_pay2 (k0_pay22 (k0_pay14 A) (k0_pay15 x11)) (k0_pay25 (k0_pay15 x11) (k0_pay16 S x11) (k0_pay20 A) (k0_pay21 A x11) (constant S256x512 .f32 0x00000000#32) x0) h x3

/-- The running sums of real decays. -/
theorem cum_of (a : ℕ → ℝ) (z : Fin 128) (ha : ∀ t : Fin 256, (A (ix2 t z) : EReal) = ((a t.val : ℝ) : EReal)) (s : Fin 256) :
    (k0_pay12 A (ix2 s z) : EReal) = ((∑ t ∈ Finset.range (s.val + 1), a t : ℝ) : EReal) := by
  refine (cum_at A s z).trans (Eq.trans ?_ (tri_sum a 256 s))
  exact Finset.sum_congr rfl fun t _ => by rw [ha t]

/-- The running sums of real decays are real. -/
theorem cum_real (hA : ∀ t z, ∃ r : ℝ, (A (ix2 t z) : EReal) = (r : EReal)) (s : Fin 256) (z : Fin 128) : ∃ r : ℝ, (k0_pay12 A (ix2 s z) : EReal) = (r : EReal) := by
  choose f hf using hA
  exact ⟨_, cum_of A (fun i => if hi : i < 256 then f ⟨i, hi⟩ z else 0) z (fun t => by rw [hf t z, dif_pos t.isLt]) s⟩

/-- A chunk at a lane and a column: the state before times the chunk's decay, and the chunk's terms. -/
theorem chunk_at (n : Fin 128) (d : Fin 512) (k : Fin 128) (a : ℕ → ℝ) (w : ℕ → EReal)
    (hA : ∀ t z, ∃ r : ℝ, (A (ix2 t z) : EReal) = (r : EReal)) (hS : ∀ t z, ∃ r : ℝ, (S (ix2 t z) : EReal) = (r : EReal))
    (ha : ∀ t : Fin 256, (A (ix2 t k) : EReal) = ((a t.val : ℝ) : EReal))
    (he : ∀ z, (x11 (ix2 z d) : EReal) = if z.val = k.val then 1 else 0)
    (hw : ∀ s : Fin 256, (x3 (ix2 n s) : EReal) * ((x0 (ix2 s d) : EReal) * (S (ix2 s k) : EReal)) = w s.val) :
    nextOf x0 x3 x11 h S A (ix2 n d) = (h (ix2 n d) : EReal) * ((Real.exp (∑ t ∈ Finset.range 256, a t) : ℝ) : EReal)
      + ∑ s ∈ Finset.range 256, w s * ((Real.exp (∑ t ∈ Finset.range 256, a t - ∑ t ∈ Finset.range (s + 1), a t) : ℝ) : EReal) := by
  refine (next_at x3 h _ _ n d).trans ?_
  have c255 : (k0_pay12 A (ix2 255 k) : EReal) = ((∑ t ∈ Finset.range 256, a t : ℝ) : EReal) := cum_of A a k ha 255
  have l : (k0_pay22 (k0_pay14 A) (k0_pay15 x11) (ix2 0 d) : EReal) = ((Real.exp (∑ t ∈ Finset.range 256, a t) : ℝ) : EReal) := by
    refine (lastCols_at x11 (k0_pay14 A) d).trans ?_
    refine (spread (fun z => Ideal.exp (k0_pay14 A (ix2 0 z))) (fun z => x11 (ix2 z d)) k (fun z => sub_self_of_real ?_) he).trans ?_
    · obtain ⟨r, hr⟩ := cum_real A hA 255 z
      exact ⟨Real.exp r, by rw [show (k0_pay14 A (ix2 0 z) : EReal) = _ from (last_at A z).trans hr]; exact Ideal.exp_coe r⟩
    · show Ideal.exp (k0_pay14 A (ix2 0 k)) = _
      rw [show (k0_pay14 A (ix2 0 k) : EReal) = _ from (last_at A k).trans c255]
      exact Ideal.exp_coe _
  have u : ∀ s : Fin 256, (k0_pay25 (k0_pay15 x11) (k0_pay16 S x11) (k0_pay20 A) (k0_pay21 A x11) (constant S256x512 .f32 0x00000000#32) x0 (ix2 s d) : EReal)
      = ((x0 (ix2 s d) : EReal) * (S (ix2 s k) : EReal)) * ((Real.exp (∑ t ∈ Finset.range 256, a t - ∑ t ∈ Finset.range (s.val + 1), a t) : ℝ) : EReal) := by
    intro s
    refine (term_at x0 x11 A (k0_pay16 S x11) s d).trans ?_
    refine congrArg₂ (fun p q : EReal => ((x0 (ix2 s d) : EReal) * p) * q) ?_ ?_
    · refine (stepCols_at x11 S s d).trans ?_
      exact spread (fun z => S (ix2 s z)) (fun z => x11 (ix2 z d)) k (fun z => sub_self_of_real (hS s z)) he
    · refine (spread (fun z => k0_pay18 A (ix2 s z)) (fun z => x11 (ix2 z d)) k (fun z => sub_self_of_real ?_) he).trans ?_
      · obtain ⟨r, hr⟩ := cum_real A hA 255 z
        obtain ⟨r', hr'⟩ := cum_real A hA s z
        refine ⟨Real.exp (r - r'), (tail_at A s z).trans ?_⟩
        rw [hr, hr', ← EReal.coe_sub]
        exact Ideal.exp_coe _
      · refine (tail_at A s k).trans ?_
        rw [c255, cum_of A a k ha s, ← EReal.coe_sub]
        exact Ideal.exp_coe _
  rw [l]
  refine congrArg (fun p : EReal => (h (ix2 n d) : EReal) * ((Real.exp (∑ t ∈ Finset.range 256, a t) : ℝ) : EReal) + p) ?_
  rw [Finset.sum_range]
  refine Finset.sum_congr rfl fun s _ => ?_
  rw [u s, ← hw s, ← mul_assoc]

/-- The state stored is the state computed. -/
theorem store_at (E : FVec Ideal S1x512 .f32) (U : FVec Ideal S256x512 .bf16) (h : Vec Ideal S128x512 .f32) (x3 : Vec Ideal S128x256 .bf16) (n : Fin 128) (d : Fin 512) :
    (k0_pay3 E U h x3 (ix2 n d) : EReal) = k0_pay2 E U h x3 (ix2 n d) := by
  pointwise [k0_pay3]

/-- The state written is the state computed. -/
theorem write_at (E : FVec Ideal S1x512 .f32) (U : FVec Ideal S256x512 .bf16) (h : Vec Ideal S128x512 .f32) (x3 : Vec Ideal S128x256 .bf16) (n : Fin 128) (d : Fin 512) :
    (k0_pay4 E U h x3 (ix3 0 n d) : EReal) = k0_pay2 E U h x3 (ix2 n d) := by
  pointwise [k0_pay4]

/-- The state a group starts from is zero. -/
theorem fill_at (n : Fin 128) (d : Fin 512) : ((k0_pay5 (F := Ideal)) (ix2 n d) : EReal) = 0 := by
  pointwise [k0_pay5]

end Chunk

/-- A finite step score and a finite rate have a real decay. -/
theorem real_decay (u l : EReal) (hu : (FloatOps.absf (F := Ideal) (φ := FTy.f32) u : EReal) < ⊤) (hl : (FloatOps.absf (F := Ideal) (φ := FTy.f32) l : EReal) < ⊤) :
    ∃ r : ℝ, stp u * (0 - Ideal.exp l) = (r : EReal) := by
  obtain ⟨p, _, hp⟩ := stp_real u hu
  rw [Ideal.absf_def] at hl
  induction l with
  | bot => exact absurd hl (by simp)
  | top => exact absurd hl (by simp)
  | coe b => exact ⟨p * (0 - Real.exp b), by rw [hp, Ideal.exp_coe, ← EReal.coe_zero, ← EReal.coe_sub, ← EReal.coe_mul]⟩

/-- Zero is finite. -/
theorem zero_fin : (FloatOps.absf (F := Ideal) (φ := FTy.f32) (0 : EReal) : EReal) < ⊤ := by
  rw [Ideal.absf_def]; simp

section Global
variable (X : FVec Ideal S8192x6144 .f32) (R : FVec Ideal S8192x64 .f32) (B L : FVec Ideal S64 .f32)

/-- Every score with its bias and every rate is finite. -/
abbrev Fin' : Prop := ∀ (s : Fin 8192) (j : Fin 64), (FloatOps.absf (F := Ideal) (φ := FTy.f32) (HAdd.hAdd (α := EReal) (β := EReal) (γ := EReal) (R (ix2 s j)) (B (ix1 j))) : EReal) < ⊤
  ∧ (FloatOps.absf (F := Ideal) (φ := FTy.f32) (L (ix1 j)) : EReal) < ⊤

/-- A token's decay of a head. -/
def dec (j : Fin 64) (s : ℕ) : ℝ := if h : s < 8192 then EReal.toReal (stp (HAdd.hAdd (α := EReal) (β := EReal) (γ := EReal) (R (ix2 ⟨s, h⟩ j)) (B (ix1 j))) * (0 - Ideal.exp (L (ix1 j)))) else 0

/-- A token's term at a group, a lane and a column. -/
def trm (g : Fin 8) (n : Fin 128) (d : Fin 512) (s : ℕ) : EReal := if h : s < 8192 then
  HMul.hMul (α := EReal) (β := EReal) (γ := EReal) (X (ix2 ⟨s, h⟩ ⟨4096 + (g.val * 128 + n.val), by omega⟩)) (HMul.hMul (α := EReal) (β := EReal) (γ := EReal) (X (ix2 ⟨s, h⟩ ⟨g.val * 512 + d.val, by omega⟩))
    (stp (HAdd.hAdd (α := EReal) (β := EReal) (γ := EReal) (R (ix2 ⟨s, h⟩ ⟨g.val * 8 + d.val / 64, by omega⟩)) (B (ix1 ⟨g.val * 8 + d.val / 64, by omega⟩))))) else 0

/-- The decay of a token is the real it names. -/
theorem dec_eq (hf : Fin' R B L) (j : Fin 64) (s : Fin 8192) : stp (HAdd.hAdd (α := EReal) (β := EReal) (γ := EReal) (R (ix2 s j)) (B (ix1 j))) * (0 - Ideal.exp (L (ix1 j))) = ((dec R B L j s.val : ℝ) : EReal) := by
  obtain ⟨r, hr⟩ := real_decay _ _ (hf s j).1 (hf s j).2
  unfold dec
  rw [dif_pos s.isLt]
  show _ = ((EReal.toReal (stp (HAdd.hAdd (α := EReal) (β := EReal) (γ := EReal) (R (ix2 s j)) (B (ix1 j))) * (0 - Ideal.exp (L (ix1 j)))) : ℝ) : EReal)
  rw [hr, EReal.toReal_coe]

/-- The reference's last state as the sum of what is left of every token's term. -/
theorem ref_left (hf : Fin' R B L) (g : Fin 8) (n : Fin 128) (d : Fin 512) : Cert.ScanRefIdeal.Read.val_main_v31 (F := Ideal) X R B L (ix3 g n d)
    = left (trm X R B g n d) (dec R B L ⟨g.val * 8 + d.val / 64, by omega⟩) 8192 := by
  refine (Cert.ScanRefIdeal.Row.state_at X R B L g n d).trans ?_
  unfold left
  rw [Finset.sum_range]
  refine Finset.sum_congr rfl fun s _ => ?_
  have hl : (Cert.ScanRefIdeal.Read.val_main_v24 (F := Ideal) R B L (ix2 s ⟨g.val * 8 + d.val / 64, by omega⟩) : EReal)
      = ((Real.exp (∑ t ∈ Finset.Ico (s.val + 1) 8192, dec R B L ⟨g.val * 8 + d.val / 64, by omega⟩ t) : ℝ) : EReal) := by
    refine (Cert.ScanRefIdeal.Row.left_at R B L s _).trans ?_
    rw [← Ideal.exp_coe, ← later_sum _ 8192 s]
    refine congrArg Ideal.exp (Finset.sum_congr rfl fun t _ => ?_)
    refine if_congr Iff.rfl ?_ rfl
    refine (Cert.ScanRefIdeal.Row.decay_at R B L t _).trans (Eq.trans ?_ (dec_eq R B L hf _ t))
    exact congrArg (fun p : EReal => p * (0 - Ideal.exp (L (ix1 ⟨g.val * 8 + d.val / 64, by omega⟩)))) (Cert.ScanRefIdeal.Row.step_at R B t _)
  have ht : trm X R B g n d s.val = HMul.hMul (α := EReal) (β := EReal) (γ := EReal) (X (ix2 s ⟨4096 + (g.val * 128 + n.val), by omega⟩)) (HMul.hMul (α := EReal) (β := EReal) (γ := EReal) (X (ix2 s ⟨g.val * 512 + d.val, by omega⟩))
    (stp (HAdd.hAdd (α := EReal) (β := EReal) (γ := EReal) (R (ix2 s ⟨g.val * 8 + d.val / 64, by omega⟩)) (B (ix1 ⟨g.val * 8 + d.val / 64, by omega⟩))))) := dif_pos s.isLt
  rw [hl, ht, mul_assoc, mul_assoc]
  exact congrArg (fun p : EReal => (X (ix2 s ⟨4096 + (g.val * 128 + n.val), by omega⟩) : EReal) * ((X (ix2 s ⟨g.val * 512 + d.val, by omega⟩) : EReal) * (p * _))) (Cert.ScanRefIdeal.Row.step_at R B s _)

end Global

section Run
variable (c : Dev nD) (hf : Fin' (m ((c : Thread nD τ).loc main_arg1)) (m ((c : Thread nD τ).loc main_arg2)) (m ((c : Thread nD τ).loc main_arg3)))
include hf

/-- One chunk of a group's scan: what is left of the tokens so far goes to what is left of them and the chunk's. -/
theorem chunk (t : Fin cfg0.N) (g : Fin 8) (q : Fin 32) (hg : t.val / 32 = g.val) (hq : t.val % 32 = q.val) (h : Vec Ideal S128x512 .f32) (n : Fin 128) (d : Fin 512)
    (hh : (h (ix2 n d) : EReal) = left (trm (m ((c : Thread nD τ).loc main_arg0)) (m ((c : Thread nD τ).loc main_arg1)) (m ((c : Thread nD τ).loc main_arg2)) g n d)
      (dec (m ((c : Thread nD τ).loc main_arg1)) (m ((c : Thread nD τ).loc main_arg2)) (m ((c : Thread nD τ).loc main_arg3)) ⟨g.val * 8 + d.val / 64, by omega⟩) (q.val * 256)) :
    nextOf (iblk m c 0 t) (iblk m c 3 t) (iblk m c 11 t) h (k0_pay6 (iblk m c 4 t) (iblk m c 6 t)) (k0_pay7 (iblk m c 4 t) (iblk m c 6 t) (iblk m c 8 t)) (ix2 n d)
    = left (trm (m ((c : Thread nD τ).loc main_arg0)) (m ((c : Thread nD τ).loc main_arg1)) (m ((c : Thread nD τ).loc main_arg2)) g n d)
      (dec (m ((c : Thread nD τ).loc main_arg1)) (m ((c : Thread nD τ).loc main_arg2)) (m ((c : Thread nD τ).loc main_arg3)) ⟨g.val * 8 + d.val / 64, by omega⟩) (q.val * 256 + 256) := by
  have hk : d.val / 64 < 8 := by omega
  have i4 := w4 m c t g q hg hq
  have i6 := w6 m c t g q hg hq
  have i8 := w8 m c t g q hg hq
  have fu : ∀ (s : Fin 256) (z : Fin 128), (FloatOps.absf (F := Ideal) (φ := FTy.f32) (HAdd.hAdd (α := EReal) (β := EReal) (γ := EReal) (iblk m c 4 t (ix3 0 s z)) (iblk m c 6 t (ix3 0 0 z))) : EReal) < ⊤ := by
    intro s z
    rw [i4 s z, i6 z]
    by_cases hz : z.val < 8
    · rw [dif_pos hz, dif_pos hz]
      exact (hf _ _).1
    · rw [dif_neg hz, dif_neg hz, add_zero]
      exact zero_fin
  have fl : ∀ z : Fin 128, (FloatOps.absf (F := Ideal) (φ := FTy.f32) (iblk m c 8 t (ix3 0 0 z) : EReal) : EReal) < ⊤ := by
    intro z
    rw [i8 z]
    by_cases hz : z.val < 8
    · rw [dif_pos hz]
      exact (hf 0 _).2
    · rw [dif_neg hz]
      exact zero_fin
  have eu : ∀ s : Fin 256, HAdd.hAdd (α := EReal) (β := EReal) (γ := EReal) (iblk m c 4 t (ix3 0 s ⟨d.val / 64, by omega⟩)) (iblk m c 6 t (ix3 0 0 ⟨d.val / 64, by omega⟩))
      = HAdd.hAdd (α := EReal) (β := EReal) (γ := EReal) (m ((c : Thread nD τ).loc main_arg1) (ix2 ⟨q.val * 256 + s.val, by omega⟩ ⟨g.val * 8 + d.val / 64, by omega⟩)) (m ((c : Thread nD τ).loc main_arg2) (ix1 ⟨g.val * 8 + d.val / 64, by omega⟩)) := by
    intro s
    exact congrArg₂ (fun a b : EReal => a + b) ((i4 s ⟨d.val / 64, by omega⟩).trans (dif_pos hk)) ((i6 ⟨d.val / 64, by omega⟩).trans (dif_pos hk))
  refine (chunk_at (iblk m c 0 t) (iblk m c 3 t) (iblk m c 11 t) h (k0_pay6 (iblk m c 4 t) (iblk m c 6 t)) (k0_pay7 (iblk m c 4 t) (iblk m c 6 t) (iblk m c 8 t)) n d ⟨d.val / 64, by omega⟩
    (fun i => dec (m ((c : Thread nD τ).loc main_arg1)) (m ((c : Thread nD τ).loc main_arg2)) (m ((c : Thread nD τ).loc main_arg3)) ⟨g.val * 8 + d.val / 64, by omega⟩ (q.val * 256 + i))
    (fun i => trm (m ((c : Thread nD τ).loc main_arg0)) (m ((c : Thread nD τ).loc main_arg1)) (m ((c : Thread nD τ).loc main_arg2)) g n d (q.val * 256 + i)) ?_ ?_ ?_ ?_ ?_).trans ?_
  · intro s z
    obtain ⟨r, hr⟩ := real_decay _ _ (fu s z) (fl z)
    exact ⟨r, (decay_at _ _ _ s z).trans hr⟩
  · intro s z
    obtain ⟨r, _, hr⟩ := stp_real _ (fu s z)
    exact ⟨r, (step_at _ _ s z).trans hr⟩
  · intro s
    refine (decay_at _ _ _ s _).trans (Eq.trans ?_ (dec_eq _ _ _ hf _ ⟨q.val * 256 + s.val, by omega⟩))
    exact congrArg₂ (fun a b : EReal => stp a * (0 - Ideal.exp b)) (eu s) ((i8 ⟨d.val / 64, by omega⟩).trans (dif_pos hk))
  · exact fun z => w11 m c t g q hg hq z d
  · intro s
    have hs : q.val * 256 + s.val < 8192 := by omega
    refine Eq.trans ?_ (dif_pos hs).symm
    refine congrArg₂ (fun a b : EReal => a * b) (w3 m c t g q hg hq n s) (congrArg₂ (fun a b : EReal => a * b) (w0 m c t g q hg hq s d) ((step_at _ _ s _).trans (congrArg stp (eu s))))
  · rw [hh]
    exact left_add _ _ _ _

set_option maxHeartbeats 1000000 in
/-- The state carried after point `t`. -/
theorem carried (n : Fin 128) (d : Fin 512) : ∀ (k : ℕ) (t : Fin cfg0.N) (hk : t.val = k) (g : Fin 8) (q : Fin 32) (hg : t.val / 32 = g.val) (hq : t.val % 32 = q.val),
    ((outsAt0 m c t.val t.isLt).2.2 (ix2 n d) : EReal)
    = left (trm (m ((c : Thread nD τ).loc main_arg0)) (m ((c : Thread nD τ).loc main_arg1)) (m ((c : Thread nD τ).loc main_arg2)) g n d)
      (dec (m ((c : Thread nD τ).loc main_arg1)) (m ((c : Thread nD τ).loc main_arg2)) (m ((c : Thread nD τ).loc main_arg3)) ⟨g.val * 8 + d.val / 64, by omega⟩) (q.val * 256 + 256) := by
  intro k
  induction k with
  | zero =>
    intro t hk g q hg hq
    have h0 : t.val % 32 = 0 := by omega
    rw [outsAt0_A m c t h0 (by omega)]
    frame_out
    refine (store_at _ _ _ _ n d).trans (chunk m c hf t g q hg hq (k0_pay5 (F := Ideal)) n d ?_)
    rw [show q.val * 256 = 0 by omega, left_zero]
    exact fill_at n d
  | succ k ih =>
    intro t hk g q hg hq
    by_cases h0 : t.val % 32 = 0
    · rw [outsAt0_A m c t h0 (by omega)]
      frame_out
      refine (store_at _ _ _ _ n d).trans (chunk m c hf t g q hg hq (k0_pay5 (F := Ideal)) n d ?_)
      rw [show q.val * 256 = 0 by omega, left_zero]
      exact fill_at n d
    · have hp : ((outsAt0 m c (t.val - 1) (Nat.lt_of_le_of_lt (Nat.sub_le _ _) t.isLt)).2.2 (ix2 n d) : EReal)
          = left (trm (m ((c : Thread nD τ).loc main_arg0)) (m ((c : Thread nD τ).loc main_arg1)) (m ((c : Thread nD τ).loc main_arg2)) g n d)
            (dec (m ((c : Thread nD τ).loc main_arg1)) (m ((c : Thread nD τ).loc main_arg2)) (m ((c : Thread nD τ).loc main_arg3)) ⟨g.val * 8 + d.val / 64, by omega⟩) (q.val * 256) := by
        refine (ih ⟨t.val - 1, Nat.lt_of_le_of_lt (Nat.sub_le _ _) t.isLt⟩ (by show t.val - 1 = k; omega) g ⟨q.val - 1, by omega⟩ (by show (t.val - 1) / 32 = g.val; omega) (by show (t.val - 1) % 32 = q.val - 1; omega)).trans ?_
        rw [show (q.val - 1) * 256 + 256 = q.val * 256 by omega]
      by_cases h1 : t.val % 32 = 31
      · rw [outsAt0_C m c t h0 h1]
        frame_out
        exact (store_at _ _ _ _ n d).trans (chunk m c hf t g q hg hq _ n d ((congrFun (Memref.IsWhole.read_unread _ _) (ix2 n d)).trans hp))
      · rw [outsAt0_B m c t h0 h1]
        frame_out
        exact (store_at _ _ _ _ n d).trans (chunk m c hf t g q hg hq _ n d ((congrFun (Memref.IsWhole.read_unread _ _) (ix2 n d)).trans hp))

set_option maxHeartbeats 1000000 in
/-- The state written at a group's last chunk. -/
theorem written (t : Fin cfg0.N) (h1 : t.val % 32 = 31) (g : Fin 8) (hg : t.val / 32 = g.val) (n : Fin 128) (d : Fin 512) :
    ((outsAt0 m c t.val t.isLt).2.1 (ix3 0 n d) : EReal) = Cert.ScanRefIdeal.Read.val_main_v31 (F := Ideal) (m ((c : Thread nD τ).loc main_arg0)) (m ((c : Thread nD τ).loc main_arg1)) (m ((c : Thread nD τ).loc main_arg2)) (m ((c : Thread nD τ).loc main_arg3)) (ix3 g n d) := by
  rw [ref_left _ _ _ _ hf g n d, outsAt0_C m c t (by omega) h1]
  frame_out
  refine (write_at _ _ _ _ n d).trans (chunk m c hf t g 31 hg h1 _ n d ?_)
  refine (congrFun (Memref.IsWhole.read_unread _ _) (ix2 n d)).trans ?_
  refine (carried m c hf n d _ ⟨t.val - 1, Nat.lt_of_le_of_lt (Nat.sub_le _ _) t.isLt⟩ rfl g 30 (by show (t.val - 1) / 32 = g.val; omega) (by show (t.val - 1) % 32 = 30; omega)).trans rfl

end Run

/-- The array of the last states after the run is the reference's. -/
theorem result13 [Cert.Pre_finite_decays.Facts] (c : Dev nD) (hp : Cert.Pre_ScanIdeal_finite_decays m) : (dats m 0 c).arrAt 13 (cfgs 0).N
    = Cert.ScanRefIdeal.Read.val_main_v31 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t hf y => ?_
  blk_simp
  rw [after0_13]
  have hN : t.val < 256 := lt_of_lt_of_eq t.isLt N_0
  have hy : y = ix3 0 (y 1) (y 2) := funext fun a => match a with
    | 0 => Fin.ext (by have : (y 0).val < 1 := (y 0).isLt; show (y 0).val = 0; omega)
    | 1 => rfl
    | 2 => rfl
  refine (congrArg _ hy).trans ((written m c (fun s j => Cert.ScanRefIdeal.Row.finite_at _ _ _ _ _ s j (congrFun (hp c) (ix2 s j))) t ((flush0_13 t).mp hf) ⟨t.val / 32, by omega⟩ rfl (y 1) (y 2)).trans ?_)
  refine congrArg _ (funext fun a => ?_)
  match a with
  | 0 => exact Fin.ext (by blk_simp [places t])
  | 1 => exact Fin.ext (by blk_simp [places t])
  | 2 => exact Fin.ext (by blk_simp [places t])

end Cert.ScanIdeal.Row

namespace Cert

set_option maxHeartbeats 2000000 in
/-- Where every step score with its bias and every decay rate is finite, the call's last states and the reference's are
    equal over the extended reals. -/
theorem scan_equal [Cert.Pre_finite_decays.Facts] : algebraic_ScanIdeal_ScanRefIdeal_pre_finite_decays := by
  pair_intro
  · run_from Cert.ScanIdeal.Gen.run_main m g
    · exact Cert.ScanIdeal.Gen.V_main_arg1 m c
    · exact Cert.ScanIdeal.Gen.V_main_arg2 m c
    · exact Cert.ScanIdeal.Gen.V_main_arg3 m c
    · exact Cert.ScanIdeal.Gen.V_main_arg4 m c
  · refine (θ_run Cert.ScanRefIdeal.defs _ _).mono (fun r h c => ?_) (Cert.ScanRefIdeal.Value.run (F := Ideal) m' g')
    obtain ⟨a0, a1, a2, a3, a4⟩ := hagree c
    obtain ⟨r13, rest⟩ := h c
    refine ⟨r13.trans ?_, rest⟩
    rw [Cert.ScanRefIdeal.Read.val_main_v31_eq, a0, a1, a2, a3]
    exact (Cert.ScanIdeal.Row.result13 m c hpre).symm

end Cert
end
-- ==== Proof.lean ====
module

public import proofs.«01_k».proof.Defs
public import proofs.«01_k».proof.Proof.Gen.Pre_finite_steps
public import proofs.«01_k».proof.Proof.Gen.Pre_finite_decays
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterRefIdeal
public import proofs.«01_k».proof.Proof.Gen.RouterRefIdeal.Run
public import proofs.«01_k».proof.Proof.Gen.RouterRefIdeal.Read
public import proofs.«01_k».proof.Proof.Gen.Moe
public import proofs.«01_k».proof.Proof.Gen.Moe.Frame
public import proofs.«01_k».proof.Proof.Gen.MoeIdeal
public import proofs.«01_k».proof.Proof.Gen.MoeIdeal.Frame
public import proofs.«01_k».proof.Proof.Gen.MoeRefIdeal
public import proofs.«01_k».proof.Proof.Gen.MoeRefIdeal.Run
public import proofs.«01_k».proof.Proof.Gen.MoeRefIdeal.Read
public import proofs.«01_k».proof.Proof.MoeValue
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.InProjValue
public import proofs.«01_k».proof.Proof.Gen.SsdOut
public import proofs.«01_k».proof.Proof.Gen.SsdOut.Frame
public import proofs.«01_k».proof.Proof.Gen.SsdOutIdeal
public import proofs.«01_k».proof.Proof.Gen.SsdOutIdeal.Frame
public import proofs.«01_k».proof.Proof.Gen.SsdOutRefIdeal
public import proofs.«01_k».proof.Proof.Gen.SsdOutRefIdeal.Run
public import proofs.«01_k».proof.Proof.Gen.SsdOutRefIdeal.Read
public import proofs.«01_k».proof.Proof.SsdOutValue
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.MergeValue
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.OutProjValue
public import proofs.«01_k».proof.Proof.Gen.RmsNorm
public import proofs.«01_k».proof.Proof.Gen.RmsNorm.Frame
public import proofs.«01_k».proof.Proof.Gen.RmsNormIdeal
public import proofs.«01_k».proof.Proof.Gen.RmsNormIdeal.Frame
public import proofs.«01_k».proof.Proof.Gen.RmsNormRefIdeal
public import proofs.«01_k».proof.Proof.Gen.RmsNormRefIdeal.Run
public import proofs.«01_k».proof.Proof.Gen.RmsNormRefIdeal.Read
public import proofs.«01_k».proof.Proof.RmsNormValue
public import proofs.«01_k».proof.Proof.Gen.GatedNorm
public import proofs.«01_k».proof.Proof.Gen.GatedNorm.Frame
public import proofs.«01_k».proof.Proof.Gen.GatedNormIdeal
public import proofs.«01_k».proof.Proof.Gen.GatedNormIdeal.Frame
public import proofs.«01_k».proof.Proof.Gen.GatedNormRefIdeal
public import proofs.«01_k».proof.Proof.Gen.GatedNormRefIdeal.Run
public import proofs.«01_k».proof.Proof.Gen.GatedNormRefIdeal.Read
public import proofs.«01_k».proof.Proof.GatedNormValue
public import proofs.«01_k».proof.Proof.Gen.ConvPrompt
public import proofs.«01_k».proof.Proof.Gen.ConvPrompt.Frame
public import proofs.«01_k».proof.Proof.Gen.ConvPromptIdeal
public import proofs.«01_k».proof.Proof.Gen.ConvPromptIdeal.Frame
public import proofs.«01_k».proof.Proof.Gen.ConvPromptRefIdeal
public import proofs.«01_k».proof.Proof.Gen.ConvPromptRefIdeal.Run
public import proofs.«01_k».proof.Proof.Gen.ConvPromptRefIdeal.Read
public import proofs.«01_k».proof.Proof.ConvPromptValue
public import proofs.«01_k».proof.Proof.Gen.ConvSample
public import proofs.«01_k».proof.Proof.Gen.ConvSample.Frame
public import proofs.«01_k».proof.Proof.Gen.ConvSampleIdeal
public import proofs.«01_k».proof.Proof.Gen.ConvSampleIdeal.Frame
public import proofs.«01_k».proof.Proof.Gen.ConvSampleRefIdeal
public import proofs.«01_k».proof.Proof.Gen.ConvSampleRefIdeal.Run
public import proofs.«01_k».proof.Proof.Gen.ConvSampleRefIdeal.Read
public import proofs.«01_k».proof.Proof.ConvSampleValue
public import proofs.«01_k».proof.Proof.Gen.CmpBias
public import proofs.«01_k».proof.Proof.Gen.CmpBias.Frame
public import proofs.«01_k».proof.Proof.Gen.CmpBiasIdeal
public import proofs.«01_k».proof.Proof.Gen.CmpBiasIdeal.Frame
public import proofs.«01_k».proof.Proof.Gen.CmpBiasRefIdeal
public import proofs.«01_k».proof.Proof.Gen.CmpBiasRefIdeal.Run
public import proofs.«01_k».proof.Proof.Gen.CmpBiasRefIdeal.Read
public import proofs.«01_k».proof.Proof.CmpBiasValue
public import proofs.«01_k».proof.Proof.Gen.WinOut
public import proofs.«01_k».proof.Proof.Gen.WinOut.Frame
public import proofs.«01_k».proof.Proof.Gen.WinOutIdeal
public import proofs.«01_k».proof.Proof.Gen.WinOutIdeal.Frame
public import proofs.«01_k».proof.Proof.Gen.WinOutRefIdeal
public import proofs.«01_k».proof.Proof.Gen.WinOutRefIdeal.Run
public import proofs.«01_k».proof.Proof.Gen.WinOutRefIdeal.Read
public import proofs.«01_k».proof.Proof.WinOutValue
public import proofs.«01_k».proof.Proof.Gen.Step
public import proofs.«01_k».proof.Proof.Gen.Step.Frame
public import proofs.«01_k».proof.Proof.Gen.StepIdeal
public import proofs.«01_k».proof.Proof.Gen.StepIdeal.Frame
public import proofs.«01_k».proof.Proof.Gen.StepRefIdeal
public import proofs.«01_k».proof.Proof.Gen.StepRefIdeal.Run
public import proofs.«01_k».proof.Proof.Gen.StepRefIdeal.Read
public import proofs.«01_k».proof.Proof.StepValue
public import proofs.«01_k».proof.Proof.Gen.Scan
public import proofs.«01_k».proof.Proof.Gen.Scan.Frame
public import proofs.«01_k».proof.Proof.Gen.ScanIdeal
public import proofs.«01_k».proof.Proof.Gen.ScanIdeal.Frame
public import proofs.«01_k».proof.Proof.Gen.ScanRefIdeal
public import proofs.«01_k».proof.Proof.Gen.ScanRefIdeal.Run
public import proofs.«01_k».proof.Proof.Gen.ScanRefIdeal.Read
public import proofs.«01_k».proof.Proof.ScanValue
public import Idealize.ShloMosaic.Lib.Claim
public import Idealize.ShloMosaic.Adequacy
public import Idealize.ShloMosaic.Init

@[expose] public section

noncomputable section

namespace Cert.Proof

open Idealize.ShloMosaic Idealize.SL.Sem

/-- The Router reference ends with its arguments unchanged and, having no semaphore, every counter at zero. -/
theorem frame_RouterRef : Cert.quiescent_RouterRefIdeal (hRouterRefIdeal := Cert.RouterRefIdeal.Gen.facts) := fun m ρ _ =>
  (θ_run Cert.RouterRefIdeal.defs _ _).mono (fun r h => ⟨fun c => (h c).2, Idealize.ShloMosaic.sem_eq_zero_of_no_sems (by decide) r.2⟩)
    (Cert.RouterRefIdeal.Value.run (F := Ideal) m ρ)

/-- The Moe reference ends with its arguments unchanged and, having no semaphore, every counter at zero. -/
theorem frame_MoeRef : Cert.quiescent_MoeRefIdeal (hMoeRefIdeal := Cert.MoeRefIdeal.Gen.facts) := fun m ρ _ =>
  (θ_run Cert.MoeRefIdeal.defs _ _).mono (fun r h => ⟨fun c => (h c).2, Idealize.ShloMosaic.sem_eq_zero_of_no_sems (by decide) r.2⟩)
    (Cert.MoeRefIdeal.Value.run (F := Ideal) m ρ)

/-- The InProj reference ends with its arguments unchanged and, having no semaphore, every counter at zero. -/
theorem frame_InProjRef : Cert.quiescent_InProjRefIdeal (hInProjRefIdeal := Cert.InProjRefIdeal.Gen.facts) := fun m ρ _ =>
  (θ_run Cert.InProjRefIdeal.defs _ _).mono (fun r h => ⟨fun c => (h c).2, Idealize.ShloMosaic.sem_eq_zero_of_no_sems (by decide) r.2⟩)
    (Cert.InProjRefIdeal.Value.run (F := Ideal) m ρ)

/-- The SsdOut reference ends with its arguments unchanged and, having no semaphore, every counter at zero. -/
theorem frame_SsdOutRef : Cert.quiescent_SsdOutRefIdeal (hSsdOutRefIdeal := Cert.SsdOutRefIdeal.Gen.facts) := fun m ρ _ =>
  (θ_run Cert.SsdOutRefIdeal.defs _ _).mono (fun r h => ⟨fun c => (h c).2, Idealize.ShloMosaic.sem_eq_zero_of_no_sems (by decide) r.2⟩)
    (Cert.SsdOutRefIdeal.Value.run (F := Ideal) m ρ)

/-- The Merge reference ends with its arguments unchanged and, having no semaphore, every counter at zero. -/
theorem frame_MergeRef : Cert.quiescent_MergeRefIdeal (hMergeRefIdeal := Cert.MergeRefIdeal.Gen.facts) := fun m ρ _ =>
  (θ_run Cert.MergeRefIdeal.defs _ _).mono (fun r h => ⟨fun c => (h c).2, Idealize.ShloMosaic.sem_eq_zero_of_no_sems (by decide) r.2⟩)
    (Cert.MergeRefIdeal.Value.run (F := Ideal) m ρ)

/-- The OutProj reference ends with its arguments unchanged and, having no semaphore, every counter at zero. -/
theorem frame_OutProjRef : Cert.quiescent_OutProjRefIdeal (hOutProjRefIdeal := Cert.OutProjRefIdeal.Gen.facts) := fun m ρ _ =>
  (θ_run Cert.OutProjRefIdeal.defs _ _).mono (fun r h => ⟨fun c => (h c).2, Idealize.ShloMosaic.sem_eq_zero_of_no_sems (by decide) r.2⟩)
    (Cert.OutProjRefIdeal.Value.run (F := Ideal) m ρ)

/-- The RmsNorm reference ends with its arguments unchanged and, having no semaphore, every counter at zero. -/
theorem frame_RmsNormRef : Cert.quiescent_RmsNormRefIdeal (hRmsNormRefIdeal := Cert.RmsNormRefIdeal.Gen.facts) := fun m ρ _ =>
  (θ_run Cert.RmsNormRefIdeal.defs _ _).mono (fun r h => ⟨fun c => (h c).2, Idealize.ShloMosaic.sem_eq_zero_of_no_sems (by decide) r.2⟩)
    (Cert.RmsNormRefIdeal.Value.run (F := Ideal) m ρ)

/-- The GatedNorm reference ends with its arguments unchanged and, having no semaphore, every counter at zero. -/
theorem frame_GatedNormRef : Cert.quiescent_GatedNormRefIdeal (hGatedNormRefIdeal := Cert.GatedNormRefIdeal.Gen.facts) := fun m ρ _ =>
  (θ_run Cert.GatedNormRefIdeal.defs _ _).mono (fun r h => ⟨fun c => (h c).2, Idealize.ShloMosaic.sem_eq_zero_of_no_sems (by decide) r.2⟩)
    (Cert.GatedNormRefIdeal.Value.run (F := Ideal) m ρ)

/-- The ConvPrompt reference ends with its arguments unchanged and, having no semaphore, every counter at zero. -/
theorem frame_ConvPromptRef : Cert.quiescent_ConvPromptRefIdeal (hConvPromptRefIdeal := Cert.ConvPromptRefIdeal.Gen.facts) := fun m ρ _ =>
  (θ_run Cert.ConvPromptRefIdeal.defs _ _).mono (fun r h => ⟨fun c => (h c).2, Idealize.ShloMosaic.sem_eq_zero_of_no_sems (by decide) r.2⟩)
    (Cert.ConvPromptRefIdeal.Value.run (F := Ideal) m ρ)

/-- The ConvSample reference ends with its arguments unchanged and, having no semaphore, every counter at zero. -/
theorem frame_ConvSampleRef : Cert.quiescent_ConvSampleRefIdeal (hConvSampleRefIdeal := Cert.ConvSampleRefIdeal.Gen.facts) := fun m ρ _ =>
  (θ_run Cert.ConvSampleRefIdeal.defs _ _).mono (fun r h => ⟨fun c => (h c).2, Idealize.ShloMosaic.sem_eq_zero_of_no_sems (by decide) r.2⟩)
    (Cert.ConvSampleRefIdeal.Value.run (F := Ideal) m ρ)

/-- The CmpBias reference ends with its arguments unchanged and, having no semaphore, every counter at zero. -/
theorem frame_CmpBiasRef : Cert.quiescent_CmpBiasRefIdeal (hCmpBiasRefIdeal := Cert.CmpBiasRefIdeal.Gen.facts) := fun m ρ _ =>
  (θ_run Cert.CmpBiasRefIdeal.defs _ _).mono (fun r h => ⟨fun c => (h c).2, Idealize.ShloMosaic.sem_eq_zero_of_no_sems (by decide) r.2⟩)
    (Cert.CmpBiasRefIdeal.Value.run (F := Ideal) m ρ)

/-- The WinOut reference ends with its arguments unchanged and, having no semaphore, every counter at zero. -/
theorem frame_WinOutRef : Cert.quiescent_WinOutRefIdeal (hWinOutRefIdeal := Cert.WinOutRefIdeal.Gen.facts) := fun m ρ _ =>
  (θ_run Cert.WinOutRefIdeal.defs _ _).mono (fun r h => ⟨fun c => (h c).2, Idealize.ShloMosaic.sem_eq_zero_of_no_sems (by decide) r.2⟩)
    (Cert.WinOutRefIdeal.Value.run (F := Ideal) m ρ)

/-- The Step reference ends with its arguments unchanged and, having no semaphore, every counter at zero. -/
theorem frame_StepRef : Cert.quiescent_StepRefIdeal (hStepRefIdeal := Cert.StepRefIdeal.Gen.facts) := fun m ρ _ =>
  (θ_run Cert.StepRefIdeal.defs _ _).mono (fun r h => ⟨fun c => (h c).2.2, Idealize.ShloMosaic.sem_eq_zero_of_no_sems (by decide) r.2⟩)
    (Cert.StepRefIdeal.Value.run (F := Ideal) m ρ)

/-- The Scan reference ends with its arguments unchanged and, having no semaphore, every counter at zero. -/
theorem frame_ScanRef : Cert.quiescent_ScanRefIdeal (hScanRefIdeal := Cert.ScanRefIdeal.Gen.facts) := fun m ρ _ =>
  (θ_run Cert.ScanRefIdeal.defs _ _).mono (fun r h => ⟨fun c => (h c).2, Idealize.ShloMosaic.sem_eq_zero_of_no_sems (by decide) r.2⟩)
    (Cert.ScanRefIdeal.Value.run (F := Ideal) m ρ)

/-- Every claim of the certificate. -/
theorem claim : Cert.Claim := ⟨Cert.Router.Gen.facts, Cert.RouterIdeal.Gen.facts, Cert.RouterRefIdeal.Gen.facts, Cert.Moe.Gen.facts, Cert.MoeIdeal.Gen.facts, Cert.MoeRefIdeal.Gen.facts, Cert.InProj.Gen.facts, Cert.InProjIdeal.Gen.facts, Cert.InProjRefIdeal.Gen.facts, Cert.SsdOut.Gen.facts, Cert.SsdOutIdeal.Gen.facts, Cert.SsdOutRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.RmsNorm.Gen.facts, Cert.RmsNormIdeal.Gen.facts, Cert.RmsNormRefIdeal.Gen.facts, Cert.GatedNorm.Gen.facts, Cert.GatedNormIdeal.Gen.facts, Cert.GatedNormRefIdeal.Gen.facts, Cert.ConvPrompt.Gen.facts, Cert.ConvPromptIdeal.Gen.facts, Cert.ConvPromptRefIdeal.Gen.facts, Cert.ConvSample.Gen.facts, Cert.ConvSampleIdeal.Gen.facts, Cert.ConvSampleRefIdeal.Gen.facts, Cert.CmpBias.Gen.facts, Cert.CmpBiasIdeal.Gen.facts, Cert.CmpBiasRefIdeal.Gen.facts, Cert.WinOut.Gen.facts, Cert.WinOutIdeal.Gen.facts, Cert.WinOutRefIdeal.Gen.facts, Cert.Step.Gen.facts, Cert.StepIdeal.Gen.facts, Cert.StepRefIdeal.Gen.facts, Cert.Scan.Gen.facts, Cert.ScanIdeal.Gen.facts, Cert.ScanRefIdeal.Gen.facts, Cert.Pre_finite_steps.Gen.facts, Cert.Pre_finite_decays.Gen.facts,
  fun m ρ _ => Cert.Router.Gen.frame m ρ,
  fun m ρ _ => Cert.RouterIdeal.Gen.frame m ρ,
  frame_RouterRef,
  fun m ρ _ => Cert.Moe.Gen.frame m ρ,
  fun m ρ _ => Cert.MoeIdeal.Gen.frame m ρ,
  frame_MoeRef,
  fun m ρ _ => Cert.InProj.Gen.frame m ρ,
  fun m ρ _ => Cert.InProjIdeal.Gen.frame m ρ,
  frame_InProjRef,
  fun m ρ _ => Cert.SsdOut.Gen.frame m ρ,
  fun m ρ _ => Cert.SsdOutIdeal.Gen.frame m ρ,
  frame_SsdOutRef,
  fun m ρ _ => Cert.Merge.Gen.frame m ρ,
  fun m ρ _ => Cert.MergeIdeal.Gen.frame m ρ,
  frame_MergeRef,
  fun m ρ _ => Cert.OutProj.Gen.frame m ρ,
  fun m ρ _ => Cert.OutProjIdeal.Gen.frame m ρ,
  frame_OutProjRef,
  fun m ρ _ => Cert.RmsNorm.Gen.frame m ρ,
  fun m ρ _ => Cert.RmsNormIdeal.Gen.frame m ρ,
  frame_RmsNormRef,
  fun m ρ _ => Cert.GatedNorm.Gen.frame m ρ,
  fun m ρ _ => Cert.GatedNormIdeal.Gen.frame m ρ,
  frame_GatedNormRef,
  fun m ρ _ => Cert.ConvPrompt.Gen.frame m ρ,
  fun m ρ _ => Cert.ConvPromptIdeal.Gen.frame m ρ,
  frame_ConvPromptRef,
  fun m ρ _ => Cert.ConvSample.Gen.frame m ρ,
  fun m ρ _ => Cert.ConvSampleIdeal.Gen.frame m ρ,
  frame_ConvSampleRef,
  fun m ρ _ => Cert.CmpBias.Gen.frame m ρ,
  fun m ρ _ => Cert.CmpBiasIdeal.Gen.frame m ρ,
  frame_CmpBiasRef,
  fun m ρ _ => Cert.WinOut.Gen.frame m ρ,
  fun m ρ _ => Cert.WinOutIdeal.Gen.frame m ρ,
  frame_WinOutRef,
  fun m ρ _ => Cert.Step.Gen.frame m ρ,
  fun m ρ _ => Cert.StepIdeal.Gen.frame m ρ,
  fun m ρ _ => Cert.StepIdeal.Gen.frame m ρ,
  frame_StepRef,
  fun m ρ _ => frame_StepRef m ρ trivial,
  fun m ρ _ => Cert.Scan.Gen.frame m ρ,
  fun m ρ _ => Cert.ScanIdeal.Gen.frame m ρ,
  fun m ρ _ => Cert.ScanIdeal.Gen.frame m ρ,
  frame_ScanRef,
  fun m ρ _ => frame_ScanRef m ρ trivial,
  IdealRules.named_const.statement Cert.RouterIdeal.κ "mask" .f32 0xF149F2CA#32 ⊥ rfl,
  trivial,
  Cert.moe_equal,
  trivial,
  Cert.inProj_equal,
  trivial,
  Cert.ssdOut_equal,
  trivial,
  Cert.merge_equal,
  trivial,
  Cert.outProj_equal,
  trivial,
  Cert.rmsNorm_equal,
  trivial,
  Cert.gatedNorm_equal,
  trivial,
  Cert.convPrompt_equal,
  trivial,
  Cert.convSample_equal,
  trivial,
  Cert.cmpBias_equal,
  trivial,
  Cert.winOut_equal,
  trivial,
  Cert.step_equal,
  IdealRules.named_const.statement Cert.ScanIdeal.κ "mask" .f32 0xF149F2CA#32 ⊥ rfl,
  Cert.scan_equal⟩

end Cert.Proof

end
